-- ==== Defs.lean ====
def Pre_Kernel [hPre_dst_in_rows : Cert.Pre_dst_in_rows.Facts] (m : (ℓ : Loc Cert.Kernel.nD Cert.Kernel.τ Cert.Kernel.sig) → Buf (Elt Bits) ℓ) : Prop :=
  ∀ c : Dev Cert.Kernel.nD,
    (Cert.Pre_dst_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_dst_in_rows : Cert.Pre_dst_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_dst_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_dst_in_rows [hPre_dst_in_rows : Cert.Pre_dst_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dst_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_dst_in_rows : Cert.Pre_dst_in_rows.Facts] (m : (ℓ : Loc Cert.Reference.nD Cert.Reference.τ Cert.Reference.sig) → Buf (Elt Bits) ℓ) : Prop :=
  ∀ c : Dev Cert.Reference.nD,
    (Cert.Pre_dst_in_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_dst_in_rows : Cert.Pre_dst_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_dst_in_rows : Cert.Pre_dst_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_dst_in_rows [hReferenceIdeal : Cert.ReferenceIdeal.Facts] [hPre_dst_in_rows : Cert.Pre_dst_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_dst_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_dst_in_rows : Cert.Pre_dst_in_rows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def bitexact_Kernel_Reference [hKernel : Cert.Kernel.Facts] [hReference : Cert.Reference.Facts] [hPre_dst_in_rows : Cert.Pre_dst_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v7) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def algebraic_KernelIdeal_ReferenceIdeal [hKernelIdeal : Cert.KernelIdeal.Facts] [hReferenceIdeal : Cert.ReferenceIdeal.Facts] [hPre_dst_in_rows : Cert.Pre_dst_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v61) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v61)) (v1 : (c : Dev Cert.Kernel4Ideal.nD) → Buf (Elt Ideal) ((c.tc : Thread Cert.Kernel4Ideal.nD Cert.Kernel4Ideal.τ).loc Cert.Kernel4Ideal.main_v63)) (v2 : (c : Dev Cert.Kernel4Ideal.nD) → Buf (Elt Ideal) ((c.tc : Thread Cert.Kernel4Ideal.nD Cert.Kernel4Ideal.τ).loc Cert.Kernel4Ideal.main_v67)) (v3 : (c : Dev Cert.Kernel4Ideal.nD) → Buf (Elt Ideal) ((c.tc : Thread Cert.Kernel4Ideal.nD Cert.Kernel4Ideal.τ).loc Cert.Kernel4Ideal.main_v71)) (v4 : (c : Dev Cert.Kernel4Ideal.nD) → Buf (Elt Ideal) ((c.tc : Thread Cert.Kernel4Ideal.nD Cert.Kernel4Ideal.τ).loc Cert.Kernel4Ideal.main_v74)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v61) = v0 c
          ∧ r.2.mem ((c.tc : Thread Cert.Kernel4Ideal.nD Cert.Kernel4Ideal.τ).loc Cert.Kernel4Ideal.main_v63) = v1 c
          ∧ r.2.mem ((c.tc : Thread Cert.Kernel4Ideal.nD Cert.Kernel4Ideal.τ).loc Cert.Kernel4Ideal.main_v67) = v2 c
          ∧ r.2.mem ((c.tc : Thread Cert.Kernel4Ideal.nD Cert.Kernel4Ideal.τ).loc Cert.Kernel4Ideal.main_v71) = v3 c
          ∧ r.2.mem ((c.tc : Thread Cert.Kernel4Ideal.nD Cert.Kernel4Ideal.τ).loc Cert.Kernel4Ideal.main_v74) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v56) = v0 c
          ∧ r.2.mem ((c.tc : Thread Cert.Reference4Ideal.nD Cert.Reference4Ideal.τ).loc Cert.Reference4Ideal.main_v3) = v1 c
          ∧ r.2.mem ((c.tc : Thread Cert.Reference4Ideal.nD Cert.Reference4Ideal.τ).loc Cert.Reference4Ideal.main_v58) = v2 c
          ∧ r.2.mem ((c.tc : Thread Cert.Reference4Ideal.nD Cert.Reference4Ideal.τ).loc Cert.Reference4Ideal.main_v5) = v3 c
          ∧ r.2.mem ((c.tc : Thread Cert.Reference4Ideal.nD Cert.Reference4Ideal.τ).loc Cert.Reference4Ideal.main_v6) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_dst_in_rows : Cert.Pre_dst_in_rows.Facts),
    quiescent_Kernel (hKernel := hKernel) (hPre_dst_in_rows := hPre_dst_in_rows)
    ∧ quiescent_KernelIdeal (hKernelIdeal := hKernelIdeal) (hPre_dst_in_rows := hPre_dst_in_rows)
    ∧ quiescent_ReferenceIdeal (hReferenceIdeal := hReferenceIdeal)
    ∧ quiescent_ReferenceIdeal_pre_dst_in_rows (hReferenceIdeal := hReferenceIdeal) (hPre_dst_in_rows := hPre_dst_in_rows)
    ∧ quiescent_Reference (hReference := hReference) (hPre_dst_in_rows := hPre_dst_in_rows)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ bitexact_Kernel_Reference (hKernel := hKernel) (hReference := hReference) (hPre_dst_in_rows := hPre_dst_in_rows)
    ∧ algebraic_KernelIdeal_ReferenceIdeal (hKernelIdeal := hKernelIdeal) (hReferenceIdeal := hReferenceIdeal) (hPre_dst_in_rows := hPre_dst_in_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_dst_in_rows.lean ====
abbrev S524544x128 : Shape := ⟨2, ![524544, 128]⟩
abbrev S3x131072 : Shape := ⟨2, ![3, 131072]⟩
abbrev S_ : Shape := ⟨0, ![]⟩

class Facts : Prop where
  bcast_S_S3x131072 : S_.BroadcastsInDim S3x131072 (![] : Fin 0 → Fin S3x131072.rank)

variable [Facts]

def fn {F : FTy → Type} [FloatOps F] (main_arg0 : FVec F S524544x128 .f32) (main_arg1 : IVec S3x131072 32) : IVec S3x131072 1 :=
  let main_c : IVec S_ 32 := constantI S_ 32 0#32
  let main_v0 : IVec S3x131072 32 := broadcastInDim S3x131072 ![] bcast_S_S3x131072 main_c
  let main_v1 : IVec S3x131072 1 := cmpi .sge main_arg1 main_v0
  let main_c_0 : IVec S_ 32 := constantI S_ 32 524544#32
  let main_v2 : IVec S3x131072 32 := broadcastInDim S3x131072 ![] bcast_S_S3x131072 main_c_0
  let main_v3 : IVec S3x131072 1 := cmpi .slt main_arg1 main_v2
  let main_v4 : IVec S3x131072 1 := andi main_v1 main_v3
  main_v4
-- ==== Kernel.lean ====
abbrev S524544x128 : Shape := ⟨2, ![524544, 128]⟩
abbrev S3x131072 : Shape := ⟨2, ![3, 131072]⟩
abbrev S1x393216 : Shape := ⟨2, ![1, 393216]⟩
abbrev S393216x128 : Shape := ⟨2, ![393216, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x128 : Shape := ⟨3, ![1, 128, 128]⟩
abbrev S128x128 : Shape := ⟨2, ![128, 128]⟩
abbrev S128 : Shape := ⟨1, ![128]⟩

abbrev nBuf : Table → Nat
  | .hbm => 4
  | .local .scVector .vmem => 2
  | _ => 0

abbrev bufTy : (tb : Table) → Fin (nBuf tb) → BufTy
  | .hbm, ⟨0, _⟩ => ⟨S524544x128, .f32⟩
  | .hbm, ⟨1, _⟩ => ⟨S3x131072, .i32⟩
  | .hbm, ⟨2, _⟩ => ⟨S1x393216, .i32⟩
  | .hbm, ⟨3, _⟩ => ⟨S393216x128, .f32⟩
  | .local .scVector .vmem, ⟨0, _⟩ => ⟨S2x1x128, .i32⟩
  | .local .scVector .vmem, ⟨1, _⟩ => ⟨S2x128x128, .f32⟩
  | _, _ => ⟨S524544x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c96_i32 : BitVec 32 := 96#32
  let v4 : BitVec 32 := Scalar.muli v3 c96_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c96_i32_27_r0 : BitVec 32 := 96#32
  let v32_r0 : BitVec 32 := Scalar.addi c0_i32_26_r0 c96_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c96_i32 : BitVec 32 := 96#32
  let v4 : BitVec 32 := Scalar.muli v3 c96_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c96_i32_62_r0 : BitVec 32 := 96#32
  let v74_r0 : BitVec 1 := Scalar.cmpi .eq v73_r0 c96_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c95_i32_68_r0 : BitVec 32 := 95#32
  let v83_r0 : BitVec 1 := Scalar.cmpi .sge arg5_r0 c95_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c96_i32_62_r0 : BitVec 32 := 96#32
  let v74_r0 : BitVec 1 := Scalar.cmpi .eq v73_r0 c96_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c96_i32 : BitVec 32 := 96#32
  let v4 : BitVec 32 := Scalar.muli v3 c96_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c96_i32 : BitVec 32 := 96#32
  let v4 : BitVec 32 := Scalar.muli v3 c96_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c95_i32_59_r0 : BitVec 32 := 95#32
  let v70_r0 : BitVec 32 := Scalar.select v69_r0 c95_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c96_i32 : BitVec 32 := 96#32
  let v4 : BitVec 32 := Scalar.muli v3 c96_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c96_i32 : BitVec 32 := 96#32
  let v4 : BitVec 32 := Scalar.muli v3 c96_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c96_i32_62_r0 : BitVec 32 := 96#32
  let v74_r0 : BitVec 1 := Scalar.cmpi .eq v73_r0 c96_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c95_i32_55_r0 : BitVec 32 := 95#32
  let v65_r0 : BitVec 1 := Scalar.cmpi .eq arg5_r0 c95_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c96_i32 : BitVec 32 := 96#32
  let v4 : BitVec 32 := Scalar.muli v3 c96_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c96_i32 : BitVec 32 := 96#32
  let v4 : BitVec 32 := Scalar.muli v3 c96_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c95_i32_59_r0 : BitVec 32 := 95#32
  let v70_r0 : BitVec 32 := Scalar.select v69_r0 c95_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c95_i32_59_r0 : BitVec 32 := 95#32
  let v70_r0 : BitVec 32 := Scalar.select v69_r0 c95_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c96_i32 : BitVec 32 := 96#32
  let v4 : BitVec 32 := Scalar.muli v3 c96_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x393216.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x393216.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S393216x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S393216x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x393216.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x393216.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S393216x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S393216x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c95_i32_33_r0 : BitVec 32 := 95#32
  let v37_r0 : BitVec 32 := Scalar.select v36_r0 c95_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c96_i32 : BitVec 32 := 96#32
  let v4 : BitVec 32 := Scalar.muli v3 c96_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S393216x128.size a)
theorem k0_off19_inb : ∀ (i : grid0.Coords) (v33_4_r0 : BitVec 32) (k0_hw5 : k0_chk5 i v33_4_r0), ∀ a, (k0_off19 i v33_4_r0) a + S128x128.size a ≤ S393216x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S524544x128 : Shape := ⟨2, ![524544, 128]⟩
abbrev S3x131072 : Shape := ⟨2, ![3, 131072]⟩
abbrev S393216 : Shape := ⟨1, ![393216]⟩
abbrev S_ : Shape := ⟨0, ![]⟩
abbrev S393216x1 : Shape := ⟨2, ![393216, 1]⟩
abbrev S393216x128 : Shape := ⟨2, ![393216, 128]⟩

abbrev nBuf : Space → Nat
  | .hbm => 12
  | .vmem => 0
  | .smem => 0
  | _ => 0

abbrev bufTy : (tb : Table) → Fin (tcTables nBuf tb) → BufTy
  | .hbm, ⟨0, _⟩ => ⟨S524544x128, .f32⟩
  | .hbm, ⟨1, _⟩ => ⟨S3x131072, .i32⟩
  | .hbm, ⟨2, _⟩ => ⟨S393216, .i32⟩
  | .hbm, ⟨3, _⟩ => ⟨S_, .i32⟩
  | .hbm, ⟨4, _⟩ => ⟨S393216, .i32⟩
  | .hbm, ⟨5, _⟩ => ⟨S393216, .i1⟩
  | .hbm, ⟨6, _⟩ => ⟨S_, .i32⟩
  | .hbm, ⟨7, _⟩ => ⟨S393216, .i32⟩
  | .hbm, ⟨8, _⟩ => ⟨S393216, .i32⟩
  | .hbm, ⟨9, _⟩ => ⟨S393216, .i32⟩
  | .hbm, ⟨10, _⟩ => ⟨S393216x1, .i32⟩
  | .hbm, ⟨11, _⟩ => ⟨S393216x128, .f32⟩
  | _, _ => ⟨S524544x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel2.lean ====
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S32768x1024 : Shape := ⟨2, ![32768, 1024]⟩
abbrev S512x1024 : Shape := ⟨2, ![512, 1024]⟩
abbrev S1024x1408 : Shape := ⟨2, ![1024, 1408]⟩
abbrev S512x1408 : Shape := ⟨2, ![512, 1408]⟩
abbrev S1408x1024 : Shape := ⟨2, ![1408, 1024]⟩
abbrev S512 : Shape := ⟨1, ![512]⟩
abbrev S512x1 : Shape := ⟨2, ![512, 1]⟩

abbrev nBuf : Space → Nat
  | .hbm => 14
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S32768x1024, .f32⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1024x2816, .bf16⟩
  | .local _ .vmem, ⟨12, _⟩ => ⟨S1024x2816, .bf16⟩
  | .local _ .vmem, ⟨13, _⟩ => ⟨S2816x1024, .bf16⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x2816 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x2816 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2816x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== Reference2Ideal.lean ====
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S32768x1024 : Shape := ⟨2, ![32768, 1024]⟩
abbrev S_ : Shape := ⟨0, ![]⟩
abbrev S32768x2816 : Shape := ⟨2, ![32768, 2816]⟩
abbrev S32768 : Shape := ⟨1, ![32768]⟩
abbrev S32768x1 : Shape := ⟨2, ![32768, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S32768x1024, .f32⟩
  | .hbm, ⟨8, _⟩ => ⟨S_, .f32⟩
  | .hbm, ⟨9, _⟩ => ⟨S32768x1024, .f32⟩
  | .hbm, ⟨10, _⟩ => ⟨S32768x1024, .f32⟩
  | .hbm, ⟨11, _⟩ => ⟨S32768x2816, .f32⟩
  | .hbm, ⟨12, _⟩ => ⟨S32768x2816, .f32⟩
  | .hbm, ⟨13, _⟩ => ⟨S32768x2816, .f32⟩
  | .hbm, ⟨14, _⟩ => ⟨S_, .f32⟩
  | .hbm, ⟨15, _⟩ => ⟨S32768x2816, .f32⟩
  | .hbm, ⟨16, _⟩ => ⟨S32768x2816, .f32⟩
  | .hbm, ⟨17, _⟩ => ⟨S_, .f32⟩
  | .hbm, ⟨18, _⟩ => ⟨S32768x2816, .f32⟩
  | .hbm, ⟨19, _⟩ => ⟨S32768x2816, .f32⟩
  | .hbm, ⟨20, _⟩ => ⟨S32768x2816, .f32⟩
  | .hbm, ⟨21, _⟩ => ⟨S32768x2816, .f32⟩
  | .hbm, ⟨22, _⟩ => ⟨S32768x2816, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S32768x1024, .f32⟩
  | .hbm, ⟨41, _⟩ => ⟨S32768x1024, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S32768x1024, .f32⟩
  | .hbm, ⟨47, _⟩ => ⟨S32768x1024, .f32⟩
  | .hbm, ⟨48, _⟩ => ⟨S1x1024, .f32⟩
  | .hbm, ⟨49, _⟩ => ⟨S32768x1024, .f32⟩
  | .hbm, ⟨50, _⟩ => ⟨S32768x1024, .f32⟩
  | .hbm, ⟨51, _⟩ => ⟨S1x1024, .f32⟩
  | .hbm, ⟨52, _⟩ => ⟨S32768x1024, .f32⟩
  | .hbm, ⟨53, _⟩ => ⟨S32768x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩

abbrev nD : Nat := 1
abbrev τ : Topo := Topo.v7x

variable {F : FTy → Type} [FloatOps F]
-- ==== Kernel3.lean ====
abbrev S16384x1024 : Shape := ⟨2, ![16384, 1024]⟩
abbrev S16384x512 : Shape := ⟨2, ![16384, 512]⟩
abbrev S1024x6144 : Shape := ⟨2, ![1024, 6144]⟩
abbrev S512x1024 : Shape := ⟨2, ![512, 1024]⟩
abbrev S512x512 : Shape := ⟨2, ![512, 512]⟩
abbrev S512 : Shape := ⟨1, ![512]⟩
abbrev S1024x1024 : Shape := ⟨2, ![1024, 1024]⟩
abbrev S1024 : Shape := ⟨1, ![1024]⟩
abbrev S1024x3072 : Shape := ⟨2, ![1024, 3072]⟩
abbrev S1x512 : Shape := ⟨2, ![1, 512]⟩
abbrev S1x1024 : Shape := ⟨2, ![1, 1024]⟩
abbrev S128x128x512 : Shape := ⟨3, ![128, 128, 512]⟩
abbrev S128x512x128 : Shape := ⟨3, ![128, 512, 128]⟩
abbrev S4x512x128 : Shape := ⟨3, ![4, 512, 128]⟩
abbrev S1x512x128 : Shape := ⟨3, ![1, 512, 128]⟩
abbrev S512x128 : Shape := ⟨2, ![512, 128]⟩
abbrev S128x512 : Shape := ⟨2, ![128, 512]⟩
abbrev S512x1 : Shape := ⟨2, ![512, 1]⟩

abbrev nBuf : Space → Nat
  | .hbm => 28
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S1024x6144, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x512, .f32⟩
  | .hbm, ⟨9, _⟩ => ⟨S512, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024x3072, .f32⟩
  | .hbm, ⟨14, _⟩ => ⟨S1024x3072, .bf16⟩
  | .hbm, ⟨15, _⟩ => ⟨S512x1024, .bf16⟩
  | .hbm, ⟨16, _⟩ => ⟨S512x1024, .bf16⟩
  | .hbm, ⟨17, _⟩ => ⟨S512x1024, .bf16⟩
  | .hbm, ⟨18, _⟩ => ⟨S512x512, .bf16⟩
  | .hbm, ⟨19, _⟩ => ⟨S1x512, .f32⟩
  | .hbm, ⟨20, _⟩ => ⟨S1024x1024, .bf16⟩
  | .hbm, ⟨21, _⟩ => ⟨S1x1024, .f32⟩
  | .hbm, ⟨22, _⟩ => ⟨S1x1024, .f32⟩
  | .hbm, ⟨23, _⟩ => ⟨S128x128x512, .f32⟩
  | .hbm, ⟨24, _⟩ => ⟨S128x512x128, .f32⟩
  | .hbm, ⟨25, _⟩ => ⟨S16384x512, .bf16⟩
  | .hbm, ⟨26, _⟩ => ⟨S16384x512, .bf16⟩
  | .hbm, ⟨27, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S4x512x128, .f32⟩
  | .local _ .vmem, ⟨5, _⟩ => ⟨S4x512x128, .f32⟩
  | .local _ .vmem, ⟨6, _⟩ => ⟨S512x512, .bf16⟩
  | .local _ .vmem, ⟨7, _⟩ => ⟨S512x512, .bf16⟩
  | .local _ .vmem, ⟨8, _⟩ => ⟨S1024x3072, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x512, .bf16⟩
  | .local _ .vmem, ⟨13, _⟩ => ⟨S1x512, .f32⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S16384x1024 : Shape := ⟨2, ![16384, 1024]⟩
abbrev S16384x512 : Shape := ⟨2, ![16384, 512]⟩
abbrev S1024x6144 : Shape := ⟨2, ![1024, 6144]⟩
abbrev S512x1024 : Shape := ⟨2, ![512, 1024]⟩
abbrev S512x512 : Shape := ⟨2, ![512, 512]⟩
abbrev S512 : Shape := ⟨1, ![512]⟩
abbrev S1024x1024 : Shape := ⟨2, ![1024, 1024]⟩
abbrev S1024 : Shape := ⟨1, ![1024]⟩
abbrev S16384x6144 : Shape := ⟨2, ![16384, 6144]⟩
abbrev S16384x3072 : Shape := ⟨2, ![16384, 3072]⟩
abbrev S1x512 : Shape := ⟨2, ![1, 512]⟩
abbrev S_ : Shape := ⟨0, ![]⟩
abbrev S16384x3x1024 : Shape := ⟨3, ![16384, 3, 1024]⟩
abbrev S16384x1x1024 : Shape := ⟨3, ![16384, 1, 1024]⟩
abbrev S16384 : Shape := ⟨1, ![16384]⟩
abbrev S16384x1 : Shape := ⟨2, ![16384, 1]⟩
abbrev S1x1024 : Shape := ⟨2, ![1, 1024]⟩

abbrev nBuf : Space → Nat
  | .hbm => 85
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S1024x6144, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x512, .f32⟩
  | .hbm, ⟨9, _⟩ => ⟨S512, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S16384x6144, .f32⟩
  | .hbm, ⟨14, _⟩ => ⟨S16384x3072, .f32⟩
  | .hbm, ⟨15, _⟩ => ⟨S16384x512, .f32⟩
  | .hbm, ⟨16, _⟩ => ⟨S1x512, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S_, .f32⟩
  | .hbm, ⟨22, _⟩ => ⟨S16384x512, .f32⟩
  | .hbm, ⟨23, _⟩ => ⟨S16384x512, .f32⟩
  | .hbm, ⟨24, _⟩ => ⟨S_, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x3072, .f32⟩
  | .hbm, ⟨29, _⟩ => ⟨S16384x3072, .f32⟩
  | .hbm, ⟨30, _⟩ => ⟨S_, .f32⟩
  | .hbm, ⟨31, _⟩ => ⟨S16384x3072, .f32⟩
  | .hbm, ⟨32, _⟩ => ⟨S16384x3072, .f32⟩
  | .hbm, ⟨33, _⟩ => ⟨S_, .f32⟩
  | .hbm, ⟨34, _⟩ => ⟨S16384x3072, .f32⟩
  | .hbm, ⟨35, _⟩ => ⟨S16384x3072, .f32⟩
  | .hbm, ⟨36, _⟩ => ⟨S16384x3x1024, .f32⟩
  | .hbm, ⟨37, _⟩ => ⟨S16384x1x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S16384, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S16384x1, .f32⟩
  | .hbm, ⟨75, _⟩ => ⟨S16384x1, .f32⟩
  | .hbm, ⟨76, _⟩ => ⟨S16384x1, .f32⟩
  | .hbm, ⟨77, _⟩ => ⟨S16384x1024, .f32⟩
  | .hbm, ⟨78, _⟩ => ⟨S16384x1024, .f32⟩
  | .hbm, ⟨79, _⟩ => ⟨S1x1024, .f32⟩
  | .hbm, ⟨80, _⟩ => ⟨S16384x1024, .f32⟩
  | .hbm, ⟨81, _⟩ => ⟨S16384x1024, .f32⟩
  | .hbm, ⟨82, _⟩ => ⟨S1x1024, .f32⟩
  | .hbm, ⟨83, _⟩ => ⟨S16384x1024, .f32⟩
  | .hbm, ⟨84, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_4 : Ref sig .tc := ⟨.hbm, 56, rfl⟩
abbrev main_v38 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_6 : Ref sig .tc := ⟨.hbm, 65, rfl⟩
abbrev main_v45 : Ref sig .tc := ⟨.hbm, 66, rfl⟩
abbrev main_v46 : Ref sig .tc := ⟨.hbm, 67, rfl⟩
abbrev main_cst_7 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_8 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]
-- ==== Kernel4.lean ====
abbrev S16384x1024 : Shape := ⟨2, ![16384, 1024]⟩
abbrev S1024x6144 : Shape := ⟨2, ![1024, 6144]⟩
abbrev S512 : Shape := ⟨1, ![512]⟩
abbrev S4x128x128 : Shape := ⟨3, ![4, 128, 128]⟩
abbrev S4x128 : Shape := ⟨2, ![4, 128]⟩
abbrev S8 : Shape := ⟨1, ![8]⟩
abbrev S_ : Shape := ⟨0, ![]⟩
abbrev S256 : Shape := ⟨1, ![256]⟩
abbrev S256x8x128 : Shape := ⟨3, ![256, 8, 128]⟩
abbrev S1 : Shape := ⟨1, ![1]⟩
abbrev S256x8 : Shape := ⟨2, ![256, 8]⟩
abbrev S256x1 : Shape := ⟨2, ![256, 1]⟩
abbrev S1x8 : Shape := ⟨2, ![1, 8]⟩
abbrev S8x1 : Shape := ⟨2, ![8, 1]⟩
abbrev S8x256 : Shape := ⟨2, ![8, 256]⟩
abbrev S256x1024 : Shape := ⟨2, ![256, 1024]⟩
abbrev S1024x1024 : Shape := ⟨2, ![1024, 1024]⟩
abbrev S1024x512 : Shape := ⟨2, ![1024, 512]⟩
abbrev S512x1024 : Shape := ⟨2, ![512, 1024]⟩
abbrev S1x512 : Shape := ⟨2, ![1, 512]⟩
abbrev S128x4 : Shape := ⟨2, ![128, 4]⟩
abbrev S16384x512 : Shape := ⟨2, ![16384, 512]⟩
abbrev S128x512x128 : Shape := ⟨3, ![128, 512, 128]⟩
abbrev S1x8x16384x128 : Shape := ⟨4, ![1, 8, 16384, 128]⟩
abbrev S1x512x16384 : Shape := ⟨3, ![1, 512, 16384]⟩
abbrev S1x3x8x16384 : Shape := ⟨4, ![1, 3, 8, 16384]⟩
abbrev S1x8x64x256 : Shape := ⟨4, ![1, 8, 64, 256]⟩
abbrev S256x512 : Shape := ⟨2, ![256, 512]⟩
abbrev S2x512x128 : Shape := ⟨3, ![2, 512, 128]⟩
abbrev S1x8x256x128 : Shape := ⟨4, ![1, 8, 256, 128]⟩
abbrev S1x512x256 : Shape := ⟨3, ![1, 512, 256]⟩
abbrev S1x3x8x256 : Shape := ⟨4, ![1, 3, 8, 256]⟩
abbrev S64x1024 : Shape := ⟨2, ![64, 1024]⟩
abbrev S8x64x256 : Shape := ⟨3, ![8, 64, 256]⟩
abbrev S128x128 : Shape := ⟨2, ![128, 128]⟩
abbrev S1x128x128 : Shape := ⟨3, ![1, 128, 128]⟩
abbrev S128x1 : Shape := ⟨2, ![128, 1]⟩
abbrev S512x256 : Shape := ⟨2, ![512, 256]⟩
abbrev S512x128 : Shape := ⟨2, ![512, 128]⟩
abbrev S1x512x128 : Shape := ⟨3, ![1, 512, 128]⟩
abbrev S1x128 : Shape := ⟨2, ![1, 128]⟩
abbrev S256x128 : Shape := ⟨2, ![256, 128]⟩
abbrev S1x1x256x128 : Shape := ⟨4, ![1, 1, 256, 128]⟩
abbrev S128 : Shape := ⟨1, ![128]⟩
abbrev S1x1024 : Shape := ⟨2, ![1, 1024]⟩
abbrev S64x256 : Shape := ⟨2, ![64, 256]⟩
abbrev S256x256 : Shape := ⟨2, ![256, 256]⟩
abbrev S64x64 : Shape := ⟨2, ![64, 64]⟩
abbrev S256x64 : Shape := ⟨2, ![256, 64]⟩
abbrev S1x256 : Shape := ⟨2, ![1, 256]⟩
abbrev S1x64x256 : Shape := ⟨3, ![1, 64, 256]⟩
abbrev S64 : Shape := ⟨1, ![64]⟩
abbrev S64x1 : Shape := ⟨2, ![64, 1]⟩
abbrev S1x1x1x256 : Shape := ⟨4, ![1, 1, 1, 256]⟩
abbrev S128x128x512 : Shape := ⟨3, ![128, 128, 512]⟩
abbrev S8x16384x128 : Shape := ⟨3, ![8, 16384, 128]⟩
abbrev S8x16384x64 : Shape := ⟨3, ![8, 16384, 64]⟩
abbrev S16384x8x64 : Shape := ⟨3, ![16384, 8, 64]⟩
abbrev S16384x8x128 : Shape := ⟨3, ![16384, 8, 128]⟩
abbrev S512x16384 : Shape := ⟨2, ![512, 16384]⟩

abbrev nBuf : Space → Nat
  | .hbm => 102
  | .vmem => 31
  | .smem => 0
  | _ => 0

abbrev bufTy : (tb : Table) → Fin (tcTables nBuf tb) → BufTy
  | .hbm, ⟨0, _⟩ => ⟨S16384x1024, .f32⟩
  | .hbm, ⟨1, _⟩ => ⟨S1024x6144, .f32⟩
  | .hbm, ⟨2, _⟩ => ⟨S512, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S256, .f32⟩
  | .hbm, ⟨20, _⟩ => ⟨S_, .f32⟩
  | .hbm, ⟨21, _⟩ => ⟨S256x8x128, .f32⟩
  | .hbm, ⟨22, _⟩ => ⟨S_, .i32⟩
  | .hbm, ⟨23, _⟩ => ⟨S1, .i32⟩
  | .hbm, ⟨24, _⟩ => ⟨S_, .f32⟩
  | .hbm, ⟨25, _⟩ => ⟨S256x8, .f32⟩
  | .hbm, ⟨26, _⟩ => ⟨S256x8x128, .f32⟩
  | .hbm, ⟨27, _⟩ => ⟨S256x1, .f32⟩
  | .hbm, ⟨28, _⟩ => ⟨S_, .i32⟩
  | .hbm, ⟨29, _⟩ => ⟨S1, .i32⟩
  | .hbm, ⟨30, _⟩ => ⟨S256x8, .f32⟩
  | .hbm, ⟨31, _⟩ => ⟨S256x8x128, .f32⟩
  | .hbm, ⟨32, _⟩ => ⟨S_, .f32⟩
  | .hbm, ⟨33, _⟩ => ⟨S256x8x128, .f32⟩
  | .hbm, ⟨34, _⟩ => ⟨S256x1, .f32⟩
  | .hbm, ⟨35, _⟩ => ⟨S1x8, .f32⟩
  | .hbm, ⟨36, _⟩ => ⟨S256x8, .f32⟩
  | .hbm, ⟨37, _⟩ => ⟨S256x8, .f32⟩
  | .hbm, ⟨38, _⟩ => ⟨S256x8, .f32⟩
  | .hbm, ⟨39, _⟩ => ⟨S_, .i32⟩
  | .hbm, ⟨40, _⟩ => ⟨S1, .i32⟩
  | .hbm, ⟨41, _⟩ => ⟨S256x8x128, .f32⟩
  | .hbm, ⟨42, _⟩ => ⟨S1x8, .f32⟩
  | .hbm, ⟨43, _⟩ => ⟨S1x8, .f32⟩
  | .hbm, ⟨44, _⟩ => ⟨S_, .f32⟩
  | .hbm, ⟨45, _⟩ => ⟨S1x8, .f32⟩
  | .hbm, ⟨46, _⟩ => ⟨S1x8, .f32⟩
  | .hbm, ⟨47, _⟩ => ⟨S_, .i32⟩
  | .hbm, ⟨48, _⟩ => ⟨S1, .i32⟩
  | .hbm, ⟨49, _⟩ => ⟨S256x8, .f32⟩
  | .hbm, ⟨50, _⟩ => ⟨S256x8x128, .f32⟩
  | .hbm, ⟨51, _⟩ => ⟨S1x8, .f32⟩
  | .hbm, ⟨52, _⟩ => ⟨S1x8, .f32⟩
  | .hbm, ⟨53, _⟩ => ⟨S_, .i32⟩
  | .hbm, ⟨54, _⟩ => ⟨S1, .i32⟩
  | .hbm, ⟨55, _⟩ => ⟨S256x8, .f32⟩
  | .hbm, ⟨56, _⟩ => ⟨S256x8x128, .f32⟩
  | .hbm, ⟨57, _⟩ => ⟨S8x1, .f32⟩
  | .hbm, ⟨58, _⟩ => ⟨S8x256, .f32⟩
  | .hbm, ⟨59, _⟩ => ⟨S256x1024, .f32⟩
  | .hbm, ⟨60, _⟩ => ⟨S256x1024, .f32⟩
  | .hbm, ⟨61, _⟩ => ⟨S1024x1024, .f32⟩
  | .hbm, ⟨62, _⟩ => ⟨S1024x1024, .bf16⟩
  | .hbm, ⟨63, _⟩ => ⟨S1024x512, .f32⟩
  | .hbm, ⟨64, _⟩ => ⟨S512x1024, .f32⟩
  | .hbm, ⟨65, _⟩ => ⟨S512x1024, .bf16⟩
  | .hbm, ⟨66, _⟩ => ⟨S1024x512, .f32⟩
  | .hbm, ⟨67, _⟩ => ⟨S_, .f32⟩
  | .hbm, ⟨68, _⟩ => ⟨S1024x512, .f32⟩
  | .hbm, ⟨69, _⟩ => ⟨S1024x512, .f32⟩
  | .hbm, ⟨70, _⟩ => ⟨S1024x512, .bf16⟩
  | .hbm, ⟨71, _⟩ => ⟨S1024x512, .f32⟩
  | .hbm, ⟨72, _⟩ => ⟨S1024x512, .bf16⟩
  | .hbm, ⟨73, _⟩ => ⟨S1024x512, .f32⟩
  | .hbm, ⟨74, _⟩ => ⟨S512x1024, .f32⟩
  | .hbm, ⟨75, _⟩ => ⟨S512x1024, .bf16⟩
  | .hbm, ⟨76, _⟩ => ⟨S1x512, .f32⟩
  | .hbm, ⟨77, _⟩ => ⟨S1x512, .f32⟩
  | .hbm, ⟨78, _⟩ => ⟨S4x128x128, .bf16⟩
  | .hbm, ⟨79, _⟩ => ⟨S128x4, .f32⟩
  | .hbm, ⟨80, _⟩ => ⟨S16384x512, .bf16⟩
  | .hbm, ⟨81, _⟩ => ⟨S128x512x128, .f32⟩
  | .hbm, ⟨82, _⟩ => ⟨S1x8x16384x128, .f32⟩
  | .hbm, ⟨83, _⟩ => ⟨S16384x1024, .bf16⟩
  | .hbm, ⟨84, _⟩ => ⟨S1x512x16384, .bf16⟩
  | .hbm, ⟨85, _⟩ => ⟨S1x3x8x16384, .i32⟩
  | .hbm, ⟨86, _⟩ => ⟨S1x3x8x16384, .i32⟩
  | .hbm, ⟨87, _⟩ => ⟨S1x8x64x256, .f32⟩
  | .hbm, ⟨88, _⟩ => ⟨S16384x512, .f32⟩
  | .hbm, ⟨89, _⟩ => ⟨S128x128x512, .f32⟩
  | .hbm, ⟨90, _⟩ => ⟨S16384x512, .f32⟩
  | .hbm, ⟨91, _⟩ => ⟨S8x16384x128, .f32⟩
  | .hbm, ⟨92, _⟩ => ⟨S8x16384x64, .f32⟩
  | .hbm, ⟨93, _⟩ => ⟨S16384x8x64, .f32⟩
  | .hbm, ⟨94, _⟩ => ⟨S16384x512, .f32⟩
  | .hbm, ⟨95, _⟩ => ⟨S16384x8x128, .bf16⟩
  | .hbm, ⟨96, _⟩ => ⟨S16384x8x64, .bf16⟩
  | .hbm, ⟨97, _⟩ => ⟨S16384x512, .bf16⟩
  | .hbm, ⟨98, _⟩ => ⟨S16384x512, .f32⟩
  | .hbm, ⟨99, _⟩ => ⟨S512x16384, .bf16⟩
  | .hbm, ⟨100, _⟩ => ⟨S16384x512, .bf16⟩
  | .hbm, ⟨101, _⟩ => ⟨S16384x512, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S256x1024, .f32⟩
  | .local _ .vmem, ⟨8, _⟩ => ⟨S256x1024, .f32⟩
  | .local _ .vmem, ⟨9, _⟩ => ⟨S1x512, .f32⟩
  | .local _ .vmem, ⟨10, _⟩ => ⟨S1x512, .f32⟩
  | .local _ .vmem, ⟨11, _⟩ => ⟨S4x128x128, .bf16⟩
  | .local _ .vmem, ⟨12, _⟩ => ⟨S128x4, .f32⟩
  | .local _ .vmem, ⟨13, _⟩ => ⟨S256x512, .bf16⟩
  | .local _ .vmem, ⟨14, _⟩ => ⟨S256x512, .bf16⟩
  | .local _ .vmem, ⟨15, _⟩ => ⟨S2x512x128, .f32⟩
  | .local _ .vmem, ⟨16, _⟩ => ⟨S2x512x128, .f32⟩
  | .local _ .vmem, ⟨17, _⟩ => ⟨S1x8x256x128, .f32⟩
  | .local _ .vmem, ⟨18, _⟩ => ⟨S1x8x256x128, .f32⟩
  | .local _ .vmem, ⟨19, _⟩ => ⟨S256x1024, .bf16⟩
  | .local _ .vmem, ⟨20, _⟩ => ⟨S256x1024, .bf16⟩
  | .local _ .vmem, ⟨21, _⟩ => ⟨S1x512x256, .bf16⟩
  | .local _ .vmem, ⟨22, _⟩ => ⟨S1x512x256, .bf16⟩
  | .local _ .vmem, ⟨23, _⟩ => ⟨S1x3x8x256, .i32⟩
  | .local _ .vmem, ⟨24, _⟩ => ⟨S1x3x8x256, .i32⟩
  | .local _ .vmem, ⟨25, _⟩ => ⟨S1x3x8x256, .i32⟩
  | .local _ .vmem, ⟨26, _⟩ => ⟨S1x3x8x256, .i32⟩
  | .local _ .vmem, ⟨27, _⟩ => ⟨S1x8x64x256, .f32⟩
  | .local _ .vmem, ⟨28, _⟩ => ⟨S1x8x64x256, .f32⟩
  | .local _ .vmem, ⟨29, _⟩ => ⟨S64x1024, .f32⟩
  | .local _ .vmem, ⟨30, _⟩ => ⟨S8x64x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩
abbrev main_c_9 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60_0 : Ref sig .tc := ⟨.hbm, 80, rfl⟩
abbrev main_v60_1 : Ref sig .tc := ⟨.hbm, 81, rfl⟩
abbrev main_v60_2 : Ref sig .tc := ⟨.hbm, 82, rfl⟩
abbrev main_v60_3 : Ref sig .tc := ⟨.hbm, 83, rfl⟩
abbrev main_v60_4 : Ref sig .tc := ⟨.hbm, 84, rfl⟩
abbrev main_v60_5 : Ref sig .tc := ⟨.hbm, 85, rfl⟩
abbrev main_v60_6 : Ref sig .tc := ⟨.hbm, 86, rfl⟩
abbrev main_v60_7 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_scratch0 : Ref sig .tc := ⟨.vmem, 29, rfl⟩
abbrev cc0_scratch1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let arg0 : BitVec 32 := BitVec.ofNat 32 (i 0).val
  let c64_i32 : BitVec 32 := 64#32
  let c0_i32 : BitVec 32 := 0#32
  let v0 : BitVec 1 := Scalar.cmpi .eq c64_i32 c0_i32
  let c1_i32 : BitVec 32 := 1#32
  let v1 : BitVec 32 := Scalar.select v0 c1_i32 c64_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v363 : Index := Scalar.indexCast v9
  let c0_178 : Index := 0#32
  ![v363.toNat, 0]
def k0_cond3 (i : grid0.Coords) : BitVec 1 :=
  let arg0 : BitVec 32 := BitVec.ofNat 32 (i 0).val
  let c64_i32 : BitVec 32 := 64#32
  let c0_i32 : BitVec 32 := 0#32
  let v0 : BitVec 1 := Scalar.cmpi .eq c64_i32 c0_i32
  let c1_i32 : BitVec 32 := 1#32
  let v1 : BitVec 32 := Scalar.select v0 c1_i32 c64_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c63_i32 : BitVec 32 := 63#32
  let v1215 : BitVec 1 := Scalar.cmpi .eq v9 c63_i32
  let v1216 : BitVec 32 := Scalar.extui v1215
  let c0_i32_695 : BitVec 32 := 0#32
  let v1217 : BitVec 1 := Scalar.cmpi .ne v1216 c0_i32_695
  v1217

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 4 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_17 (i : grid0.Coords) : Fin 4 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_18 (i : grid0.Coords) : Fin 4 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_19 (i : grid0.Coords) : Fin 4 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x3x8x256 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x3x8x256 .i32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x8x64x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference4Ideal.lean ====
abbrev S16384x1024 : Shape := ⟨2, ![16384, 1024]⟩
abbrev S1024x6144 : Shape := ⟨2, ![1024, 6144]⟩
abbrev S512 : Shape := ⟨1, ![512]⟩
abbrev S4x128x128 : Shape := ⟨3, ![4, 128, 128]⟩
abbrev S4x128 : Shape := ⟨2, ![4, 128]⟩
abbrev S16384x6144 : Shape := ⟨2, ![16384, 6144]⟩
abbrev S16384x3072 : Shape := ⟨2, ![16384, 3072]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S128x128x4x128 : Shape := ⟨4, ![128, 128, 4, 128]⟩
abbrev S128x128 : Shape := ⟨2, ![128, 128]⟩
abbrev S4x128x128x128 : Shape := ⟨4, ![4, 128, 128, 128]⟩
abbrev S128x4 : Shape := ⟨2, ![128, 4]⟩
abbrev S128x4x1 : Shape := ⟨3, ![128, 4, 1]⟩
abbrev S1x128x4x1 : Shape := ⟨4, ![1, 128, 4, 1]⟩

abbrev nBuf : Space → Nat
  | .hbm => 84
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x6144, .f32⟩
  | .hbm, ⟨2, _⟩ => ⟨S512, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S16384x6144, .f32⟩
  | .hbm, ⟨7, _⟩ => ⟨S16384x3072, .f32⟩
  | .hbm, ⟨8, _⟩ => ⟨S16384x1024, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x512, .f32⟩
  | .hbm, ⟨31, _⟩ => ⟨S16384x512, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x512, .f32⟩
  | .hbm, ⟨48, _⟩ => ⟨S16384x512, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S16384x512, .f32⟩
  | .hbm, ⟨54, _⟩ => ⟨S16384x512, .f32⟩
  | .hbm, ⟨55, _⟩ => ⟨S1x512, .f32⟩
  | .hbm, ⟨56, _⟩ => ⟨S16384x512, .f32⟩
  | .hbm, ⟨57, _⟩ => ⟨S16384x512, .f32⟩
  | .hbm, ⟨58, _⟩ => ⟨S1x512, .f32⟩
  | .hbm, ⟨59, _⟩ => ⟨S16384x512, .f32⟩
  | .hbm, ⟨60, _⟩ => ⟨S16384x512, .f32⟩
  | .hbm, ⟨61, _⟩ => ⟨S128x128x4x128, .f32⟩
  | .hbm, ⟨62, _⟩ => ⟨S128x128, .i32⟩
  | .hbm, ⟨63, _⟩ => ⟨S_, .i32⟩
  | .hbm, ⟨64, _⟩ => ⟨S128x128, .i32⟩
  | .hbm, ⟨65, _⟩ => ⟨S128x128, .i32⟩
  | .hbm, ⟨66, _⟩ => ⟨S128x128, .i32⟩
  | .hbm, ⟨67, _⟩ => ⟨S128x128, .i1⟩
  | .hbm, ⟨68, _⟩ => ⟨S4x128x128, .i1⟩
  | .hbm, ⟨69, _⟩ => ⟨S_, .f32⟩
  | .hbm, ⟨70, _⟩ => ⟨S4x128x128, .f32⟩
  | .hbm, ⟨71, _⟩ => ⟨S4x128x128, .f32⟩
  | .hbm, ⟨72, _⟩ => ⟨S4x128x128x128, .f32⟩
  | .hbm, ⟨73, _⟩ => ⟨S128x128x4x128, .f32⟩
  | .hbm, ⟨74, _⟩ => ⟨S128x4, .f32⟩
  | .hbm, ⟨75, _⟩ => ⟨S128x4x1, .f32⟩
  | .hbm, ⟨76, _⟩ => ⟨S1x128x4x1, .f32⟩
  | .hbm, ⟨77, _⟩ => ⟨S128x128x4x128, .f32⟩
  | .hbm, ⟨78, _⟩ => ⟨S128x128x4x128, .f32⟩
  | .hbm, ⟨79, _⟩ => ⟨S16384x512, .f32⟩
  | .hbm, ⟨80, _⟩ => ⟨S16384x512, .f32⟩
  | .hbm, ⟨81, _⟩ => ⟨S_, .f32⟩
  | .hbm, ⟨82, _⟩ => ⟨S16384x512, .f32⟩
  | .hbm, ⟨83, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_call0_v0 : Ref sig .tc := ⟨.hbm, 62, rfl⟩
abbrev main_call0_c : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_v5 : Ref sig .tc := ⟨.hbm, 68, rfl⟩
abbrev main_call0_cst : Ref sig .tc := ⟨.hbm, 69, rfl⟩
abbrev main_call0_v6 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_8 : Ref sig .tc := ⟨.hbm, 81, rfl⟩
abbrev main_v57 : Ref sig .tc := ⟨.hbm, 82, rfl⟩
abbrev main_v58 : Ref sig .tc := ⟨.hbm, 83, rfl⟩

abbrev nD : Nat := 1
abbrev τ : Topo := Topo.v7x

variable {F : FTy → Type} [FloatOps F]
-- ==== Proof.Words.lean ====
/-
  The machine words of one subcore's run of the row gather: which slot of the two-slot scratch, which block of the
  index list and of the result each trip of the counted loop names, which branches it takes, and what it carries to
  the next trip. All are functions of the subcore's grid point and of the trip's number, decided over both.
-/
module

public import proofs.«01_k».proof.Defs
public import proofs.«01_k».proof.Proof.Gen.KernelIdeal
public import proofs.«01_k».proof.Proof.Gen.KernelIdeal.Skeleton

@[expose] public section

set_option Elab.async false

noncomputable section

namespace Cert.Proof.RowGather

open Cert.KernelIdeal Cert.KernelIdeal.Gen
open Idealize.ShloMosaic

/-- The carried words before trip `k`: the number of index blocks fetched so far, the block read, the block written,
    the block whose write-out was last waited for, and the block's number within the subcore's share. -/
def carried (k : ℕ) : BitVec 32 × BitVec 32 × BitVec 32 × BitVec 32 × BitVec 32 :=
  (BitVec.ofNat 32 (min (k + 1) 96), BitVec.ofNat 32 k, BitVec.ofNat 32 k, BitVec.ofNat 32 (k - 1),
    BitVec.ofNat 32 (if k = 96 then 0 else k))

theorem trips_eq : k0_t1_loop.trips = 96 := by decide +kernel

/-- The first block of the subcore at grid point `L`. -/
abbrev base (L : grid0.Coords) : ℕ := 96 * ((L 1).val + 16 * (L 0).val)

theorem base_lt (L : grid0.Coords) (n : Fin 96) : base L + n.val < 3072 := by
  have h0 : (L 0).val < 2 := (L 0).isLt
  have h1 : (L 1).val < 16 := (L 1).isLt
  have := n.isLt
  simp only [base]; omega

theorem off4_at : ∀ k : Fin 96, k0_off4 (BitVec.ofNat 32 (min (k.val + 1) 96)) = ![(k.val + 1) % 2, 0, 0] := by decide +kernel
theorem off6_at : ∀ k : Fin 96, k0_off6 (BitVec.ofNat 32 (min (k.val + 1) 96)) = ![(k.val + 1) % 2] := by decide +kernel
theorem off7_at : ∀ k : Fin 96, k0_off7 (BitVec.ofNat 32 k.val) = ![k.val % 2, 0, 0] := by decide +kernel
theorem off9_at : ∀ k : Fin 96, k0_off9 (BitVec.ofNat 32 k.val) = ![k.val % 2] := by decide +kernel
theorem off10_at : ∀ k : Fin 96, k0_off10 (BitVec.ofNat 32 k.val) = ![k.val % 2, 0, 0] := by decide +kernel
theorem off11_at : ∀ k : Fin 96, k0_off11 (BitVec.ofNat 32 k.val) = ![k.val % 2, 0, 0] := by decide +kernel
theorem off12_at : ∀ k : Fin 96, k0_off12 (BitVec.ofNat 32 k.val) = ![k.val % 2, 0, 0] := by decide +kernel
theorem off14_at : ∀ k : Fin 96, k0_off14 (BitVec.ofNat 32 k.val) = ![k.val % 2] := by decide +kernel
theorem off15_at : ∀ k : Fin 96, k0_off15 (BitVec.ofNat 32 (k.val - 1)) = ![(k.val - 1) % 2, 0, 0] := by decide +kernel
theorem off17_at : ∀ k : Fin 96, k0_off17 (BitVec.ofNat 32 (k.val - 1)) = ![(k.val - 1) % 2] := by decide +kernel

theorem ifz : ∀ k : Fin 96, (BitVec.ofNat 32 (if k.val = 96 then 0 else k.val)) = BitVec.ofNat 32 k.val := fun k => by
  rw [if_neg (Nat.ne_of_lt k.isLt)]

set_option maxRecDepth 65536 in
theorem off5_at : ∀ (L : grid0.Coords) (k : Fin 96), k.val < 95 → k0_off5 L (BitVec.ofNat 32 k.val) = ![0, 128 * (base L + (k.val + 1))] := by decide +kernel
set_option maxRecDepth 65536 in
theorem off8_at : ∀ (L : grid0.Coords) (k : Fin 96), k0_off8 L (BitVec.ofNat 32 k.val) = ![0, 128 * (base L + k.val)] := by decide +kernel
set_option maxRecDepth 65536 in
theorem off13_at : ∀ (L : grid0.Coords) (k : Fin 96), k0_off13 L (BitVec.ofNat 32 k.val) = ![128 * (base L + k.val), 0] := by decide +kernel
set_option maxRecDepth 65536 in
theorem off16_at : ∀ (L : grid0.Coords) (k : Fin 96), 0 < k.val → k0_off16 L (BitVec.ofNat 32 k.val) = ![128 * (base L + (k.val - 1)), 0] := by decide +kernel
theorem off19_at : ∀ (L : grid0.Coords), k0_off19 L 0#32 = ![128 * (base L + 95), 0] := by decide +kernel
theorem off20_at : k0_off20 95#32 = ![1] := by decide +kernel
theorem off21_at : k0_off21 95#32 = ![1, 0, 0] := by decide +kernel
theorem off2_at : ∀ L : grid0.Coords, k0_off2 L = ![0, 128 * (base L + 0)] := by decide +kernel

/-! ## The branches -/

theorem cond1_at : ∀ (L : grid0.Coords) (k : Fin k0_t1_loop.trips), k0_cond1 L k (BitVec.ofNat 32 k.val) = 1#1 ↔ k.val < 95 := by decide +kernel
theorem cond2_at : ∀ (L : grid0.Coords) (k : Fin k0_t1_loop.trips), k0_cond2 L k (BitVec.ofNat 32 k.val) = 1#1 := by decide +kernel
theorem cond5_at : ∀ (L : grid0.Coords) (k : Fin k0_t1_loop.trips), k0_cond5 L k (BitVec.ofNat 32 k.val) = 1#1 := by decide +kernel
theorem cond7_at : ∀ (L : grid0.Coords) (k : Fin k0_t1_loop.trips), k0_cond7 L k (BitVec.ofNat 32 k.val) = 1#1 ↔ 0 < k.val := by decide +kernel

/-! ## The checks -/

theorem chk2_at : ∀ k : Fin 96, k0_chk2 (BitVec.ofNat 32 k.val) := by decide +kernel
theorem chk3_at : ∀ k : Fin 96, k0_chk3 (BitVec.ofNat 32 k.val) := by decide +kernel
theorem chk1_at : ∀ (L : grid0.Coords) (k : Fin k0_t1_loop.trips),
    k0_chk1 L k (BitVec.ofNat 32 (min (k.val + 1) 96)) (BitVec.ofNat 32 k.val) (BitVec.ofNat 32 k.val) (BitVec.ofNat 32 (k.val - 1)) (BitVec.ofNat 32 k.val) := by decide +kernel
theorem chk5_at : ∀ (L : grid0.Coords), k0_chk5 L 0#32 := by decide +kernel
theorem chk4_at : k0_chk4 95#32 := by decide +kernel

end Cert.Proof.RowGather

end
-- ==== Proof.Setup.lean ====
/-
  The row gather on the two SparseCores' thirty-two vector subcores, as the launch theorem sees it: the program, the
  ghost state, the buffers, the memory references the subcores use, and the share of each buffer a subcore holds.
  Every subcore reads rows of the whole table and its part of the whole index list, so of these two it holds a share;
  of the result it owns its 12288 rows outright.
-/
module

public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Tactic

@[expose] public section

noncomputable section

namespace Cert.Proof.RowGather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program, and the launch's facts about it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

variable (m : (ℓ : Loc nD τ sig) → Buf (Elt F) ℓ)

abbrev xLoc (d : Dev nD) : Loc nD τ sig := (SparseCore.T d).loc main_arg0
abbrev aLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1

abbrev cV (L : grid0.Coords) : Fin τ.nSC := (L 0).castLE hcore0
abbrev jV (L : grid0.Coords) : Fin τ.nSub := (L 1).castLE hsub0
/-- The subcore of grid point `L` on device `d`. -/
abbrev thr (d : Dev nD) (L : grid0.Coords) : Thread nD τ := V d (cV L) (jV L)
abbrev sLoc (d : Dev nD) (L : grid0.Coords) : Loc nD τ sig := (thr d L).loc cc0_scoped0
abbrev rLoc (d : Dev nD) (L : grid0.Coords) : Loc nD τ sig := (thr d L).loc cc0_scoped2

/-! ## The memory references -/

theorem inb_slot_i (p : Fin 2) : ∀ a, (![p.val, 0, 0] : Fin 3 → ℕ) a + S1x1x128.size a ≤ S2x1x128.size a := by decide +revert
theorem inb_slot_r (p : Fin 2) : ∀ a, (![p.val, 0, 0] : Fin 3 → ℕ) a + S1x128x128.size a ≤ S2x128x128.size a := by decide +revert
theorem inb_slot_s (p : Fin 2) : ∀ a, (![p.val] : Fin 1 → ℕ) a + S1.size a ≤ S2.size a := by decide +revert
theorem inb_blk_i (L : grid0.Coords) (n : Fin 96) :
    ∀ a, (![0, 128 * (base L + n.val)] : Fin 2 → ℕ) a + S1x128.size a ≤ S1x393216.size a := by
  have := base_lt L n
  exact Fin.forall_fin_two.mpr ⟨show 0 + 1 ≤ 1 from le_rfl, show 128 * (base L + n.val) + 128 ≤ 393216 by omega⟩
theorem inb_blk_o (L : grid0.Coords) (n : Fin 96) :
    ∀ a, (![128 * (base L + n.val), 0] : Fin 2 → ℕ) a + S128x128.size a ≤ S393216x128.size a := by
  have := base_lt L n
  exact Fin.forall_fin_two.mpr ⟨show 128 * (base L + n.val) + 128 ≤ 393216 by omega, show 0 + 128 ≤ 128 from le_rfl⟩

/-- Slot `p` of the index scratch, of the row scratch, and their transfers' semaphores. -/
abbrev iSlot (p : Fin 2) : Memref sig .scVector .vmem S1x128 .i32 :=
  ((Memref.whole cc0_scoped0).slice (Rect.unit (s := S2x1x128) ![p.val, 0, 0] S1x1x128.size (inb_slot_i p)) (fun _ => rfl)).squeeze S1x128 squeezes_S1x1x128_S1x128
abbrev rSlot (p : Fin 2) : Memref sig .scVector .vmem S128x128 .f32 :=
  ((Memref.whole cc0_scoped2).slice (Rect.unit (s := S2x128x128) ![p.val, 0, 0] S1x128x128.size (inb_slot_r p)) (fun _ => rfl)).squeeze S128x128 squeezes_S1x128x128_S128x128
abbrev iSem (p : Fin 2) : DmaSems sig S_ := (cc0_scoped1.slice (Rect.unit (s := S2) ![p.val] S1.size (inb_slot_s p))).squeeze S_ squeezes_S1_S_
abbrev rSem (p : Fin 2) : DmaSems sig S_ := (cc0_scoped3.slice (Rect.unit (s := S2) ![p.val] S1.size (inb_slot_s p))).squeeze S_ squeezes_S1_S_
/-- The list the stream reads: slot `p` of the index scratch as a vector of 128 words. -/
abbrev lSlot (p : Fin 2) : Memref sig .scVector .vmem S128 .i32 :=
  ((iSlot p).slice (Rect.unit (s := S1x128) ![0, 0] S1x128.size inb_S1x128_S1x128_0_0) (fun _ => rfl)).squeeze S128 squeezes_S1x128_S128
/-- The whole table, as the stream names it. -/
abbrev xAll : Memref sig .scVector .hbm S524544x128 .f32 :=
  (Memref.whole main_arg0_scv).slice (Rect.unit (s := S524544x128) ![0, 0] S524544x128.size inb_S524544x128_S524544x128_0_0) (fun _ => rfl)
/-- Block `n` of the subcore's part of the index list, and of its part of the result. -/
abbrev iBlk (L : grid0.Coords) (n : Fin 96) : Memref sig .scVector .hbm S1x128 .i32 :=
  (Memref.whole main_v0_scv).slice (Rect.unit (s := S1x393216) ![0, 128 * (base L + n.val)] S1x128.size (inb_blk_i L n)) (fun _ => rfl)
abbrev oBlk (L : grid0.Coords) (n : Fin 96) : Memref sig .scVector .hbm S128x128 .f32 :=
  (Memref.whole main_v1_scv).slice (Rect.unit (s := S393216x128) ![128 * (base L + n.val), 0] S128x128.size (inb_blk_o L n)) (fun _ => rfl)

/-! A reference at an offset equal to a slot's or a block's is that slot or block. -/

theorem iSlot_of {off : Fin 3 → ℕ} {inb} (p : Fin 2) (h : off = ![p.val, 0, 0]) :
    ((Memref.whole cc0_scoped0).slice (Rect.unit (s := S2x1x128) off S1x1x128.size inb) (fun _ => rfl)).squeeze S1x128 squeezes_S1x1x128_S1x128 = iSlot p := by
  subst h; rfl
theorem rSlot_of {off : Fin 3 → ℕ} {inb} (p : Fin 2) (h : off = ![p.val, 0, 0]) :
    ((Memref.whole cc0_scoped2).slice (Rect.unit (s := S2x128x128) off S1x128x128.size inb) (fun _ => rfl)).squeeze S128x128 squeezes_S1x128x128_S128x128 = rSlot p := by
  subst h; rfl
theorem iSem_of {off : Fin 1 → ℕ} {inb} (p : Fin 2) (h : off = ![p.val]) :
    (cc0_scoped1.slice (Rect.unit (s := S2) off S1.size inb)).squeeze S_ squeezes_S1_S_ = iSem p := by subst h; rfl
theorem rSem_of {off : Fin 1 → ℕ} {inb} (p : Fin 2) (h : off = ![p.val]) :
    (cc0_scoped3.slice (Rect.unit (s := S2) off S1.size inb)).squeeze S_ squeezes_S1_S_ = rSem p := by subst h; rfl
theorem iBlk_of {off : Fin 2 → ℕ} {inb} (L : grid0.Coords) (n : Fin 96) (h : off = ![0, 128 * (base L + n.val)]) :
    (Memref.whole main_v0_scv).slice (Rect.unit (s := S1x393216) off S1x128.size inb) (fun _ => rfl) = iBlk L n := by subst h; rfl
theorem oBlk_of {off : Fin 2 → ℕ} {inb} (L : grid0.Coords) (n : Fin 96) (h : off = ![128 * (base L + n.val), 0]) :
    (Memref.whole main_v1_scv).slice (Rect.unit (s := S393216x128) off S128x128.size inb) (fun _ => rfl) = oBlk L n := by subst h; rfl

/-! ## The elements they cover -/

/-- Rows `a` to `b` (not included) of the result. -/
def rowsOf (a b : ℕ) : Finset S393216x128.Idx := Finset.univ.filter fun x => a ≤ (x 0).val ∧ (x 0).val < b

theorem mem_rowsOf {a b : ℕ} {x : S393216x128.Idx} : x ∈ rowsOf a b ↔ a ≤ (x 0).val ∧ (x 0).val < b := by simp [rowsOf]

theorem set_oBlk (L : grid0.Coords) (n : Fin 96) : (oBlk L n).view.set = rowsOf (128 * (base L + n.val)) (128 * (base L + n.val) + 128) := by
  refine (View.set_slice_whole main_v1_scv _).trans ?_
  ext x
  rw [Rect.mem_set_unit, mem_rowsOf]
  have h1 : (x 1).val < 128 := (x 1).isLt
  refine Fin.forall_fin_two.trans ⟨fun h => h.1, fun h => ⟨h, Nat.zero_le _, ?_⟩⟩
  show (x 1).val < 0 + 128; omega

theorem rowsOf_union {a b c : ℕ} (h : a ≤ b) (h' : b ≤ c) : rowsOf a b ∪ rowsOf b c = rowsOf a c := by
  ext x; simp only [Finset.mem_union, mem_rowsOf]; omega
theorem rowsOf_disjoint {a b c d : ℕ} (h : b ≤ c) : Disjoint (rowsOf a b) (rowsOf c d) := by
  rw [Finset.disjoint_left]; intro x; simp only [mem_rowsOf]; omega
theorem rowsOf_empty (a : ℕ) : rowsOf a a = ∅ := by
  ext x; simp only [mem_rowsOf, Finset.notMem_empty, iff_false]; omega

/-- A scratch slot: the elements at first coordinate `p`. -/
def iAt (p : Fin 2) : Finset S2x1x128.Idx := Finset.univ.filter fun x => (x 0).val = p.val
def rAt (p : Fin 2) : Finset S2x128x128.Idx := Finset.univ.filter fun x => (x 0).val = p.val

theorem set_iSlot (p : Fin 2) : (iSlot p).view.set = iAt p := by
  refine (View.set_reshape ((Memref.whole cc0_scoped0).view.slice (Rect.unit (s := S2x1x128) ![p.val, 0, 0] S1x1x128.size (inb_slot_i p))) _).trans ?_
  refine (View.set_slice_whole cc0_scoped0 _).trans ?_
  ext x
  rw [Rect.mem_set_unit]
  have h1 : (x 1).val < 1 := (x 1).isLt
  have h2 : (x 2).val < 128 := (x 2).isLt
  simp only [iAt, Finset.mem_filter, Finset.mem_univ, true_and]
  constructor
  · intro h; have h0 := h 0
    have e1 : p.val ≤ (x 0).val := h0.1
    have e2 : (x 0).val < p.val + 1 := h0.2
    omega
  · intro h a
    match a with
    | 0 => exact ⟨show p.val ≤ (x 0).val by omega, show (x 0).val < p.val + 1 by omega⟩
    | 1 => exact ⟨Nat.zero_le _, show (x 1).val < 0 + 1 by omega⟩
    | 2 => exact ⟨Nat.zero_le _, show (x 2).val < 0 + 128 by omega⟩

theorem set_rSlot (p : Fin 2) : (rSlot p).view.set = rAt p := by
  refine (View.set_reshape ((Memref.whole cc0_scoped2).view.slice (Rect.unit (s := S2x128x128) ![p.val, 0, 0] S1x128x128.size (inb_slot_r p))) _).trans ?_
  refine (View.set_slice_whole cc0_scoped2 _).trans ?_
  ext x
  rw [Rect.mem_set_unit]
  have h1 : (x 1).val < 128 := (x 1).isLt
  have h2 : (x 2).val < 128 := (x 2).isLt
  simp only [rAt, Finset.mem_filter, Finset.mem_univ, true_and]
  constructor
  · intro h; have h0 := h 0
    have e1 : p.val ≤ (x 0).val := h0.1
    have e2 : (x 0).val < p.val + 1 := h0.2
    omega
  · intro h a
    match a with
    | 0 => exact ⟨show p.val ≤ (x 0).val by omega, show (x 0).val < p.val + 1 by omega⟩
    | 1 => exact ⟨Nat.zero_le _, show (x 1).val < 0 + 128 by omega⟩
    | 2 => exact ⟨Nat.zero_le _, show (x 2).val < 0 + 128 by omega⟩

theorem iAt_disjoint : Disjoint (iAt 0) (iAt 1) := by
  rw [Finset.disjoint_left]; intro x; simp only [iAt, Finset.mem_filter, Finset.mem_univ, true_and]
  intro h h'; rw [h] at h'; exact absurd h' (by decide)
theorem rAt_disjoint : Disjoint (rAt 0) (rAt 1) := by
  rw [Finset.disjoint_left]; intro x; simp only [rAt, Finset.mem_filter, Finset.mem_univ, true_and]
  intro h h'; rw [h] at h'; exact absurd h' (by decide)
theorem iAt_union : iAt 0 ∪ iAt 1 = Finset.univ := by
  ext x; have : (x 0).val < 2 := (x 0).isLt
  simp only [iAt, Finset.mem_union, Finset.mem_filter, Finset.mem_univ, true_and, iff_true]
  show (x 0).val = 0 ∨ (x 0).val = 1; omega
theorem rAt_union : rAt 0 ∪ rAt 1 = Finset.univ := by
  ext x; have : (x 0).val < 2 := (x 0).isLt
  simp only [rAt, Finset.mem_union, Finset.mem_filter, Finset.mem_univ, true_and, iff_true]
  show (x 0).val = 0 ∨ (x 0).val = 1; omega

/-! ## Shares -/

/-- The share of the table and of the index list that subcore `i` of SparseCore `c` holds. -/
abbrev coreShare (c : Fin 2) : PosShare TreeShare := pieceOf fullShare 2 (by decide) c
abbrev share (c : Fin 2) (i : Fin 16) : PosShare TreeShare := pieceOf (coreShare c) 16 (by decide) i
abbrev shareOf (L : grid0.Coords) : PosShare TreeShare := share (L 0) (L 1)
/-- A subcore's share of the index list is halved: half `p` for the transfers into slot `p`. -/
def half (L : grid0.Coords) (p : Fin 2) : PosShare TreeShare := if p = 0 then (shareOf L).left else (shareOf L).right

/-! ## The result -/

/-- The index list: the routed slots, rank by rank, in one row. -/
def idxList (d : Dev nD) : Buf (Elt F) (iLoc d) := fun x => m (aLoc d) (Shape.reshapeEquiv shapeCasts_S3x131072_S1x393216 x)

/-- The row a word names (the table has 524544). -/
def rowOf (w : BitVec 32) : Fin 524544 := ⟨w.toNat % 524544, Nat.mod_lt _ (by decide)⟩

/-- Word `j` of the list, and element `(r, c)` of the table. -/
abbrev listAt (j : Fin 393216) : S1x393216.Idx := Shape.pair (d := ![1, 393216]) (0 : Fin 1) j
abbrev tableAt (r : Fin 524544) (c : Fin 128) : S524544x128.Idx := Shape.pair (d := ![524544, 128]) r c

/-- The gathered rows: row `x 0` of the result is the row of the table that word `x 0` of the list names. -/
def gathered (d : Dev nD) : Buf (Elt F) (oLoc d) := fun (x : S393216x128.Idx) =>
  m (xLoc d) (tableAt (rowOf (idxList m d (listAt (x 0)))) (x 1))

/-- What the run asks of the launch memory: every word of the list names a row of the table. -/
def PreOK : Prop := ∀ (d : Dev nD) (x : S1x393216.Idx), (idxList m d x).toNat < 524544

end Cert.Proof.RowGather

end
-- ==== Proof.Steps.lean ====
/-
  The five operations of a subcore's run, each as one step from what the subcore holds to what it holds next: the
  fetch of an index block and its wait, the indirect gather of the block's rows with its wait, the write-out of the
  rows and its wait.
-/
module

public import proofs.«01_k».proof.Proof.Setup

@[expose] public section

set_option maxHeartbeats 4000000

noncomputable section

namespace Cert.Proof.RowGather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

/-! ## Values -/

/-- The place in the whole list of word `x` of the subcore's block `n`; the same number is the result row it makes. -/
def place (n : Fin 96) (x : Fin 128) : Fin 393216 := ⟨128 * (base L + n.val) + x.val, by have := base_lt L n; omega⟩

/-- Element `(r, c)` of the result. -/
abbrev outAt (r : Fin 393216) (c : Fin 128) : S393216x128.Idx := Shape.pair (d := ![393216, 128]) r c

/-- Slot `p` of the index scratch holds block `n` of the list. -/
def Listed (n : Fin 96) (p : Fin 2) (f : Buf (Elt F) (sLoc d L)) : Prop :=
  ∀ x : S128.Idx, (lSlot p).view.read (Elt F) f x = idxList m d (listAt (place L n (x 0)))

/-- Slot `p` of the row scratch holds the rows block `n` names. -/
def Filled (n : Fin 96) (p : Fin 2) (g : Buf (Elt F) (rLoc d L)) : Prop :=
  ∀ x : S128x128.Idx, (rSlot p).view.read (Elt F) g x = gathered m d (outAt (place L n (x 0)) (x 1))

theorem emb_list (x : S128.Idx) :
    ((Rect.unit (s := S1x128) ![0, 0] S1x128.size inb_S1x128_S1x128_0_0).emb (Shape.reshapeEquiv squeezes_S1x128_S128.numel_eq x))
      = Shape.pair (d := ![1, 128]) (0 : Fin 1) (x 0) := by
  have e : Shape.reshapeEquiv squeezes_S1x128_S128.numel_eq x = Shape.pair (d := ![1, 128]) (0 : Fin 1) (x 0) :=
    Shape.reshapeEquiv_eq_of_rowMajor _ (by
      refine (Shape.rowMajor_pair_val (d := ![1, 128]) (0 : Fin 1) (x 0)).trans ?_
      refine Eq.trans ?_ (Shape.rowMajor_val_one (d := ![128]) x).symm
      show 0 * 128 + (x 0).val = (x 0).val; omega)
  rw [e]
  funext a
  refine Fin.ext ?_
  match a with
  | 0 => rfl
  | 1 => exact (Nat.zero_add _).trans (Nat.one_mul _)

theorem emb_iBlk (n : Fin 96) (x : Fin 128) :
    (Rect.unit (s := S1x393216) ![0, 128 * (base L + n.val)] S1x128.size (inb_blk_i L n)).emb (Shape.pair (d := ![1, 128]) (0 : Fin 1) x)
      = listAt (place L n x) := by
  funext a
  refine Fin.ext ?_
  match a with
  | 0 => rfl
  | 1 => exact congrArg (128 * (base L + n.val) + ·) (Nat.one_mul _)

theorem emb_oBlk (n : Fin 96) (x : S128x128.Idx) :
    (Rect.unit (s := S393216x128) ![128 * (base L + n.val), 0] S128x128.size (inb_blk_o L n)).emb x = outAt (place L n (x 0)) (x 1) := by
  funext a
  refine Fin.ext ?_
  match a with
  | 0 => exact congrArg (128 * (base L + n.val) + ·) (Nat.one_mul _)
  | 1 => exact (Nat.zero_add _).trans (Nat.one_mul _)

/-- What the fetch of block `n` leaves in slot `p`. -/
theorem listed_fetch (n : Fin 96) (p : Fin 2) (f : Buf (Elt F) (sLoc d L)) :
    Listed m d L n p ((iSlot p).view.write (Elt F) f ((iBlk L n).view.read (Elt F) (idxList m d)) Finset.univ) := by
  intro x
  have h := congrFun (View.read_write_univ (v := (iSlot p).view) (Val := Elt F) f ((iBlk L n).view.read (Elt F) (idxList m d)))
    (Shape.pair (d := ![1, 128]) (0 : Fin 1) (x 0))
  rw [← emb_list x] at h
  refine Eq.trans (Eq.trans ?_ h) ?_
  · rfl
  · rw [emb_list x]
    exact congrArg (idxList m d) (emb_iBlk L n (x 0))

/-- A block's words are in range. -/
theorem listed_lt (hpre : PreOK m) {n : Fin 96} {p : Fin 2} {f : Buf (Elt F) (sLoc d L)} (h : Listed m d L n p f) (x : S128.Idx) :
    ((lSlot p).view.read (Elt F) f x).toNat < S524544x128.size gathers_S524544x128_S128x128.axis := by
  rw [h x]; exact hpre d _

/-- What the gather leaves in slot `p`. -/
theorem filled_gather (hpre : PreOK m) {n : Fin 96} {p : Fin 2} {f : Buf (Elt F) (sLoc d L)} (h : Listed m d L n p f) (g : Buf (Elt F) (rLoc d L))
    (hin : ∀ x, ((lSlot p).view.read (Elt F) f x).toNat < S524544x128.size gathers_S524544x128_S128x128.axis) :
    Filled m d L n p ((rSlot p).view.write (Elt F) g (SparseCore.gatherPayload gathers_S524544x128_S128x128 (xAll.view.read (Elt F) (m (xLoc d)))
      (SparseCore.rows ((lSlot p).view.read (Elt F) f) rfl hin)) Finset.univ) := by
  intro x
  refine (congrFun (View.read_write_univ (v := (rSlot p).view) (Val := Elt F) g _) x).trans ?_
  show m (xLoc d) ((Rect.unit (s := S524544x128) ![0, 0] S524544x128.size inb_S524544x128_S524544x128_0_0).emb _) = m (xLoc d) _
  congr 1
  funext a
  refine Fin.ext ?_
  match a with
  | 0 =>
    refine (Nat.zero_add _).trans ((Nat.one_mul _).trans ?_)
    show ((lSlot p).view.read (Elt F) f _).toNat = (idxList m d (listAt (place L n (x 0)))).toNat % 524544
    rw [Nat.mod_eq_of_lt (hpre d _), h]
    congr 4
    have := Shape.rowMajor_val_one (d := ![128]) (S128.rowMajor.symm ((x 0).cast rfl))
    refine Fin.ext (this.symm.trans ?_)
    exact congrArg Fin.val (Equiv.apply_symm_apply S128.rowMajor _)
  | 1 => exact (Nat.zero_add _).trans (Nat.one_mul _)

/-- What the write-out of a filled slot leaves on the block of the result. -/
theorem written_out {n : Fin 96} {p : Fin 2} {g : Buf (Elt F) (rLoc d L)} (h : Filled m d L n p g) (f : Buf (Elt F) (oLoc d)) :
    ∀ i ∈ (oBlk L n).view.set, (oBlk L n).view.write (Elt F) f ((rSlot p).view.read (Elt F) g) Finset.univ i = gathered m d i := by
  intro i hi
  obtain ⟨x, -, rfl⟩ := Finset.mem_map.1 hi
  refine (View.write_emb_of_mem (v := (oBlk L n).view) (Val := Elt F) f ((rSlot p).view.read (Elt F) g) (Finset.mem_univ x)).trans ?_
  refine (h x).trans ?_
  show _ = gathered m d ((Rect.unit (s := S393216x128) ![128 * (base L + n.val), 0] S128x128.size (inb_blk_o L n)).emb x)
  rw [emb_oBlk]

theorem set_lSlot (p : Fin 2) : (lSlot p).view.set = (iSlot p).view.set := by
  refine (View.set_reshape ((iSlot p).view.slice (Rect.unit (s := S1x128) ![0, 0] S1x128.size inb_S1x128_S1x128_0_0)) _).trans ?_
  rw [View.set_slice]
  have : (Rect.unit (s := S1x128) ![0, 0] S1x128.size inb_S1x128_S1x128_0_0).set = Finset.univ := by
    ext x
    rw [Rect.mem_set_unit]
    have h0 : (x 0).val < 1 := (x 0).isLt
    have h1 : (x 1).val < 128 := (x 1).isLt
    refine iff_of_true (Fin.forall_fin_two.mpr ⟨⟨Nat.zero_le _, ?_⟩, ⟨Nat.zero_le _, ?_⟩⟩) (Finset.mem_univ _)
    · show (x 0).val < 0 + 1; omega
    · show (x 1).val < 0 + 128; omega
  rw [this]; rfl

theorem set_xAll : xAll.view.set = Finset.univ := by
  refine (View.set_slice_whole main_arg0_scv _).trans ?_
  ext x
  rw [Rect.mem_set_unit]
  have h0 : (x 0).val < 524544 := (x 0).isLt
  have h1 : (x 1).val < 128 := (x 1).isLt
  refine iff_of_true (Fin.forall_fin_two.mpr ⟨⟨Nat.zero_le _, ?_⟩, ⟨Nat.zero_le _, ?_⟩⟩) (Finset.mem_univ _)
  · show (x 0).val < 0 + 524544; omega
  · show (x 1).val < 0 + 128; omega

/-! ## What a subcore holds -/

abbrev ICell (p : Fin 2) : GSem nD τ sig := (thr d L, .dma (iSem p).sem)
abbrev RCell (p : Fin 2) : GSem nD τ sig := (thr d L, .dma (rSem p).sem)
abbrev GCell : GSem nD τ sig := (thr d L, .dma cc0_scoped4.sem)

/-- Slot `p` of the index scratch with nothing under way, its half of the list's share, and its semaphore at zero. -/
def idxIdle (p : Fin 2) : sProp 𝕄 :=
  iprop((∃ f, sLoc d L ↦[(iSlot p).view.set]{fullShare} f) ∗ (iLoc d ↦{half L p} idxList m d) ∗ semVal (ICell d L p) 0)
/-- The fetch of block `n` into slot `p` under way. -/
def idxBusy (n : Fin 96) (p : Fin 2) : sProp 𝕄 :=
  iprop((iLoc d ↦[Finset.univ \ (iBlk L n).view.set]{half L p} idxList m d)
    ∗ Transfers.Flight countersEmb (thr d L) (.dma (iSem p).sem) (default : HIx 1) (iSlot p).view.dmaCredit
        iprop((∃ f, ⌜Listed m d L n p f⌝ ∗ sLoc d L ↦[(iSlot p).view.set]{fullShare} f)
          ∗ iLoc d ↦[(iBlk L n).view.set]{half L p} idxList m d))
/-- Slot `p` of the index scratch at block `n`. -/
def idxFull (n : Fin 96) (p : Fin 2) : sProp 𝕄 :=
  iprop((∃ f, ⌜Listed m d L n p f⌝ ∗ sLoc d L ↦[(iSlot p).view.set]{fullShare} f) ∗ (iLoc d ↦{half L p} idxList m d) ∗ semVal (ICell d L p) 0)

/-- Slot `p` of the row scratch with nothing under way, and its semaphore at zero. -/
def rowIdle (p : Fin 2) : sProp 𝕄 :=
  iprop((∃ g, rLoc d L ↦[(rSlot p).view.set]{fullShare} g) ∗ semVal (RCell d L p) 0)
/-- Slot `p` of the row scratch at the rows of block `n`. -/
def rowFull (n : Fin 96) (p : Fin 2) : sProp 𝕄 :=
  iprop((∃ g, ⌜Filled m d L n p g⌝ ∗ rLoc d L ↦[(rSlot p).view.set]{fullShare} g) ∗ semVal (RCell d L p) 0)
/-- The write-out of block `n` from slot `p` under way. -/
def rowBusy (n : Fin 96) (p : Fin 2) : sProp 𝕄 :=
  Transfers.Flight countersEmb (thr d L) (.dma (rSem p).sem) (default : HIx 1) (oBlk L n).view.dmaCredit
    iprop((oLoc d ↦[(oBlk L n).view.set]{fullShare} gathered m d) ∗ ∃ g, rLoc d L ↦[(rSlot p).view.set]{fullShare} g)

/-- What the subcore owes, its waits recorded. -/
def owing (O : CellTallies nD τ sig (HIx 1)) (W : Waits sig (HIx 1)) : sProp 𝕄 :=
  iprop(∃ W', ⌜∀ p ∈ W', p ∈ W ∨ p.2 = none⌝ ∗ owes (thr d L) O W')

theorem owing_elim {O : CellTallies nD τ sig (HIx 1)} {W : Waits sig (HIx 1)} :
    (owing d L O W : sProp 𝕄) ⊢ iprop(∃ W', ⌜∀ p ∈ W', p ∈ W ∨ p.2 = none⌝ ∗ owes (thr d L) O W') := Entails.of_eq rfl

theorem owing_insert {O : CellTallies nD τ sig (HIx 1)} {W W' : Waits sig (HIx 1)} (h : ∀ p ∈ W', p ∈ W ∨ p.2 = none) (s : SemLoc sig) :
    (owes (thr d L) O (insert (s, (default : HIx 1)) W') : sProp 𝕄) ⊢ owing d L O W := by
  unfold owing
  iintro H
  iexists (insert (s, (default : HIx 1)) W'); isplitr
  · ipureintro; intro p hp
    rcases Finset.mem_insert.mp hp with hp | hp
    · exact .inr (hp ▸ rfl)
    · exact h p hp
  · iexact H

/-! ## The steps -/

variable [FloatOps F]
variable {O : CellTallies nD τ sig (HIx 1)} {W : Waits sig (HIx 1)}
variable {α : Type}
variable {Q : α → sProp (MT nD τ sig (HIx 1) (Elt F) ℕ UU ℕ)}
variable {k : PUnit → Prog (TpuEff nD τ sig (Elt F) Λ₀ (.scVector (cV L) (jV L))) α}

theorem step_fetch (n : Fin 96) (p : Fin 2) {src : Memref sig .scVector .hbm S1x128 .i32} {dst : Memref sig .scVector .vmem S1x128 .i32}
    {sem : DmaSems sig S_} (es : src = iBlk L n) (ed : dst = iSlot p) (em : sem = iSem p)
    {h1 : src.view.WordExact} {h2 : dst.view.WordExact} {h3 : DmaTarget.Typed (nD := nD) (p := (thr d L).2) .hbm (.dma sem.sem) (.here dst)} :
    idxIdle m d L p ⊢ iprop((idxBusy m d L n p -∗ wp frame (wpE (defs₀ (F := F)) 𝒱₀ (thr d L) none) Set.univ (k ⟨⟩) Q)
      -∗ wp frame (wpE (defs₀ (F := F)) 𝒱₀ (thr d L) none) Set.univ (.op (.enqueueDma src (.here dst) (.dma sem.sem) h1 h2 h3) k) Q) := by
  subst es ed em
  unfold idxIdle idxBusy
  iintro ⟨⟨%f, Hf⟩, Hi, Hv⟩ Hk
  ihave Hi' := (pointsTo_split_subset (q := half L p) (f := idxList m d) (S := Finset.univ) (Finset.subset_univ (iBlk L n).view.set)).1 $$ Hi
  icases Hi' with ⟨Hi, Hr⟩
  iapply (Transfers.wp_dmaLocal countersEmb 𝒱₀ (thr d L) none (default : HIx 1) (iSlot p).view.dmaCredit rfl
    (View.dmaCredit_pos _ (show 0 < S1x128.numel by decide)) (Finset.Subset.refl _)) $$ [Hi Hf Hv]
  · isplitl [Hi]; · iexact Hi
    isplitl [Hf]; · iexact Hf
    iexact Hv
  iintro Hfl
  iapply Hk
  isplitl [Hr]; · iexact Hr
  iapply (Transfers.Flight_mono countersEmb (thr d L) (D := iprop((sLoc d L ↦[(iSlot p).view.set]{fullShare}
      (iSlot p).view.write (Elt F) f ((iBlk L n).view.read (Elt F) (idxList m d)) Finset.univ) ∗ iLoc d ↦[(iBlk L n).view.set]{half L p} idxList m d)) (by
    iintro ⟨Hs, Hi⟩
    isplitl [Hs]
    · iexists _; isplitr
      swap; · iexact Hs
      ipureintro; exact listed_fetch m d L n p f
    · iexact Hi)) $$ Hfl

theorem step_fetchWait (n : Fin 96) (p : Fin 2) {src : Memref sig .scVector .hbm S1x128 .i32} {dst : Memref sig .scVector .vmem S1x128 .i32}
    {sem : DmaSems sig S_} (ed : dst = iSlot p) (em : sem = iSem p) {h1 : src.view.WordExact} {h2 : dst.view.WordExact} :
    iprop(Transfers.MayWaits (thr d L) (default : HIx 1) O ∗ owing d L O W ∗ idxBusy m d L n p)
      ⊢ iprop((iprop(owing d L O W ∗ idxFull m d L n p) -∗ wp frame (wpE (defs₀ (F := F)) 𝒱₀ (thr d L) none) Set.univ (k ⟨⟩) Q)
      -∗ wp frame (wpE (defs₀ (F := F)) 𝒱₀ (thr d L) none) Set.univ (.op (.waitDma2 sem.sem src dst h1 h2) k) Q) := by
  subst ed em
  unfold idxBusy idxFull
  iintro ⟨Hmw, HO, Hr, Hfl⟩ Hk
  ihave HO' := (owing_elim d L) $$ HO
  icases HO' with ⟨%W', %hW', HO⟩
  iapply (Transfers.wp_waitLocalO countersEmb 𝒱₀ (thr d L) none (default : HIx 1) (rfl : (iSlot p).view.dmaCredit = _)) $$ [Hfl HO Hmw]
  · isplitl [Hfl]; · iexact Hfl
    isplitl [HO]; · iexact HO
    iapply (Transfers.MayWaits.elim (SemLoc.dma (iSem p).sem)) $$ Hmw
  iintro ⟨⟨Hs, Hi⟩, Hv, HO⟩
  iapply Hk
  isplitl [HO]; · iapply (owing_insert d L hW' _) $$ HO
  isplitl [Hs]; · iexact Hs
  isplitl [Hi Hr]
  · iapply (pointsTo_split_subset (q := half L p) (f := idxList m d) (S := Finset.univ) (Finset.subset_univ (iBlk L n).view.set)).2
    isplitl [Hi] <;> iassumption
  iexact Hv

theorem step_write (n : Fin 96) (p : Fin 2) {src : Memref sig .scVector .vmem S128x128 .f32} {dst : Memref sig .scVector .hbm S128x128 .f32}
    {sem : DmaSems sig S_} (es : src = rSlot p) (ed : dst = oBlk L n) (em : sem = rSem p) (f : Buf (Elt F) (oLoc d))
    {h1 : src.view.WordExact} {h2 : dst.view.WordExact} {h3 : DmaTarget.Typed (nD := nD) (p := (thr d L).2) .vmem (.dma sem.sem) (.here dst)} :
    iprop(rowFull m d L n p ∗ oLoc d ↦[(oBlk L n).view.set]{fullShare} f)
      ⊢ iprop((rowBusy m d L n p -∗ wp frame (wpE (defs₀ (F := F)) 𝒱₀ (thr d L) none) Set.univ (k ⟨⟩) Q)
      -∗ wp frame (wpE (defs₀ (F := F)) 𝒱₀ (thr d L) none) Set.univ (.op (.enqueueDma src (.here dst) (.dma sem.sem) h1 h2 h3) k) Q) := by
  subst es ed em
  unfold rowFull rowBusy
  iintro ⟨⟨⟨%g, %hg, Hg⟩, Hv⟩, Ho⟩ Hk
  iapply (Transfers.wp_dmaLocal countersEmb 𝒱₀ (thr d L) none (default : HIx 1) (oBlk L n).view.dmaCredit rfl
    (View.dmaCredit_pos _ (show 0 < S128x128.numel by decide)) (Finset.Subset.refl _)) $$ [Hg Ho Hv]
  · isplitl [Hg]; · iexact Hg
    isplitl [Ho]; · iexact Ho
    iexact Hv
  iintro Hfl
  iapply Hk
  iapply (Transfers.Flight_mono countersEmb (thr d L) (D := iprop((oLoc d ↦[(oBlk L n).view.set]{fullShare}
      (oBlk L n).view.write (Elt F) f ((rSlot p).view.read (Elt F) g) Finset.univ) ∗ rLoc d L ↦[(rSlot p).view.set]{fullShare} g)) (by
    iintro ⟨Ho, Hs⟩
    isplitl [Ho]
    · iapply (Entails.of_eq (pointsTo_congr (q := fullShare) (written_out m d L hg f))) $$ Ho
    · iexists _; iexact Hs)) $$ Hfl

theorem step_writeWait (n : Fin 96) (p : Fin 2) {src : Memref sig .scVector .vmem S128x128 .f32} {dst : Memref sig .scVector .hbm S128x128 .f32}
    {sem : DmaSems sig S_} (ed : dst = oBlk L n) (em : sem = rSem p) {h1 : src.view.WordExact} {h2 : dst.view.WordExact} :
    iprop(Transfers.MayWaits (thr d L) (default : HIx 1) O ∗ owing d L O W ∗ rowBusy m d L n p)
      ⊢ iprop((iprop(owing d L O W ∗ rowIdle d L p ∗ oLoc d ↦[(oBlk L n).view.set]{fullShare} gathered m d)
            -∗ wp frame (wpE (defs₀ (F := F)) 𝒱₀ (thr d L) none) Set.univ (k ⟨⟩) Q)
      -∗ wp frame (wpE (defs₀ (F := F)) 𝒱₀ (thr d L) none) Set.univ (.op (.waitDma2 sem.sem src dst h1 h2) k) Q) := by
  subst ed em
  unfold rowBusy rowIdle
  iintro ⟨Hmw, HO, Hfl⟩ Hk
  ihave HO' := (owing_elim d L) $$ HO
  icases HO' with ⟨%W', %hW', HO⟩
  iapply (Transfers.wp_waitLocalO countersEmb 𝒱₀ (thr d L) none (default : HIx 1) (rfl : (oBlk L n).view.dmaCredit = _)) $$ [Hfl HO Hmw]
  · isplitl [Hfl]; · iexact Hfl
    isplitl [HO]; · iexact HO
    iapply (Transfers.MayWaits.elim (SemLoc.dma (rSem p).sem)) $$ Hmw
  iintro ⟨⟨Ho, Hs⟩, Hv, HO⟩
  iapply Hk
  isplitl [HO]; · iapply (owing_insert d L hW' _) $$ HO
  isplitr [Ho]
  · isplitl [Hs] <;> iassumption
  · iexact Ho

theorem credit_rows (p : Fin 2) : ∑ j, ((rSlot p).slice (S128x128.rowRect gathers_S524544x128_S128x128.axis' j)
    (S128x128.stride_rowRect gathers_S524544x128_S128x128.axis' j)).view.dmaCredit = (rSlot p).view.dmaCredit :=
  SparseCore.sum_rowCredit_eq_dmaCredit (rSlot p) _ (fun _ => rfl)

/-- The gather of block `n`'s rows and its wait. -/
theorem step_gather (hpre : PreOK m) (n : Fin 96) (p : Fin 2) {src srcw : Memref sig .scVector .hbm S524544x128 .f32}
    {dst dstw : Memref sig .scVector .vmem S128x128 .f32} {offs : Memref sig .scVector .vmem S128 .i32}
    (es : src = xAll) (ed : dst = rSlot p) (ew : dstw = rSlot p) (eo : offs = lSlot p)
    {h1 : src.view.WordExact} {h2 : srcw.view.WordExact} {h3 : dstw.view.WordExact} {hn : S128.numel = S128x128.size gathers_S524544x128_S128x128.axis'}
    {hp : (thr d L).2.kind = .scVector} {he : EltTy.f32.bits = 32} {hsp : Space.hbm = .hbm ∨ Space.hbm = .shared} {hr : S524544x128.StreamRows 0} :
    iprop(Transfers.MayWaits (thr d L) (default : HIx 1) O ∗ owing d L O W ∗ idxFull m d L n p ∗ rowIdle d L p
        ∗ (xLoc d ↦{shareOf L} m (xLoc d)) ∗ semVal (GCell d L) 0)
      ⊢ iprop((iprop(owing d L O W ∗ idxIdle m d L p ∗ rowFull m d L n p ∗ (xLoc d ↦{shareOf L} m (xLoc d)) ∗ semVal (GCell d L) 0)
            -∗ wp frame (wpE (defs₀ (F := F)) 𝒱₀ (thr d L) none) Set.univ (k ⟨⟩) Q)
      -∗ wp frame (wpE (defs₀ (F := F)) 𝒱₀ (thr d L) none) Set.univ
          (SparseCore.enqueueIndirectGather (p := (thr d L).2) hp src dst gathers_S524544x128_S128x128 offs hn cc0_scoped4.sem h1 he hsp hr
            >>= fun _ => .op (.waitDma2 cc0_scoped4.sem srcw dstw h2 h3) k) Q) := by
  subst es ed ew eo
  unfold idxFull idxIdle rowIdle rowFull
  iintro ⟨Hmw, HO, ⟨⟨%f, %hf, Hf⟩, Hi, Hvi⟩, ⟨⟨%g, Hg⟩, Hvr⟩, Hx, Hv⟩ Hk
  iapply (SparseCore.wp_indirectGatherLocal countersEmb 𝒱₀ (thr d L) none (hg := gathers_S524544x128_S128x128) (default : HIx 1)
      (rSlot p).view.dmaCredit (credit_rows p) (by decide) (listed_lt m d L hpre hf)) $$ [Hx Hg Hf Hv]
  · isplitl [Hx]; · rw [set_xAll]; iexact Hx
    isplitl [Hg]; · iexact Hg
    isplitl [Hf]; · rw [set_lSlot]; iexact Hf
    iexact Hv
  iintro Hfl
  ihave HO' := (owing_elim d L) $$ HO
  icases HO' with ⟨%W', %hW', HO⟩
  iapply (Transfers.wp_waitLocalO countersEmb 𝒱₀ (thr d L) none (default : HIx 1) (rfl : (rSlot p).view.dmaCredit = _)) $$ [Hfl HO Hmw]
  · isplitl [Hfl]; · iexact Hfl
    isplitl [HO]; · iexact HO
    iapply (Transfers.MayWaits.elim (SemLoc.dma cc0_scoped4.sem)) $$ Hmw
  iintro ⟨⟨Hg, Hx, Hf⟩, Hv, HO⟩
  iapply Hk
  isplitl [HO]; · iapply (owing_insert d L hW' _) $$ HO
  isplitl [Hf Hi Hvi]
  · isplitl [Hf]; · iexists _; rw [set_lSlot]; iexact Hf
    isplitl [Hi] <;> iassumption
  isplitl [Hg Hvr]
  · isplitl [Hg]
    · iexists _; isplitr
      swap; · iexact Hg
      ipureintro; exact filled_gather m d L hpre hf g _
    · iexact Hvr
  isplitl [Hx]; · rw [set_xAll]; iexact Hx
  iexact Hv

end Cert.Proof.RowGather

end
-- ==== Proof.Trip.lean ====
/-
  One trip of the counted loop of a subcore: the next block's words are fetched, the present block's words are waited
  for, its rows are gathered and sent out, and the write-out begun a trip earlier is waited for.
-/
module

public import proofs.«01_k».proof.Proof.Steps

@[expose] public section

noncomputable section

namespace Cert.Proof.RowGather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

/-- The slot that block `k` uses. -/
def slot (k : ℕ) : Fin 2 := ⟨k % 2, Nat.mod_lt _ (by decide)⟩

theorem slot_add_two (k : ℕ) : slot (k + 1 + 1) = slot k := Fin.ext (by simp only [slot]; omega)
theorem slot_pred {k : ℕ} (h : 0 < k) : slot (k - 1) = slot (k + 1) := Fin.ext (by simp only [slot]; omega)

/-- The first result row of the subcore. -/
abbrev row₀ : ℕ := 128 * base L

/-- Rows `a` to `b` of the result at contents `f`. -/
abbrev rowsAt (a b : ℕ) (f : Buf (Elt F) (oLoc d)) : sProp 𝕄 := oLoc d ↦[rowsOf a b]{fullShare} f

theorem rowsAt_split {a b c : ℕ} (h : a ≤ b) (h' : b ≤ c) (f : Buf (Elt F) (oLoc d)) :
    (rowsAt d a c f : sProp 𝕄) = iprop(rowsAt d a b f ∗ rowsAt d b c f) := by
  show (oLoc d ↦[rowsOf a c]{fullShare} f : sProp 𝕄) = iprop((oLoc d ↦[rowsOf a b]{fullShare} f) ∗ oLoc d ↦[rowsOf b c]{fullShare} f)
  rw [← rowsOf_union h h']
  exact BI.Entails.antisymm (pointsTo_union (rowsOf_disjoint le_rfl)).1 (pointsTo_union (rowsOf_disjoint le_rfl)).2

theorem rowsAt_blk (n : Fin 96) (f : Buf (Elt F) (oLoc d)) :
    (oLoc d ↦[(oBlk L n).view.set]{fullShare} f : sProp 𝕄) = rowsAt d (row₀ L + 128 * n.val) (row₀ L + 128 * n.val + 128) f := by
  rw [set_oBlk, Nat.mul_add]

/-- Before trip `k`: block `k` of the list on its way into its slot; after the last trip, the slot idle. -/
def nextIdx (k : ℕ) : sProp 𝕄 := if h : k < 96 then idxBusy m d L ⟨k, h⟩ (slot k) else idxIdle m d L (slot k)
/-- Before trip `k`: block `k - 1` of the rows on its way out; before the first trip, its slot idle. -/
def lastRow (k : ℕ) : sProp 𝕄 := if h : 0 < k ∧ k - 1 < 96 then rowBusy m d L ⟨k - 1, h.2⟩ (slot (k + 1)) else rowIdle d L (slot (k + 1))

theorem nextIdx_of {k : ℕ} (h : k < 96) : nextIdx m d L k = idxBusy m d L ⟨k, h⟩ (slot k) := by unfold nextIdx; rw [dif_pos h]
theorem nextIdx_last {k : ℕ} (h : ¬ k < 96) : nextIdx m d L k = idxIdle m d L (slot k) := by unfold nextIdx; rw [dif_neg h]
theorem lastRow_of {k : ℕ} (h : 0 < k) (h' : k - 1 < 96) : lastRow m d L k = rowBusy m d L ⟨k - 1, h'⟩ (slot (k + 1)) := by
  unfold lastRow; rw [dif_pos ⟨h, h'⟩]
theorem lastRow_zero : lastRow m d L 0 = rowIdle d L (slot 1) := by unfold lastRow; rw [dif_neg (by omega)]

/-- What a subcore holds before trip `k`. -/
def inv (O : CellTallies nD τ sig (HIx 1)) (W : Waits sig (HIx 1)) (k : ℕ) (acc : BitVec 32 × BitVec 32 × BitVec 32 × BitVec 32 × BitVec 32) : sProp 𝕄 :=
  iprop(⌜acc = carried k⌝ ∗ Transfers.MayWaits (thr d L) (default : HIx 1) O ∗ owing d L O W
    ∗ nextIdx m d L k ∗ idxIdle m d L (slot (k + 1)) ∗ lastRow m d L k ∗ rowIdle d L (slot k)
    ∗ rowsAt d (row₀ L) (row₀ L + 128 * (k - 1)) (gathered m d)
    ∗ rowsAt d (row₀ L + 128 * k) (row₀ L + 12288) (m (oLoc d))
    ∗ (xLoc d ↦{shareOf L} m (xLoc d)) ∗ semVal (GCell d L) 0)

variable [FloatOps F]

/-- The number of the subcore's first block, as the program computes it. -/
abbrev firstWord (L : grid0.Coords) : BitVec 32 :=
  Scalar.muli (Scalar.addi (Scalar.addi 0#32 (Scalar.muli (BitVec.ofNat 32 (L 1).val) 1#32)) (Scalar.muli (BitVec.ofNat 32 (L 0).val) 16#32)) 96#32

/-- What the first part of a trip returns: the bounds it has checked, and its words. -/
abbrev Fetched (L : grid0.Coords) (k : Fin k0_t1_loop.trips) : Type :=
  Σ' (_ : k0_chk3 (BitVec.ofNat 32 k.val)) (_ : k0_chk2 (BitVec.ofNat 32 k.val))
    (_ : k0_chk1 L k (BitVec.ofNat 32 (min (k.val + 1) 96)) (BitVec.ofNat 32 k.val) (BitVec.ofNat 32 k.val) (BitVec.ofNat 32 (k.val - 1)) (BitVec.ofNat 32 k.val))
    (_ : BitVec 32) (_ : BitVec 1) (_ : BitVec 1) (_ : BitVec 32) (_ : BitVec 32) (_ : BitVec 32) (_ : BitVec 32), BitVec 1

/-- The program's words after the first part of trip `k`: what the later parts compute with. -/
abbrev words (L : grid0.Coords) (k : Fin k0_t1_loop.trips) :
    Σ' (_ : BitVec 32) (_ : BitVec 1) (_ : BitVec 1) (_ : BitVec 32) (_ : BitVec 32) (_ : BitVec 32) (_ : BitVec 32), BitVec 1 :=
  let a5 : BitVec 32 := Scf.iv 0#32 1#32 k
  let a6 : BitVec 32 := BitVec.ofNat 32 (min (k.val + 1) 96)
  let a10 : BitVec 32 := BitVec.ofNat 32 k.val
  let v68 := Scalar.select 1#1 (Scalar.subi a10 1#32) a10
  let v70 := Scalar.select (Scalar.cmpi .eq v68 4294967295#32) 95#32 v68
  let v73 := Scalar.select 1#1 (Scalar.addi a10 1#32) a10
  let v75 := Scalar.select (Scalar.cmpi .eq v73 96#32) 0#32 v73
  let v66 := Scalar.addi a10 (firstWord L)
  let v71 := Scalar.addi v70 (firstWord L)
  let v76 := Scalar.addi v75 (firstWord L)
  ⟨a5, Scalar.cmpi .eq a5 0#32, Scalar.cmpi .eq a5 95#32, v66, v71, v76,
    Scalar.select (Scalar.andi (Scalar.andi (Scalar.cmpi .ne v66 v76) (Scalar.xori (Scalar.cmpi .sge a5 95#32) 1#1)) 1#1) (Scalar.addi a6 1#32) a6,
    Scalar.cmpi .ne v66 v71⟩

set_option maxHeartbeats 8000000 in
theorem trip_fetch (k : Fin k0_t1_loop.trips) (hk : k.val < 96) (Φ : Fetched L k → sProp (MT nD τ sig (HIx 1) (Elt F) ℕ UU ℕ)) :
    idxIdle m d L (slot (k.val + 1)) ⊢ iprop((∀ r, ⌜r.2.2.2 = words L k⌝ -∗ nextIdx m d L (k.val + 1) -∗ Φ r)
      -∗ wp frame (wpE (defs₀ (F := F)) 𝒱₀ (thr d L) none) Set.univ
      (k0_part1 L (Memref.whole main_arg0_scv) (Memref.isWhole_whole _) (Memref.whole main_v0_scv) (Memref.isWhole_whole _)
        (Memref.whole main_v1_scv) (Memref.isWhole_whole _) (Memref.whole cc0_scoped0) (Memref.isWhole_whole _) cc0_scoped1
        (Memref.whole cc0_scoped2) (Memref.isWhole_whole _) cc0_scoped3 cc0_scoped4 (firstWord L) 0#32 1#32 k
        (BitVec.ofNat 32 (min (k.val + 1) 96)) (BitVec.ofNat 32 k.val) (BitVec.ofNat 32 k.val) (BitVec.ofNat 32 (k.val - 1)) (BitVec.ofNat 32 k.val)) Φ) := by
  iintro Hii HΦ
  simp only [k0_part1_eq_skeleton]
  unfold k0_part1_skel
  simp only [Prog.lift, Prog.bind_op, Prog.bind_ret, Prog.pure_eq_ret, Prog.bind_assoc]
  iapply (wp_assume 𝒱₀ (thr d L) none Set.univ (chk3_at ⟨k.val, hk⟩))
  iapply (wp_assume 𝒱₀ (thr d L) none Set.univ (chk2_at ⟨k.val, hk⟩))
  iapply (wp_assume 𝒱₀ (thr d L) none Set.univ (chk1_at L k))
  by_cases h1 : k.val < 95
  · rw [dif_pos ((cond1_at L k).mpr h1)]
    iapply (step_fetch m d L ⟨k.val + 1, by omega⟩ (slot (k.val + 1)) (iBlk_of L ⟨k.val + 1, by omega⟩ (off5_at L ⟨k.val, hk⟩ h1))
      (iSlot_of _ (off4_at ⟨k.val, hk⟩)) (iSem_of _ (off6_at ⟨k.val, hk⟩))) $$ Hii
    iintro Hni
    rw [wp_ret]; imodintro
    iapply HΦ $$ []
    · ipureintro; rfl
    iapply (Entails.of_eq (nextIdx_of m d L (show k.val + 1 < 96 by omega)).symm) $$ Hni
  · rw [dif_neg (fun h => h1 ((cond1_at L k).mp h))]
    rw [wp_ret]; imodintro
    iapply HΦ $$ []
    · ipureintro; rfl
    iapply (Entails.of_eq (nextIdx_last m d L (show ¬ k.val + 1 < 96 by omega)).symm) $$ Hii

set_option maxHeartbeats 8000000 in
theorem trip_gather (hpre : PreOK m) (k : Fin k0_t1_loop.trips) (hk : k.val < 96) (O : CellTallies nD τ sig (HIx 1)) (W : Waits sig (HIx 1))
    (hw3 : k0_chk3 (BitVec.ofNat 32 k.val)) (hw2 : k0_chk2 (BitVec.ofNat 32 k.val))
    (hw1 : k0_chk1 L k (BitVec.ofNat 32 (min (k.val + 1) 96)) (BitVec.ofNat 32 k.val) (BitVec.ofNat 32 k.val) (BitVec.ofNat 32 (k.val - 1)) (BitVec.ofNat 32 k.val))
    (a5 : BitVec 32) (v64 v65 : BitVec 1) (v66 v71 v76 : BitVec 32) (v96 : BitVec 1)
    (Φ : PUnit → sProp (MT nD τ sig (HIx 1) (Elt F) ℕ UU ℕ)) :
    iprop(Transfers.MayWaits (thr d L) (default : HIx 1) O ∗ owing d L O W ∗ nextIdx m d L k.val ∗ rowIdle d L (slot k.val)
      ∗ (xLoc d ↦{shareOf L} m (xLoc d)) ∗ semVal (GCell d L) 0) ⊢
    iprop((owing d L O W -∗ idxIdle m d L (slot k.val) -∗ rowFull m d L ⟨k.val, hk⟩ (slot k.val)
        -∗ (xLoc d ↦{shareOf L} m (xLoc d)) -∗ semVal (GCell d L) 0 -∗ Φ ⟨⟩)
      -∗ wp frame (wpE (defs₀ (F := F)) 𝒱₀ (thr d L) none) Set.univ
      (k0_part2 L (Memref.whole main_arg0_scv) (Memref.isWhole_whole _) (Memref.whole main_v0_scv) (Memref.isWhole_whole _)
        (Memref.whole main_v1_scv) (Memref.isWhole_whole _) (Memref.whole cc0_scoped0) (Memref.isWhole_whole _) cc0_scoped1
        (Memref.whole cc0_scoped2) (Memref.isWhole_whole _) cc0_scoped3 cc0_scoped4 k
        (BitVec.ofNat 32 (min (k.val + 1) 96)) (BitVec.ofNat 32 k.val) (BitVec.ofNat 32 k.val) (BitVec.ofNat 32 (k.val - 1)) (BitVec.ofNat 32 k.val)
        hw3 hw2 hw1 a5 v64 v65 v66 v71 v76 v96) Φ) := by
  iintro ⟨#Hmw, HO, Hni, Hri, Hx, Hg⟩ HΦ
  simp only [k0_part2_eq_skeleton]
  unfold k0_part2_skel
  simp only [ite_self, dif_pos (cond2_at L k)]
  simp only [Prog.lift, Prog.bind_op, Prog.bind_ret, Prog.pure_eq_ret, Prog.bind_assoc]
  iapply (step_fetchWait m d L ⟨k.val, hk⟩ (slot k.val) (iSlot_of _ (off7_at ⟨k.val, hk⟩)) (iSem_of _ (off9_at ⟨k.val, hk⟩))) $$ [HO Hni]
  · isplitl []; · iexact Hmw
    isplitl [HO]; · iexact HO
    iapply (Entails.of_eq (nextIdx_of m d L hk)) $$ Hni
  iintro ⟨HO, Hf⟩
  iapply (step_gather m d L hpre ⟨k.val, hk⟩ (slot k.val) rfl (rSlot_of _ (off10_at ⟨k.val, hk⟩))
    (rSlot_of _ (off10_at ⟨k.val, hk⟩)) (congrArg (fun r : Memref sig .scVector .vmem S1x128 .i32 =>
      (r.slice (Rect.unit (s := S1x128) ![0, 0] S1x128.size inb_S1x128_S1x128_0_0) (fun _ => rfl)).squeeze S128 squeezes_S1x128_S128)
      (iSlot_of _ (off11_at ⟨k.val, hk⟩)))) $$ [HO Hf Hri Hx Hg]
  · isplitl []; · iexact Hmw
    isplitl [HO]; · iexact HO
    isplitl [Hf]; · iexact Hf
    isplitl [Hri]; · iexact Hri
    isplitl [Hx]; · iexact Hx
    iexact Hg
  iintro ⟨HO, Hii, Hrf, Hx, Hg⟩
  simp only [Prog.bind]
  rw [wp_ret]; imodintro
  iapply HΦ $$ HO Hii Hrf Hx Hg

/-- The words trip `k` yields, from those of its first part. -/
abbrev yielded (L : grid0.Coords) (k : Fin k0_t1_loop.trips) : BitVec 32 × BitVec 32 × BitVec 32 × BitVec 32 × BitVec 32 :=
  let ⟨_, v64, v65, v66, v71, v76, v91, _⟩ := words L k
  let w := BitVec.ofNat 32 k.val
  let w' := BitVec.ofNat 32 (k.val - 1)
  let v141 := Scalar.select 1#1 (Scalar.addi w 1#32) w
  (v91, Scalar.select (Scalar.ori (Scalar.cmpi .ne v66 v76) v65) (Scalar.addi w 1#32) w,
    Scalar.select (Scalar.andi (Scalar.ori (Scalar.cmpi .ne v66 v76) v65) 1#1) (Scalar.addi w 1#32) w,
    Scalar.select (Scalar.andi (Scalar.andi (Scalar.cmpi .ne v66 v71) (Scalar.xori v64 1#1)) 1#1) (Scalar.addi w' 1#32) w',
    Scalar.select (Scalar.cmpi .eq v141 96#32) 0#32 v141)

/-- They are those the next trip starts from. -/
theorem yielded_eq : ∀ (L : grid0.Coords) (k : Fin k0_t1_loop.trips), yielded L k = carried (k.val + 1) := by
  decide +kernel

set_option maxHeartbeats 8000000 in
theorem trip (hpre : PreOK m) (O : CellTallies nD τ sig (HIx 1)) (W : Waits sig (HIx 1)) (k : Fin k0_t1_loop.trips)
    (acc : BitVec 32 × BitVec 32 × BitVec 32 × BitVec 32 × BitVec 32) :
    inv m d L O W k.val acc ⊢
      wp frame (wpE (defs₀ (F := F)) 𝒱₀ (thr d L) none) Set.univ
        (k0_t1_body L (Memref.whole main_arg0_scv) (Memref.isWhole_whole _) (Memref.whole main_v0_scv) (Memref.isWhole_whole _)
          (Memref.whole main_v1_scv) (Memref.isWhole_whole _) (Memref.whole cc0_scoped0) (Memref.isWhole_whole _) cc0_scoped1
          (Memref.whole cc0_scoped2) (Memref.isWhole_whole _) cc0_scoped3 cc0_scoped4 (firstWord L) k acc)
        fun acc' => inv m d L O W (k.val + 1) acc' := by
  have hk : k.val < 96 := trips_eq ▸ k.isLt
  have hk1 : k.val - 1 < 96 := by omega
  unfold inv
  iintro ⟨%hacc, #Hmw, HO, Hni, Hii, Hlr, Hri, Hdone, Htodo, Hx, Hg⟩
  have hc : carried k.val = (BitVec.ofNat 32 (min (k.val + 1) 96), BitVec.ofNat 32 k.val, BitVec.ofNat 32 k.val, BitVec.ofNat 32 (k.val - 1), BitVec.ofNat 32 k.val) := by
    unfold carried; rw [if_neg (by omega)]
  rw [hc] at hacc
  subst hacc
  unfold k0_t1_body
  dsimp only
  rw [wp_bind]
  iapply (trip_fetch m d L k hk) $$ Hii
  iintro %r %hr Hni'
  obtain ⟨hw3, hw2, hw1, w⟩ := r
  dsimp only at hr
  subst hr
  dsimp only
  rw [wp_bind]
  iapply (trip_gather m d L hpre k hk O W) $$ [HO Hni Hri Hx Hg]
  · isplitl []; · iexact Hmw
    isplitl [HO]; · iexact HO
    isplitl [Hni]; · iexact Hni
    isplitl [Hri]; · iexact Hri
    isplitl [Hx]; · iexact Hx
    iexact Hg
  iintro HO Hii Hrf Hx Hg
  simp only [ite_self, dif_pos (cond5_at L k)]
  simp only [Prog.lift, Prog.bind_op, Prog.bind_ret, Prog.pure_eq_ret, Prog.bind_assoc]
  ihave Ht := (Entails.of_eq (rowsAt_split d (show row₀ L + 128 * k.val ≤ row₀ L + 128 * k.val + 128 by omega)
    (show row₀ L + 128 * k.val + 128 ≤ row₀ L + 12288 by omega) (m (oLoc d)))) $$ Htodo
  icases Ht with ⟨Hblk, Htodo⟩
  iapply (step_write m d L ⟨k.val, hk⟩ (slot k.val) (rSlot_of _ (off12_at ⟨k.val, hk⟩)) (oBlk_of L ⟨k.val, hk⟩ (off13_at L ⟨k.val, hk⟩))
    (rSem_of _ (off14_at ⟨k.val, hk⟩)) (m (oLoc d))) $$ [Hrf Hblk]
  · isplitl [Hrf]; · iexact Hrf
    iapply (Entails.of_eq (rowsAt_blk d L ⟨k.val, hk⟩ (m (oLoc d))).symm) $$ Hblk
  iintro Hrb
  simp only [Prog.bind]
  by_cases h7 : 0 < k.val
  · rw [dif_pos ((cond7_at L k).mpr h7)]
    iapply (step_writeWait m d L ⟨k.val - 1, by omega⟩ (slot (k.val + 1)) (oBlk_of L ⟨k.val - 1, by omega⟩ (off16_at L ⟨k.val, hk⟩ h7))
      (rSem_of _ ((off17_at ⟨k.val, hk⟩).trans (congrArg (fun p : Fin 2 => (![p.val] : Fin 1 → ℕ)) (slot_pred h7))))) $$ [HO Hlr]
    · isplitl []; · iexact Hmw
      isplitl [HO]; · iexact HO
      iapply (Entails.of_eq (lastRow_of m d L h7 (show k.val - 1 < 96 by omega))) $$ Hlr
    iintro ⟨HO, Hri, Hblk⟩
    rw [wp_ret]; imodintro
    isplitl []; · ipureintro; exact yielded_eq L k
    isplitl []; · iexact Hmw
    isplitl [HO]; · iexact HO
    isplitl [Hni']; · iexact Hni'
    isplitl [Hii]; · rw [slot_add_two]; iexact Hii
    isplitl [Hrb]
    · rw [lastRow_of m d L (show 0 < k.val + 1 by omega) (show k.val + 1 - 1 < 96 by omega), slot_add_two]; iexact Hrb
    isplitl [Hri]; · iexact Hri
    isplitl [Hdone Hblk]
    · rw [rowsAt_split d (show row₀ L ≤ row₀ L + 128 * (k.val - 1) by omega)
        (show row₀ L + 128 * (k.val - 1) ≤ row₀ L + 128 * (k.val + 1 - 1) by omega)]
      isplitl [Hdone]; · iexact Hdone
      rw [show row₀ L + 128 * (k.val + 1 - 1) = row₀ L + 128 * (k.val - 1) + 128 by omega]
      iapply (Entails.of_eq (rowsAt_blk d L ⟨k.val - 1, hk1⟩ (gathered m d))) $$ Hblk
    isplitl [Htodo]; · rw [show row₀ L + 128 * (k.val + 1) = row₀ L + 128 * k.val + 128 by omega]; iexact Htodo
    isplitl [Hx]; · iexact Hx
    iexact Hg
  · rw [dif_neg (fun h => h7 ((cond7_at L k).mp h))]
    have h0 : k.val = 0 := by omega
    rw [wp_ret]; imodintro
    isplitl []; · ipureintro; exact yielded_eq L k
    isplitl []; · iexact Hmw
    isplitl [HO]; · iexact HO
    isplitl [Hni']; · iexact Hni'
    isplitl [Hii]; · rw [slot_add_two]; iexact Hii
    isplitl [Hrb]
    · rw [lastRow_of m d L (show 0 < k.val + 1 by omega) (show k.val + 1 - 1 < 96 by omega), slot_add_two]; iexact Hrb
    isplitl [Hlr]
    · iapply (Entails.of_eq (show lastRow m d L k.val = rowIdle d L (slot (k.val + 1)) by rw [h0, lastRow_zero])) $$ Hlr
    isplitl [Hdone]
    · iapply (Entails.of_eq (show rowsAt d (row₀ L) (row₀ L + 128 * (k.val - 1)) (gathered m d)
        = rowsAt d (row₀ L) (row₀ L + 128 * (k.val + 1 - 1)) (gathered m d) by rw [h0])) $$ Hdone
    isplitl [Htodo]; · rw [show row₀ L + 128 * (k.val + 1) = row₀ L + 128 * k.val + 128 by omega]; iexact Htodo
    isplitl [Hx]; · iexact Hx
    iexact Hg

end Cert.Proof.RowGather

end
-- ==== Proof.Tile.lean ====
/-
  A vector subcore's whole run: the fetch of its first block, the ninety-six trips, the wait for the last write-out;
  from its shares of the table and the list and its own rows of the result, to the same with the rows gathered.
-/
module

public import proofs.«01_k».proof.Proof.Trip

@[expose] public section

noncomputable section

namespace Cert.Proof.RowGather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

/-! ## The subcore's scratch and semaphores -/

theorem cells_ne {a b : SemLoc sig} (h : a ≠ b) : ((thr d L, a) : GSem nD τ sig) ≠ (thr d L, b) := fun e => h (congrArg Prod.snd e)

theorem own_cell {a : SemLoc sig} (h : a.isScoped .scVector = true) : ((thr d L, a) : GSem nD τ sig) ∈ ownCells (thr d L) :=
  mem_ownCells.mpr ⟨rfl, h⟩

/-- The subcore's semaphores outside the five the program uses. -/
abbrev otherCells : Finset (GSem nD τ sig) :=
  ((((ownCells (thr d L)).erase (ICell d L 0)).erase (ICell d L 1)).erase (RCell d L 0)).erase (RCell d L 1) |>.erase (GCell d L)

theorem ownSems0_thr :
    (ownSems0 (thr d L) : sProp 𝕄)
      = iprop(semVal (ICell d L 0) 0 ∗ semVal (ICell d L 1) 0 ∗ semVal (RCell d L 0) 0 ∗ semVal (RCell d L 1) 0 ∗ semVal (GCell d L) 0
          ∗ bigSep (otherCells d L) fun g => semVal g 0) := by
  unfold SparseCore.Cfg.ownSems0 otherCells
  rw [SparseCore.bigSep_erase' (own_cell d L (a := .dma (iSem 0).sem) (by decide)),
    SparseCore.bigSep_erase' (i := ICell d L 1) (Finset.mem_erase.mpr ⟨cells_ne d L (by decide), own_cell d L (by decide)⟩),
    SparseCore.bigSep_erase' (i := RCell d L 0) (Finset.mem_erase.mpr ⟨cells_ne d L (by decide), Finset.mem_erase.mpr ⟨cells_ne d L (by decide), own_cell d L (by decide)⟩⟩),
    SparseCore.bigSep_erase' (i := RCell d L 1) (Finset.mem_erase.mpr ⟨cells_ne d L (by decide), Finset.mem_erase.mpr ⟨cells_ne d L (by decide),
      Finset.mem_erase.mpr ⟨cells_ne d L (by decide), own_cell d L (by decide)⟩⟩⟩),
    SparseCore.bigSep_erase' (i := GCell d L) (Finset.mem_erase.mpr ⟨cells_ne d L (by decide), Finset.mem_erase.mpr ⟨cells_ne d L (by decide),
      Finset.mem_erase.mpr ⟨cells_ne d L (by decide), Finset.mem_erase.mpr ⟨cells_ne d L (by decide), own_cell d L (by decide)⟩⟩⟩⟩)]

abbrev sRef : DevRef τ sig := (Proc.scVector (cV L) (jV L)).devRef cc0_scoped0
abbrev rRef : DevRef τ sig := (Proc.scVector (cV L) (jV L)).devRef cc0_scoped2

theorem ownBufs_thr :
    (ownBufs (thr d L) : sProp 𝕄)
      = iprop((∃ f, sLoc d L ↦{fullShare} f) ∗ (∃ f, rLoc d L ↦{fullShare} f)
          ∗ bigSep (((ownRefs (τ := τ) (.scVector (cV L) (jV L))).erase (sRef L)).erase (rRef L)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := sRef L) rfl)).trans ?_
  rw [SparseCore.bigSep_erase' (i := rRef L) (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := rRef L) rfl⟩)]

theorem scratch_i_split (f : Buf (Elt F) (sLoc d L)) :
    (sLoc d L ↦{fullShare} f : sProp 𝕄) ⊢ iprop((sLoc d L ↦[(iSlot 0).view.set]{fullShare} f) ∗ sLoc d L ↦[(iSlot 1).view.set]{fullShare} f) := by
  rw [set_iSlot, set_iSlot]
  exact (Entails.of_eq (congrArg (fun I => (sLoc d L ↦[I]{fullShare} f : sProp 𝕄)) iAt_union.symm)).trans (pointsTo_union iAt_disjoint).1
theorem scratch_i_join (f g : Buf (Elt F) (sLoc d L)) :
    iprop((sLoc d L ↦[(iSlot 0).view.set]{fullShare} f) ∗ sLoc d L ↦[(iSlot 1).view.set]{fullShare} g) ⊢ (iprop(∃ f, sLoc d L ↦{fullShare} f) : sProp 𝕄) := by
  rw [set_iSlot, set_iSlot]
  refine (pointsTo_join iAt_disjoint).trans ?_
  rw [iAt_union]
  iintro H; iexists _; iexact H
theorem scratch_r_split (f : Buf (Elt F) (rLoc d L)) :
    (rLoc d L ↦{fullShare} f : sProp 𝕄) ⊢ iprop((rLoc d L ↦[(rSlot 0).view.set]{fullShare} f) ∗ rLoc d L ↦[(rSlot 1).view.set]{fullShare} f) := by
  rw [set_rSlot, set_rSlot]
  exact (Entails.of_eq (congrArg (fun I => (rLoc d L ↦[I]{fullShare} f : sProp 𝕄)) rAt_union.symm)).trans (pointsTo_union rAt_disjoint).1
theorem scratch_r_join (f g : Buf (Elt F) (rLoc d L)) :
    iprop((rLoc d L ↦[(rSlot 0).view.set]{fullShare} f) ∗ rLoc d L ↦[(rSlot 1).view.set]{fullShare} g) ⊢ (iprop(∃ f, rLoc d L ↦{fullShare} f) : sProp 𝕄) := by
  rw [set_rSlot, set_rSlot]
  refine (pointsTo_join rAt_disjoint).trans ?_
  rw [rAt_union]
  iintro H; iexists _; iexact H

theorem list_halves (f : Buf (Elt F) (iLoc d)) :
    (iLoc d ↦{shareOf L} f : sProp 𝕄) = iprop((iLoc d ↦{half L 0} f) ∗ iLoc d ↦{half L 1} f) := by
  rw [show half L 0 = (shareOf L).left from if_pos rfl, show half L 1 = (shareOf L).right from if_neg (by decide)]
  exact BI.Entails.antisymm (pointsTo_share (PosShare.mem_left_op_right (shareOf L))).1 (pointsTo_share (PosShare.mem_left_op_right (shareOf L))).2

theorem idxIdle_elim (p : Fin 2) : idxIdle m d L p ⊢ (iprop((∃ f, sLoc d L ↦[(iSlot p).view.set]{fullShare} f)
    ∗ (iLoc d ↦{half L p} idxList m d) ∗ semVal (ICell d L p) 0) : sProp 𝕄) := Entails.of_eq rfl
theorem rowIdle_elim (p : Fin 2) : rowIdle d L p ⊢ (iprop((∃ g, rLoc d L ↦[(rSlot p).view.set]{fullShare} g) ∗ semVal (RCell d L p) 0) : sProp 𝕄) :=
  Entails.of_eq rfl

/-! ## The run -/

/-- A subcore's share of the table, of the list, and its rows of the result at contents `f`. -/
def holds (f : Buf (Elt F) (oLoc d)) : sProp 𝕄 :=
  iprop((xLoc d ↦{shareOf L} m (xLoc d)) ∗ (iLoc d ↦{shareOf L} idxList m d) ∗ rowsAt d (row₀ L) (row₀ L + 12288) f)

variable [FloatOps F]

theorem carried_zero : (Scalar.addi 0#32 1#32, 0#32, 0#32, 0#32, 0#32) = carried 0 := by decide
theorem carried_last : carried 96 = (96#32, 96#32, 96#32, 95#32, 0#32) := by decide

set_option maxHeartbeats 8000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ holds m d L (m (oLoc d))
        ∗ scopedBufs (thr d L) ∗ scopedSems0 (thr d L) ∗ owes (thr d L) O W)
      ⊢ wp frame (wpE (defs₀ (F := F)) 𝒱₀ (thr d L) none) Set.univ
          (cc0_gather L (Memref.whole main_arg0_scv) (Memref.isWhole_whole _) (Memref.whole main_v0_scv) (Memref.isWhole_whole _)
            (Memref.whole main_v1_scv) (Memref.isWhole_whole _) (Memref.whole cc0_scoped0) (Memref.isWhole_whole _) cc0_scoped1
            (Memref.whole cc0_scoped2) (Memref.isWhole_whole _) cc0_scoped3 cc0_scoped4)
          fun _ => iprop(holds m d L (gathered m d) ∗ scopedBufs (thr d L) ∗ scopedSems0 (thr d L)
            ∗ ∃ W', ⌜∀ p ∈ W', p ∈ W ∨ p.2 = none⌝ ∗ owes (thr d L) O W') := by
  simp only [cc0_gather_eq_skeleton]
  unfold cc0_gather_skel
  simp only [k0_part3_eq_skeleton, k0_part4_eq_skeleton]
  unfold k0_part3_skel k0_part4_skel holds
  rw [(K (F := F)).scopedBufs_V hF d (cV L) (jV L), SparseCore.Cfg.scopedSems0_V (Val := Elt F) d (cV L) (jV L), ownSems0_thr, ownBufs_thr]
  iintro ⟨#Hlv, -, ⟨Hx, Hi, Ho⟩, ⟨⟨%fs, Hs⟩, ⟨%fr, Hr⟩, Hbufs⟩, ⟨Hi0, Hi1, Hr0, Hr1, Hg, Hsems⟩, HO⟩
  ihave Hmw := (show levAts (K (F := F)).L (K (F := F)).lev ⊢ Transfers.MayWaits (thr d L) (default : HIx 1) O from
    (K (F := F)).mayWaits_none (thr := thr d L) hO) $$ Hlv
  ihave Hs' := (scratch_i_split d L fs) $$ Hs
  icases Hs' with ⟨Hs0, Hs1⟩
  ihave Hr' := (scratch_r_split d L fr) $$ Hr
  icases Hr' with ⟨Hq0, Hq1⟩
  ihave Hi' := (Entails.of_eq (list_halves d L _)) $$ Hi
  icases Hi' with ⟨Hl0, Hl1⟩
  simp only [Prog.lift, Prog.bind_op, Prog.bind_ret, Prog.pure_eq_ret, Prog.bind_assoc]
  iapply (step_fetch m d L 0 0 (iBlk_of L 0 (off2_at L)) (iSlot_of 0 rfl) (iSem_of 0 rfl)) $$ [Hs0 Hl0 Hi0]
  · unfold idxIdle
    isplitl [Hs0]; · iexists _; iexact Hs0
    isplitl [Hl0]; · iexact Hl0
    iexact Hi0
  iintro Hb
  sl_for (inv m d L O W) $$ [Hb Hx Ho Hs1 Hl1 Hi1 Hq0 Hq1 Hr0 Hr1 Hg HO Hmw]
  · intro k acc; exact trip m d L hpre O W k acc
  · unfold inv
    isplitl []; · ipureintro; exact carried_zero
    isplitl [Hmw]; · iexact Hmw
    isplitl [HO]
    · unfold owing; iexists W; isplitr
      · ipureintro; exact fun p hp => .inl hp
      · iexact HO
    isplitl [Hb]; · iapply (Entails.of_eq (show idxBusy m d L 0 0 = nextIdx m d L 0 from (nextIdx_of m d L (show 0 < 96 by decide)).symm)) $$ Hb
    isplitl [Hs1 Hl1 Hi1]
    · unfold idxIdle
      isplitl [Hs1]; · iexists _; iexact Hs1
      isplitl [Hl1]; · iexact Hl1
      iexact Hi1
    isplitl [Hq1 Hr1]
    · iapply (Entails.of_eq (lastRow_zero m d L).symm)
      unfold rowIdle
      isplitl [Hq1]; · iexists _; iexact Hq1
      iexact Hr1
    isplitl [Hq0 Hr0]
    · unfold rowIdle
      isplitl [Hq0]; · iexists _; iexact Hq0
      iexact Hr0
    isplitl []
    · iapply (Entails.of_eq (show (iprop(emp) : sProp 𝕄) = rowsAt d (row₀ L) (row₀ L + 128 * (0 - 1)) (gathered m d) from
        (pointsTo_empty.symm.trans (congrArg (fun I => (oLoc d ↦[I]{fullShare} gathered m d : sProp 𝕄)) (rowsOf_empty (row₀ L)).symm))))
      iempintro
    isplitl [Ho]; · iexact Ho
    isplitl [Hx]; · iexact Hx
    iexact Hg
  iintro %acc HI
  delta tile_body.sl.prog.cont_1
  ihave HI := (Entails.of_eq (congrArg (fun k => inv m d L O W k acc) trips_eq)) $$ HI
  unfold inv
  icases HI with ⟨%hacc, #Hmw, HO, Hii, Hij, Hlr, Hri, Hdone, Htodo, Hx, Hg⟩
  rw [carried_last] at hacc
  subst hacc
  iapply (wp_assume 𝒱₀ (thr d L) none Set.univ (chk5_at L))
  iapply (wp_assume 𝒱₀ (thr d L) none Set.univ chk4_at)
  dsimp only
  iapply (step_writeWait m d L 95 1 (oBlk_of L 95 (off19_at L)) (rSem_of 1 off20_at)) $$ [HO Hlr]
  · isplitl []; · iexact Hmw
    isplitl [HO]; · iexact HO
    iapply (Entails.of_eq (lastRow_of m d L (show 0 < 96 by decide) (show 96 - 1 < 96 by decide))) $$ Hlr
  iintro ⟨HO, Hrj, Hblk⟩
  rw [wp_ret]; imodintro
  ihave Hii := (Entails.of_eq (nextIdx_last m d L (show ¬ 96 < 96 by decide))) $$ Hii
  ihave Hii := (idxIdle_elim m d L (slot 96)) $$ Hii
  ihave Hij := (idxIdle_elim m d L (slot (96 + 1))) $$ Hij
  ihave Hri := (rowIdle_elim d L (slot 96)) $$ Hri
  ihave Hrj := (rowIdle_elim d L 1) $$ Hrj
  icases Hii with ⟨⟨%f0, Hs0⟩, Hl0, Hi0⟩
  icases Hij with ⟨⟨%f1, Hs1⟩, Hl1, Hi1⟩
  icases Hri with ⟨⟨%g0, Hq0⟩, Hr0⟩
  icases Hrj with ⟨⟨%g1, Hq1⟩, Hr1⟩
  isplitl [Hx Hl0 Hl1 Hdone Hblk]
  · isplitl [Hx]; · iexact Hx
    isplitl [Hl0 Hl1]
    · iapply (Entails.of_eq (list_halves d L _).symm)
      isplitl [Hl0]; · iexact Hl0
      iexact Hl1
    iapply (Entails.of_eq (rowsAt_split d (show row₀ L ≤ row₀ L + 128 * (96 - 1) by omega)
      (show row₀ L + 128 * (96 - 1) ≤ row₀ L + 12288 by omega) (gathered m d)).symm)
    isplitl [Hdone]; · iexact Hdone
    iapply (Entails.of_eq (rowsAt_blk d L 95 (gathered m d))) $$ Hblk
  isplitl [Hs0 Hs1 Hq0 Hq1 Hbufs]
  · isplitl [Hs0 Hs1]
    · iapply (scratch_i_join d L f0 f1)
      isplitl [Hs0]; · iexact Hs0
      iexact Hs1
    isplitl [Hq0 Hq1]
    · iapply (scratch_r_join d L g0 g1)
      isplitl [Hq0]; · iexact Hq0
      iexact Hq1
    iexact Hbufs
  isplitl [Hi0 Hi1 Hr0 Hr1 Hg Hsems]
  · isplitl [Hi0]; · iexact Hi0
    isplitl [Hi1]; · iexact Hi1
    isplitl [Hr0]; · iexact Hr0
    isplitl [Hr1]; · iexact Hr1
    isplitl [Hg]; · iexact Hg
    iexact Hsems
  iapply (owing_elim d L) $$ HO

end Cert.Proof.RowGather

end
-- ==== Proof.Launch.lean ====
/-
  The program's run: the list is laid in one row, the table, the list and the result are divided among the two
  SparseCores and each part among sixteen subcores, and come back with the result at the gathered rows.
-/
module

public import proofs.«01_k».proof.Proof.Tile

@[expose] public section

noncomputable section

namespace Cert.Proof.RowGather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 1) (Elt F) ℕ UU ℕ

variable (m : (ℓ : Loc nD τ sig) → Buf (Elt F) ℓ) (ρ : Dev nD → PrngReg)

/-! ## The parts -/

/-- Grid point `(c, i)`: subcore `i` of SparseCore `c`. -/
def coords (c : Fin (grid0.bound 0)) (s : Fin (grid0.bound 1)) : grid0.Coords :=
  fun | 0 => c | 1 => s | ⟨_ + 2, h⟩ => absurd h (Nat.not_lt.2 (Nat.le_add_left _ _))

theorem nCore_zero : (K (F := F)).nCore 0 = 2 := rfl

/-- Rows of equal parts: `n` parts of `w` rows from row `a`. -/
theorem rowsOf_parts (a w n : ℕ) (hw : 0 < w) :
    (Finset.univ : Finset (Fin n)).biUnion (fun i => rowsOf (a + w * i.val) (a + w * i.val + w)) = rowsOf a (a + w * n) := by
  ext x
  simp only [Finset.mem_biUnion, Finset.mem_univ, true_and, mem_rowsOf]
  constructor
  · rintro ⟨i, h1, h2⟩
    have : w * (i.val + 1) ≤ w * n := Nat.mul_le_mul_left w i.isLt
    rw [Nat.mul_add] at this
    omega
  · rintro ⟨h1, h2⟩
    have hd : ((x 0).val - a) / w < n := by rw [Nat.div_lt_iff_lt_mul hw, Nat.mul_comm]; omega
    refine ⟨⟨((x 0).val - a) / w, hd⟩, ?_, ?_⟩
    · have := Nat.mul_div_le ((x 0).val - a) w
      show a + w * (((x 0).val - a) / w) ≤ (x 0).val; omega
    · have := Nat.lt_mul_div_succ ((x 0).val - a) hw
      rw [Nat.mul_add] at this
      show (x 0).val < a + w * (((x 0).val - a) / w) + w; omega

theorem rowsAt_parts (d : Dev nD) (a w n : ℕ) (hw : 0 < w) (f : Buf (Elt F) (oLoc d)) :
    (rowsAt d a (a + w * n) f : sProp 𝕄) = bigSep Finset.univ fun i : Fin n => rowsAt d (a + w * i.val) (a + w * i.val + w) f := by
  show (oLoc d ↦[rowsOf a (a + w * n)]{fullShare} f : sProp 𝕄) = _
  rw [← rowsOf_parts a w n hw]
  refine pointsTo_biUnion (ℓ := oLoc d) Finset.univ (fun i : Fin n => rowsOf (a + w * i.val) (a + w * i.val + w)) fun i _ j _ h => ?_
  rcases Nat.lt_or_ge i.val j.val with h' | h'
  · have : w * (i.val + 1) ≤ w * j.val := Nat.mul_le_mul_left w h'
    rw [Nat.mul_add] at this
    exact rowsOf_disjoint (by omega)
  · have h'' : j.val < i.val := lt_of_le_of_ne h' fun e => h (Fin.ext e.symm)
    have : w * (j.val + 1) ≤ w * i.val := Nat.mul_le_mul_left w h''
    rw [Nat.mul_add] at this
    exact (rowsOf_disjoint (by omega)).symm

theorem rowsAt_all (d : Dev nD) (f : Buf (Elt F) (oLoc d)) : (oLoc d ↦{fullShare} f : sProp 𝕄) = rowsAt d 0 (0 + 196608 * 2) f := by
  show _ = (oLoc d ↦[rowsOf 0 (0 + 196608 * 2)]{fullShare} f : sProp 𝕄)
  rw [show rowsOf 0 (0 + 196608 * 2) = Finset.univ from Finset.filter_true_of_mem fun x _ => ⟨Nat.zero_le _, (x 0).isLt⟩]

/-- SparseCore `c`'s part of the three buffers, the result at contents `f`. -/
def coreHolds (d : Dev nD) (f : Buf (Elt F) (oLoc d)) (c : Fin 2) : sProp 𝕄 :=
  iprop((xLoc d ↦{coreShare c} m (xLoc d)) ∗ (iLoc d ↦{coreShare c} idxList m d) ∗ rowsAt d (0 + 196608 * c.val) (0 + 196608 * c.val + 196608) f)
/-- Subcore `i` of SparseCore `c`'s. -/
def subHolds (d : Dev nD) (f : Buf (Elt F) (oLoc d)) (c : Fin 2) (i : Fin 16) : sProp 𝕄 := holds m d (coords c i) f

theorem core_parts (d : Dev nD) (f : Buf (Elt F) (oLoc d)) (c : Fin 2) :
    coreHolds m d f c = bigSep Finset.univ fun i : Fin 16 => subHolds m d f c i := by
  have e : ∀ i : Fin 16, subHolds m d f c i = iprop((xLoc d ↦{share c i} m (xLoc d)) ∗ (iLoc d ↦{share c i} idxList m d)
      ∗ rowsAt d (196608 * c.val + 12288 * i.val) (196608 * c.val + 12288 * i.val + 12288) f) := fun i => by
    have hr : row₀ (coords c i) = 196608 * c.val + 12288 * i.val := by
      show 128 * (96 * (i.val + 16 * c.val)) = _; omega
    unfold subHolds holds
    rw [hr]; rfl
  rw [bigSep_congr fun i _ => e i, bigSep_sep', bigSep_sep']
  unfold coreHolds
  rw [pointsTo_piecesOf Finset.univ (m (xLoc d)) (show 0 < 16 by decide) (coreShare c),
    pointsTo_piecesOf Finset.univ (idxList m d) (show 0 < 16 by decide) (coreShare c), Nat.zero_add]
  rw [show 196608 * c.val + 196608 = 196608 * c.val + 12288 * 16 by omega, rowsAt_parts d (196608 * c.val) 12288 16 (by decide) f]

theorem all_parts (d : Dev nD) (f : Buf (Elt F) (oLoc d)) :
    (bigSep Finset.univ fun c : Fin 2 => coreHolds m d f c)
      = (iprop((xLoc d ↦{fullShare} m (xLoc d)) ∗ (iLoc d ↦{fullShare} idxList m d) ∗ oLoc d ↦{fullShare} f) : sProp 𝕄) := by
  rw [rowsAt_all, rowsAt_parts d 0 196608 2 (by decide) f, pointsTo_piecesOf Finset.univ (m (xLoc d)) (show 0 < 2 by decide) fullShare,
    pointsTo_piecesOf Finset.univ (idxList m d) (show 0 < 2 by decide) fullShare, ← bigSep_sep', ← bigSep_sep']
  rfl

/-! ## What the handshakes carry -/

def P : (K (F := F)).Pay (nD := nD) (Val := Elt F) (Name := ℕ) (U := UU) where
  st := fun q d c => match q with | 0 => coreHolds m d (m (oLoc d)) (Fin.cast nCore_zero c)
  dn := fun q d c => match q with | 0 => coreHolds m d (gathered m d) (Fin.cast nCore_zero c)
  go := fun q d c i => match q with | 0 => subHolds m d (m (oLoc d)) (Fin.cast nCore_zero c) (Fin.cast nSub_zero i)
  td := fun q d c i => match q with | 0 => subHolds m d (gathered m d) (Fin.cast nCore_zero c) (Fin.cast nSub_zero i)
  x := fun _ _ => iprop(emp)

instance coreHolds_storable (d : Dev nD) (f : Buf (Elt F) (oLoc d)) (c : Fin 2) : BI.Storable (upEmb : UEmb _ 𝕄) (coreHolds m d f c) :=
  (inferInstance : BI.Storable (upEmb : UEmb _ 𝕄) iprop((xLoc d ↦{coreShare c} m (xLoc d)) ∗ (iLoc d ↦{coreShare c} idxList m d)
    ∗ oLoc d ↦[rowsOf (0 + 196608 * c.val) (0 + 196608 * c.val + 196608)]{fullShare} f))
instance subHolds_storable (d : Dev nD) (f : Buf (Elt F) (oLoc d)) (c : Fin 2) (i : Fin 16) : BI.Storable (upEmb : UEmb _ 𝕄) (subHolds m d f c i) :=
  (inferInstance : BI.Storable (upEmb : UEmb _ 𝕄) iprop((xLoc d ↦{shareOf (coords c i)} m (xLoc d)) ∗ (iLoc d ↦{shareOf (coords c i)} idxList m d)
    ∗ oLoc d ↦[rowsOf (row₀ (coords c i)) (row₀ (coords c i) + 12288)]{fullShare} f))

instance P_storable : (P (F := F) m).IsStorable where
  st q d c := match q with | 0 => coreHolds_storable m d _ _
  dn q d c := match q with | 0 => coreHolds_storable m d _ _
  go q d c i := match q with | 0 => subHolds_storable m d _ _ _
  td q d c i := match q with | 0 => subHolds_storable m d _ _ _

variable [FloatOps F]

/-! ## The launch's obligations -/

theorem defs₀_vector (c : Fin τ.nSC) (s : Fin τ.nSub) :
    defs₀ (F := F) (.scVector c s) 0 ()
      = SparseCore.onTile hcore0 hsub0 (fun c s => cc0_gather (coords c s)
          (Memref.whole main_arg0_scv) (Memref.isWhole_whole _) (Memref.whole main_v0_scv) (Memref.isWhole_whole _)
          (Memref.whole main_v1_scv) (Memref.isWhole_whole _) (Memref.whole cc0_scoped0) (Memref.isWhole_whole _) cc0_scoped1
          (Memref.whole cc0_scoped2) (Memref.isWhole_whole _) cc0_scoped3 cc0_scoped4) ⟨⟩ c s := rfl

omit [FloatOps F] in
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; intro p hp; rcases hW' p hp with h | h; exacts [.inl h, .inr (.inl h)]
  · iexact HO

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coords ⟨_, hci.1⟩ ⟨_, hci.2⟩) facts hpre O W hO).trans (wp_mono frame _ _ fun _ => waits_weaken)

omit [FloatOps F] in
theorem over_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem over_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P m) 0 := by
  intro d c
  show coreHolds m d (m (oLoc d)) (Fin.cast nCore_zero c) ⊢ |={Set.univ}=> iprop(
      (bigSep Finset.univ fun i : Fin ((K (F := F)).nSub 0) => subHolds m d (m (oLoc d)) (Fin.cast nCore_zero c) (Fin.cast nSub_zero i))
      ∗ ((bigSep Finset.univ fun i : Fin ((K (F := F)).nSub 0) => subHolds m d (gathered m d) (Fin.cast nCore_zero c) (Fin.cast nSub_zero i))
          -∗ coreHolds m d (gathered m d) (Fin.cast nCore_zero c)))
  rw [over_subs (F := F) (fun i => subHolds m d (m (oLoc d)) (Fin.cast nCore_zero c) i),
    over_subs (F := F) (fun i => subHolds m d (gathered m d) (Fin.cast nCore_zero c) i), ← core_parts, ← core_parts]
  iintro H; imodintro
  isplitl [H]; · iexact H
  iintro H; iexact H

/-! ## The ghost state at the launch -/

def u₀ : UU := (initOf (K (F := F)).hsCells (K (F := F)).hsToks, 1)

omit [FloatOps F] in
theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## The host program -/

abbrev x' : DevRef τ sig := Proc.devRef .tc (main_arg0 : Ref sig .tc)
abbrev a' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
/-- The list laid in one row. -/
abbrev opRow : HloOp τ sig (Elt F) := StableHlo.reshape main_arg1 main_v0 (rfl : (.i32 : EltTy) = .i32) shapeCasts_S3x131072_S1x393216

abbrev S4 : Finset (DevRef τ sig) := {x', a', i', o'}

omit [FloatOps F] in
theorem held_S4 (d : Dev nD) (V : Valuation τ sig (Elt F)) :
    (held (T d) S4 V : sProp 𝕄) = iprop((xLoc d ↦{fullShare} V x') ∗ (aLoc d ↦{fullShare} V a') ∗ (iLoc d ↦{fullShare} V i') ∗ oLoc d ↦{fullShare} V o') := by
  unfold held S4
  rw [SparseCore.bigSep_insert' (by decide), SparseCore.bigSep_insert' (by decide), SparseCore.bigSep_insert' (by decide), bigSep_singleton]

def V0 (d : Dev nD) : Valuation τ sig (Elt F) := fun b => m (d, b)

omit [FloatOps F] in
theorem unscoped_held (d : Dev nD) : (unscopedBufs d (fun b => m ((SparseCore.T d).loc b)) : sProp 𝕄) = held (T d) S4 (V0 m d) := by
  rw [held_S4]
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]
  rfl

theorem hRow : (opRow (F := F)).bufs ⊆ S4 := show ({a', i'} : Finset (DevRef τ sig)) ⊆ S4 by decide

theorem held_row (d : Dev nD) :
    (held (T d) S4 ((opRow (F := F)).result (V0 m d)) : sProp 𝕄)
      = iprop((xLoc d ↦{fullShare} m (xLoc d)) ∗ (aLoc d ↦{fullShare} m (aLoc d)) ∗ (iLoc d ↦{fullShare} idxList m d) ∗ oLoc d ↦{fullShare} m (oLoc d)) := by
  rw [held_S4, (opRow (F := F)).result_of_not_mem (V0 m d) (b := x') (show x' ∉ ({i'} : Finset (DevRef τ sig)) by decide),
    (opRow (F := F)).result_of_not_mem (V0 m d) (b := a') (show a' ∉ ({i'} : Finset (DevRef τ sig)) by decide),
    (opRow (F := F)).result_of_not_mem (V0 m d) (b := o') (show o' ∉ ({i'} : Finset (DevRef τ sig)) by decide)]
  rw [show (opRow (F := F)).result (V0 m d) i' = idxList m d from
    (StableHlo.reshape_result main_arg1 main_v0 rfl shapeCasts_S3x131072_S1x393216 _ _ (V0 m d)).trans rfl]
  rfl

theorem st_eq (d : Dev nD) : (bigSep Finset.univ fun c : Fin ((K (F := F)).nCore 0) => (P m).st 0 d c)
    = iprop((xLoc d ↦{fullShare} m (xLoc d)) ∗ (iLoc d ↦{fullShare} idxList m d) ∗ oLoc d ↦{fullShare} m (oLoc d)) :=
  (over_cores (F := F) (fun c => coreHolds m d (m (oLoc d)) c)).trans (all_parts m d (m (oLoc d)))
theorem dn_eq (d : Dev nD) : (bigSep Finset.univ fun c : Fin ((K (F := F)).nCore 0) => (P m).dn 0 d c)
    = iprop((xLoc d ↦{fullShare} m (xLoc d)) ∗ (iLoc d ↦{fullShare} idxList m d) ∗ oLoc d ↦{fullShare} gathered m d) :=
  (over_cores (F := F) (fun c => coreHolds m d (gathered m d) c)).trans (all_parts m d (gathered m d))

/-- What the host program leaves the claim: the arguments at their launch contents, the result at the gathered rows. -/
abbrev FIN (d : Dev nD) : sProp 𝕄 :=
  iprop((xLoc d ↦{fullShare} m (xLoc d)) ∗ (aLoc d ↦{fullShare} m (aLoc d)) ∗ oLoc d ↦{fullShare} gathered m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opRow) (S := S4) hRow (V := V0 m d)) $$ [Hb Hheld]
  · isplitl [Hb]; · iexact Hb
    iexact Hheld
  iintro ⟨Hb, Hheld⟩
  ihave Hh := (Entails.of_eq (held_row (F := F) m d)) $$ Hheld
  icases Hh with ⟨Hx, Ha, Hi, Ho⟩
  rw [wp_ret]; imodintro
  iapply ((K (F := F)).wp_run (D (F := F)) 𝒱 (EH := EH) (P := P m) κ d 0) $$ [Hst Hx Ha Hi Ho Hb Hts]
  isplitr; · iexact Hctx
  isplitl [Hst]; · iexact Hst
  isplitl [Hx Hi Ho]
  · rw [st_eq]
    isplitl [Hx]; · iexact Hx
    isplitl [Hi]; · iexact Hi
    iexact Ho
  iintro ⟨Hst, Hdn⟩
  ihave Hdn' := (Entails.of_eq (dn_eq m d)) $$ Hdn
  icases Hdn' with ⟨Hx, -, Ho⟩
  imodintro
  isplitl [Hst]; · iexact Hst
  isplitr [Hb Hts]
  · isplitl [Hx]; · iexact Hx
    isplitl [Ha]; · iexact Ha
    iexact Ho
  isplitl [Hb] <;> iassumption

def fq (d : Dev nD) (s' : Phys nD τ sig (Elt F)) : Prop :=
  s'.mem.mem (oLoc d) = gathered m d ∧ s'.mem.mem (xLoc d) = m (xLoc d) ∧ s'.mem.mem (aLoc d) = m (aLoc d)

set_option maxRecDepth 16384 in
theorem hfin (d : Dev nD) (s' : Phys nD τ sig (Elt F)) : iprop(FIN m d ∗ SI s') ⊢ (⌜fq m d s'⌝ : sProp 𝕄) := by
  iintro ⟨⟨Hx, Ha, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := oLoc d) (I := Finset.univ) (q := fullShare) (f := gathered m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The run -/

/-- At every final state: the result at the gathered rows, the arguments unchanged, every semaphore at zero. -/
def QC : PUnit × MemSt nD τ sig (Elt F) → Prop := fun r =>
  (∀ c : Dev nD, r.2.mem (oLoc c) = gathered m c ∧ r.2.mem (xLoc c) = m (xLoc c) ∧ r.2.mem (aLoc c) = m (aLoc c)) ∧ r.2.sem = fun _ => 0

theorem run_main [∀ e, Nonempty (Elt F e)] (hpre : PreOK m) :
    θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.RowGather

end
-- ==== Proof.Value.lean ====
/-
  The reference's value: where every word of the list names a row of the table, the reference's result is the gathered
  rows of Setup.lean.
-/
module

public import proofs.«01_k».proof.Proof.Launch
public import proofs.«01_k».proof.ReferenceIdeal
public import proofs.«01_k».proof.Pre_dst_in_rows
public import proofs.«01_k».proof.Proof.Gen.ReferenceIdeal
public import proofs.«01_k».proof.Proof.Gen.ReferenceIdeal.Run
public import proofs.«01_k».proof.Proof.Gen.Pre_dst_in_rows
public import Idealize.ShloMosaic.Lib.Routing.Ops
public import Idealize.ShloMosaic.Lib.WordCmp

@[expose] public section

noncomputable section

namespace Cert.Proof.RowGather

open Idealize.ShloMosaic Idealize.ShloMosaic.ValueIdx Idealize.SL.Sem
open Cert.KernelIdeal Cert.KernelIdeal.Gen

variable {F : FTy → Type}

/-! ## The precondition, word by word -/

/-- A word that is signed-nonnegative and signed-below the row count is below it as a natural number. -/
theorem word_in_rows (w : BitVec 32) (h : IntOp.andi (IntOp.cmpi .sge w 0#32) (IntOp.cmpi .slt w 524544#32) = 1#1) : w.toNat < 524544 := by
  rw [WordCmp.cmpi_sge_zero, WordCmp.cmpi_slt_eq, WordCmp.andi_ofBool, WordCmp.ofBool_eq_one_iff, Bool.and_eq_true, decide_eq_true_eq, decide_eq_true_eq] at h
  have e := WordCmp.toInt_eq_toNat_of_lt_half h.1
  have h2 : w.toInt < 524544 := h.2
  omega

theorem preOK_of_pre [FloatOps F] (m : (ℓ : Loc nD τ sig) → Buf (Elt F) ℓ)
    (h : ∀ c : Dev nD, Cert.Pre_dst_in_rows.fn (F := F) (m ((c.tc : Thread nD τ).loc main_arg0)) (m ((c.tc : Thread nD τ).loc main_arg1)) = fun _ => 1#1) :
    PreOK m := fun d x => word_in_rows _ (congrFun (h d) (Shape.reshapeEquiv shapeCasts_S3x131072_S1x393216 x))

/-! ## The value -/

/-- The row numbers the reference's gather is given: the list in one line, a negative word counted from the end. -/
def rowNumbers (a : IVec S3x131072 32) : IVec Cert.ReferenceIdeal.S393216x1 32 :=
  broadcastInDim Cert.ReferenceIdeal.S393216x1 ![0] Cert.ReferenceIdeal.Gen.bcast_S393216_S393216x1_0
    (select (cmpi .slt (shapeCast _ a Cert.ReferenceIdeal.Gen.shapeCasts_S3x131072_S393216)
        (broadcastInDim Cert.ReferenceIdeal.S393216 ![] Cert.ReferenceIdeal.Gen.bcast_S_S393216 (constantI Cert.ReferenceIdeal.S_ 32 0#32)))
      (addi (shapeCast _ a Cert.ReferenceIdeal.Gen.shapeCasts_S3x131072_S393216)
        (broadcastInDim Cert.ReferenceIdeal.S393216 ![] Cert.ReferenceIdeal.Gen.bcast_S_S393216 (constantI Cert.ReferenceIdeal.S_ 32 524544#32)))
      (shapeCast _ a Cert.ReferenceIdeal.Gen.shapeCasts_S3x131072_S393216))

/-- The list in one line and the list in one row hold the same words. -/
theorem line_eq (a : IVec S3x131072 32) (j : Fin 393216) :
    shapeCast Cert.ReferenceIdeal.S393216 a Cert.ReferenceIdeal.Gen.shapeCasts_S3x131072_S393216 (ix1 j)
      = a (Shape.reshapeEquiv shapeCasts_S3x131072_S1x393216 (listAt j)) := by
  refine congrArg a (Shape.reshapeEquiv_eq_of_rowMajor _ ?_)
  rw [Shape.rowMajor_reshapeEquiv, Shape.rowMajor_val_one]
  refine (Shape.rowMajor_pair_val (d := ![1, 393216]) (0 : Fin 1) j).trans ?_
  show 0 * 393216 + j.val = j.val
  omega

/-- A word of the list below the row count is passed on as it is. -/
theorem rowNumbers_at (a : IVec S3x131072 32) (j : Fin 393216)
    (h : (a (Shape.reshapeEquiv shapeCasts_S3x131072_S1x393216 (listAt j))).toNat < 524544) :
    rowNumbers a (ix2 j (0 : Fin 1)) = a (Shape.reshapeEquiv shapeCasts_S3x131072_S1x393216 (listAt j)) := by
  have hl := line_eq a j
  show (if IntOp.cmpi .slt (shapeCast Cert.ReferenceIdeal.S393216 a Cert.ReferenceIdeal.Gen.shapeCasts_S3x131072_S393216 _) 0#32 = 1#1 then _
    else shapeCast Cert.ReferenceIdeal.S393216 a Cert.ReferenceIdeal.Gen.shapeCasts_S3x131072_S393216 _) = _
  have hi : (fun b : Fin 1 => if h1 : Cert.ReferenceIdeal.S393216.size b = 1 then (⟨0, by omega⟩ : Fin (Cert.ReferenceIdeal.S393216.size b))
      else ⟨((ix2 j (0 : Fin 1) : Cert.ReferenceIdeal.S393216x1.Idx) ((![0] : Fin 1 → Fin 2) b)).val, by
        match b with | ⟨0, _⟩ => exact j.isLt⟩) = ix1 j := by
    funext b
    match b with
    | ⟨0, _⟩ => exact (dif_neg (show ¬ (393216 = 1) by decide)).trans rfl
  erw [hi, hl]
  rw [if_neg]
  rw [WordCmp.cmpi_slt_zero, WordCmp.ofBool_eq_one_iff, decide_eq_true_eq]
  omega

theorem gather_eq (m : (ℓ : Loc nD τ sig) → Buf (Elt F) ℓ) (hpre : PreOK m) (d : Dev nD) :
    Host.gather Cert.ReferenceIdeal.gather_S524544x128_S393216x1_S393216x128_1_0_n_n_0_1_1128 (m (xLoc d)) (rowNumbers (m (aLoc d))) = gathered m d := by
  refine funext fun (x : S393216x128.Idx) => ?_
  have hw := hpre d (listAt (x 0))
  have hs : rowNumbers (m (aLoc d)) (ix2 (x 0) (0 : Fin 1)) = idxList m d (listAt (x 0)) := rowNumbers_at _ _ hw
  have hg := Routing.gather_row Cert.ReferenceIdeal.gather_S524544x128_S393216x1_S393216x128_1_0_n_n_0_1_1128 rfl rfl rfl rfl rfl (m (xLoc d))
    (rowNumbers (m (aLoc d))) (x 0) (x 1) (rowOf (idxList m d (listAt (x 0)))) ?_ (by decide)
  · refine (congrArg _ (eq_ix2 x)).trans (hg.trans (congrArg (m (xLoc d)) (funext fun b => ?_)))
    match b with
    | ⟨0, _⟩ => rfl
    | ⟨1, _⟩ => rfl
  · refine hs.trans (BitVec.eq_of_toNat_eq ?_)
    rw [BitVec.toNat_ofNat]
    show _ = (_ % 524544) % 2 ^ 32
    omega

end Cert.Proof.RowGather

end
-- ==== Proof.FfnAlgebra.lean ====
/-
  The feed-forward calls: the kernel's and the reference's values at a row and a column, as plain sums.
-/
module

public import proofs.«01_k».proof.Proof.Gen.Kernel2Ideal.Skeleton
public import proofs.«01_k».proof.Proof.Gen.Reference2Ideal.Run
public import Idealize.ShloMosaic.Lib.Pointwise

@[expose] public section

set_option maxRecDepth 16384

noncomputable section

namespace Cert.Ffn

open Idealize.ShloMosaic Idealize.ShloMosaic.TcCoe

/-- The hidden unit of one row: the gate `u` under `u · 1 / (1 + e^(-u))`, times the linear branch `v`. -/
def gated (u v : EReal) : EReal := u * Ideal.div 1 (1 + Ideal.exp (-u)) * v

/-- The row `x` before the normalisation: `DN_ALPHA · x` plus the second product of the hidden units. -/
def residual (x : Fin 1024 → EReal) (w1 w3 : Fin 1024 → Fin 2816 → EReal) (w2 : Fin 2816 → Fin 1024 → EReal)
    (l : Fin 1024) : EReal :=
  Ideal.ofBits .f32 0x3FB504F3#32 * x l
    + ∑ k, gated (∑ p, x p * w1 p k) (∑ p, x p * w3 p k) * w2 k l

/-- The mean of a row of 1024. -/
def mean (v : Fin 1024 → EReal) : EReal := Ideal.div (∑ k, v k) (Ideal.ofBits .f32 0x44800000#32)

/-- A row normalised to mean zero and variance one, then scaled by `g` and shifted by `b`. -/
def normed (v : Fin 1024 → EReal) (g b : Fin 1024 → EReal) (l : Fin 1024) : EReal :=
  (v l - mean v)
      * Ideal.rsqrt (mean (fun k => (v k - mean v) * (v k - mean v)) + Ideal.ofBits .f32 0x3727C5AC#32)
      * g l + b l

open Cert.Kernel2Ideal Cert.Kernel2Ideal.Gen

/-- The residual's sum at a row and a column: the two halves of the hidden columns one after the other. -/
theorem pay2_apply (x : Vec Ideal S512x1024 .f32) (a1 a2 : Vec Ideal S1024x1408 .bf16) (a3 : Vec Ideal S1408x1024 .bf16)
    (b1 b2 : Vec Ideal S1024x1408 .bf16) (b3 : Vec Ideal S1408x1024 .bf16) (r : Fin 512) (l : Fin 1024) :
    k0_pay2 x a1 a2 a3 b1 b2 b3 (ix2 r l)
      = Ideal.ofBits .f32 0x3FB504F3#32 * x (ix2 r l)
        + ((∑ k, gated (∑ p, x (ix2 r p) * a1 (ix2 p k)) (∑ p, x (ix2 r p) * a2 (ix2 p k)) * a3 (ix2 k l))
          + ∑ k, gated (∑ p, x (ix2 r p) * b1 (ix2 p k)) (∑ p, x (ix2 r p) * b2 (ix2 p k)) * b3 (ix2 k l)) := by
  unfold gated
  pointwise [k0_pay2]
  rfl

/-- The norm at a row and a column. -/
theorem pay1_apply (v : FVec Ideal S512x1024 .f32) (g b : FVec Ideal S1x1024 .f32) (r : Fin 512) (l : Fin 1024) :
    k0_pay1 v (k0_pay3 g) b (ix2 r l)
      = normed (fun k => v (ix2 r k)) (fun k => g (ix2 0 k)) (fun k => b (ix2 0 k)) l := by
  unfold normed mean
  pointwise [k0_pay1, k0_pay3]

/-- A sum over 2816 is the sum over the first 1408 and over the last 1408. -/
theorem sum_halves (f : Fin 2816 → EReal) :
    ∑ k, f k = (∑ k : Fin 1408, f ⟨k, by omega⟩) + ∑ k : Fin 1408, f ⟨1408 + k, by omega⟩ := by
  rw [show (∑ k, f k) = ∑ k : Fin (1408 + 1408), f k from rfl, Fin.sum_univ_add]
  rfl

/-- The reference's result at a row and a column. -/
theorem ref_apply (m : (ℓ : Loc Cert.Reference2Ideal.nD Cert.Reference2Ideal.τ Cert.Reference2Ideal.sig) → Buf (Elt Ideal) ℓ) (c : Dev Cert.Reference2Ideal.nD) (r : Fin 32768) (l : Fin 1024) :
    Cert.Reference2Ideal.Value.res_main_v32 m c (ix2 r l)
      = normed (residual (fun p => if h : (r : ℕ) < 16384 then m ((c.tc : Thread _ _).loc Cert.Reference2Ideal.main_arg0) (ix2 ⟨r, h⟩ p)
            else m ((c.tc : Thread _ _).loc Cert.Reference2Ideal.main_arg1) (ix2 ⟨r - 16384, by omega⟩ p))
          (fun p k => m ((c.tc : Thread _ _).loc Cert.Reference2Ideal.main_arg2) (ix2 p k))
          (fun p k => m ((c.tc : Thread _ _).loc Cert.Reference2Ideal.main_arg3) (ix2 p k))
          (fun p k => m ((c.tc : Thread _ _).loc Cert.Reference2Ideal.main_arg4) (ix2 p k)))
        (fun k => m ((c.tc : Thread _ _).loc Cert.Reference2Ideal.main_arg5) (ix1 k))
        (fun k => m ((c.tc : Thread _ _).loc Cert.Reference2Ideal.main_arg6) (ix1 k)) l := by
  unfold normed mean residual gated
  pointwise [Cert.Reference2Ideal.Value.res_main_v32]

end Cert.Ffn

end
-- ==== Proof.FfnTile.lean ====
/-
  The feed-forward calls: each call's blocks and the rows they make in its array.
-/
module

public import proofs.«01_k».proof.Proof.FfnAlgebra
public import proofs.«01_k».proof.Proof.Gen.Kernel2Ideal.Frame
public import Idealize.ShloMosaic.Lib.Pipeline.ValueKit

@[expose] public section

set_option maxRecDepth 16384

noncomputable section

namespace Cert.Ffn

open Idealize.ShloMosaic Idealize.ShloMosaic.TcCoe
open Cert.Kernel2Ideal Cert.Kernel2Ideal.Gen

variable (x0 : Vec Ideal S512x1024 .f32) (x1 x2 : Vec Ideal S1024x2816 .bf16) (x3 : Vec Ideal S2816x1024 .bf16)
  (x4 x5 : Vec Ideal S1x1024 .f32) (r : Fin 512) (l : Fin 1024)

/-- A block of the first call at a row and a column. -/
theorem tile0_apply : out0_6 x0 x1 x2 x3 x4 x5 (ix2 r l)
    = normed (residual (fun p => x0 (ix2 r p)) (fun p k => x1 (ix2 p k)) (fun p k => x2 (ix2 p k)) (fun p k => x3 (ix2 p k)))
        (fun k => x4 (ix2 0 k)) (fun k => x5 (ix2 0 k)) l := by
  frame_out
  rw [pay1_apply]
  simp only [pay2_apply]
  unfold residual
  simp only [sum_halves]
  pointwise

/-- The second call's block is the first call's function of its own inputs. -/
theorem tile1_eq (V : (c : Dev nD) → (b : Ref sig .tc) → Buf (Elt Ideal) ((c : Thread nD τ).loc b)) (c : Dev nD)
    (t : Fin cfg1.N) :
    outsAt1 V c t = out0_6 (iblk1 V c 0 t) (iblk1 V c 1 t) (iblk1 V c 2 t) (iblk1 V c 3 t) (iblk1 V c 4 t) (iblk1 V c 5 t) := by
  funext y
  unfold outsAt1
  frame_out
  rfl

/-! ## The first call's result: its rows are the spec's rows of its first operand -/

variable (V : (c : Dev nD) → (b : Ref sig .tc) → Buf (Elt Ideal) ((c : Thread nD τ).loc b)) (c : Dev nD)

/-- Where each window of the first call is at a grid point. -/
theorem index0 : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- Where each window of the second call is at a grid point. -/
theorem index1 : ∀ t : Fin cfg1.N, win1_0.index t = ![t.val, 0] ∧ win1_1.index t = ![0, 0] ∧ win1_2.index t = ![0, 0]
    ∧ win1_3.index t = ![0, 0] ∧ win1_4.index t = ![0, 0] ∧ win1_5.index t = ![0, 0] ∧ win1_6.index t = ![32 + t.val, 0] :=
  (by decide +kernel : ∀ t : Fin grid1.N, _)

/-- Row `i` of the two operands one after the other. -/
def stacked (x y : Fin 16384 → Fin 1024 → EReal) (i : Fin 32768) (p : Fin 1024) : EReal :=
  if h : (i : ℕ) < 16384 then x ⟨i, h⟩ p else y ⟨i - 16384, by omega⟩ p

/-- The array of all 32768 rows, from the contents `V` of the buffers. -/
def rows : Buf (Elt Ideal) ((c : Thread nD τ).loc main_v5) := fun i : S32768x1024.Idx =>
  normed (residual (stacked (fun a p => V c main_arg0 (ix2 a p)) (fun a p => V c main_arg1 (ix2 a p)) (i 0))
      (fun p k => V c main_v0 (ix2 p k)) (fun p k => V c main_v1 (ix2 p k)) (fun p k => V c main_v2 (ix2 p k)))
    (fun k => V c main_v3 (ix2 0 k)) (fun k => V c main_v4 (ix2 0 k)) (i 1)

/-- After the first call its result's first 16384 rows are `rows`, the others as before. -/
theorem first_call (i : S32768x1024.Idx) :
    (dat0 V c).arrAt 6 cfg0.N i = if (i 0 : ℕ) / 512 < 32 then rows V c i else V c main_v5 i := by
  refine (dat0 V c).arrAt_apply_of_coversWhere 6 (rows V c)
    (P := fun i : S32768x1024.Idx => (i 0 : ℕ) / 512 < 32) (fun β => β (0 : Fin _) < 32) (by decide +kernel)
    (fun t hf y => ?_) (fun j => Iff.rfl) i
  blk_simp
  rw [after0_6]
  obtain ⟨r, l, rfl⟩ : ∃ (r : Fin 512) (l : Fin 1024), y = ix2 r l := ⟨y 0, y 1, by funext a; fin_cases a <;> rfl⟩
  obtain ⟨e0, e1, e2, e3, e4, e5, e6⟩ := index0 t
  have ht : (t : ℕ) < 32 := lt_of_lt_of_eq t.isLt N_0
  refine (tile0_apply _ _ _ _ _ _ r l).trans ?_
  have hrow : (((win0_6.blk t).view.emb (ix2 r l)) 0 : ℕ) = t.val * 512 + r.val := by blk_simp [e6]; try omega
  unfold rows
  congr 1
  · congr 1
    · funext p
      unfold stacked
      refine Eq.trans ?_ (dif_pos (show (((win0_6.blk t).view.emb (ix2 r l)) 0 : ℕ) < 16384 by rw [hrow]; omega)).symm
      blk_ext [iblk0, e0, e6]
    · funext p k; blk_ext [iblk0, e1]
    · funext p k; blk_ext [iblk0, e2]
    · funext p k; blk_ext [iblk0, e3]
  · funext k; blk_ext [iblk0, e4]
  · funext k; blk_ext [iblk0, e5]
  · refine Fin.ext ?_
    blk_simp [e6]
    try omega

/-- After the second call the last 16384 rows are `rows`, the others as before. -/
theorem second_call (i : S32768x1024.Idx) :
    (dat1 V c).arrAt 6 cfg1.N i = if 32 ≤ (i 0 : ℕ) / 512 then rows V c i else V c main_v6 i := by
  refine (dat1 V c).arrAt_apply_of_coversWhere 6 (rows V c)
    (P := fun i : S32768x1024.Idx => 32 ≤ (i 0 : ℕ) / 512) (fun β => 32 ≤ β (0 : Fin _)) (by decide +kernel)
    (fun t hf y => ?_) (fun j => Iff.rfl) i
  blk_simp
  rw [after1_6, tile1_eq]
  obtain ⟨r, l, rfl⟩ : ∃ (r : Fin 512) (l : Fin 1024), y = ix2 r l := ⟨y 0, y 1, by funext a; fin_cases a <;> rfl⟩
  obtain ⟨e0, e1, e2, e3, e4, e5, e6⟩ := index1 t
  have ht : (t : ℕ) < 32 := lt_of_lt_of_eq t.isLt N_1
  refine (tile0_apply _ _ _ _ _ _ r l).trans ?_
  have hrow : (((win1_6.blk t).view.emb (ix2 r l)) 0 : ℕ) = (32 + t.val) * 512 + r.val := by blk_simp [e6]; try omega
  unfold rows
  congr 1
  · congr 1
    · funext p
      unfold stacked
      refine Eq.trans ?_ (dif_neg (show ¬ (((win1_6.blk t).view.emb (ix2 r l)) 0 : ℕ) < 16384 by rw [hrow]; omega)).symm
      blk_ext [iblk1, e0, e6]
    · funext p k; blk_ext [iblk1, e1]
    · funext p k; blk_ext [iblk1, e2]
    · funext p k; blk_ext [iblk1, e3]
  · funext k; blk_ext [iblk1, e4]
  · funext k; blk_ext [iblk1, e5]
  · refine Fin.ext ?_
    blk_simp [e6]
    try omega

end Cert.Ffn

end
-- ==== Proof.FfnRun.lean ====
/-
  The feed-forward calls' run: what the result array holds once both calls are done.
-/
module

public import proofs.«01_k».proof.Proof.FfnTile

@[expose] public section

set_option maxRecDepth 16384

noncomputable section

namespace Cert.Ffn

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.Kernel2Ideal Cert.Kernel2Ideal.Gen

/-! ## The launch: every buffer outside the kernels ends at the contents of the last boundary -/

section Launch

variable {F : FTy → Type} [FloatOps F] (m : (ℓ : Loc nD τ sig) → Buf (Elt F) ℓ) (ρ : Dev nD → PrngReg)

local notation "𝕄" => MT nD τ sig Unit (Elt F) ℕ (UR sig nD τ) ℕ

set_option backward.isDefEq.respectTransparency.types false in
/-- From any launch memory every fair execution ends, and then each buffer that outlives the calls holds what the
    boundary contents after the second call say. -/
theorem ends : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold held
      imodintro
      iapply (pointsTo_read_all (Pipeline.ucRefs τ sig) (fun b => (((c : Thread nD τ)).1, b)) (W4 m ρ c) s')
      isplitl [Hh] <;> iassumption)
    (hQ := fun s h _ => h)

end Launch

/-! ## The result array's contents -/

variable (m : (ℓ : Loc nD τ sig) → Buf (Elt Ideal) ℓ) (ρ : Dev nD → PrngReg) (c : Dev nD)

/-- A buffer that neither the first call nor the copy after it writes is at the second call what it was at the first. -/
theorem carried (r : Ref sig .tc) (h5 : r ≠ main_v5) (h6 : r ≠ main_v6) : V3 m ρ c r = V1 m ρ c r :=
  (W3_of m ρ c r (by simpa using h6)).trans (W2_of m ρ c r (fun w e => by
    have hw : ∀ w : Fin cfg0.W, (cfg0.win w).isOut = false ∨ Pipeline.arrRef spec0 w = main_v5 := by decide
    exact (hw w).resolve_right (fun h => h5 (e.symm.trans h))))

/-- The second call finds the operands the first call found, so the rows are the same. -/
theorem rows_carried : rows (V3 m ρ) c = rows (V1 m ρ) c := by
  unfold rows
  rw [carried m ρ c main_arg0 (by decide) (by decide), carried m ρ c main_arg1 (by decide) (by decide),
    carried m ρ c main_v0 (by decide) (by decide), carried m ρ c main_v1 (by decide) (by decide),
    carried m ρ c main_v2 (by decide) (by decide), carried m ρ c main_v3 (by decide) (by decide),
    carried m ρ c main_v4 (by decide) (by decide)]

/-- The second call finds in its destination what the first call left. -/
theorem copied : V3 m ρ c main_v6 = (dat0 (V1 m ρ) c).arrAt 6 cfg0.N := by
  refine Eq.trans ?_ (W2_arr m ρ c 6)
  show StableHlo.after hostOps1 (W2 m ρ c) _ = _
  after_results
  rfl

/-- The result holds `rows`, whichever call wrote the row. -/
theorem result_rows : W4 m ρ c (Proc.devRef .tc main_v6) = rows (V1 m ρ) c := by
  refine (W4_arr m ρ c 6).trans (funext fun i => ?_)
  rw [second_call (V3 m ρ) c i, rows_carried m ρ c]
  split_ifs with h
  · rfl
  · rw [copied m ρ c, first_call (V1 m ρ) c i, if_pos (by omega)]

/-- The first weight is the argument. -/
theorem entry_v0 (p : Fin 1024) (k : Fin 2816) : V1 m ρ c main_v0 (ix2 p k) = m ((c : Thread nD τ).loc main_arg2) (ix2 p k) := by
  show StableHlo.after hostOps0 (W0 m ρ c) _ _ = _
  after_results
  rfl
/-- The second weight is the argument. -/
theorem entry_v1 (p : Fin 1024) (k : Fin 2816) : V1 m ρ c main_v1 (ix2 p k) = m ((c : Thread nD τ).loc main_arg3) (ix2 p k) := by
  show StableHlo.after hostOps0 (W0 m ρ c) _ _ = _
  after_results
  rfl
/-- The third weight is the argument. -/
theorem entry_v2 (p : Fin 2816) (k : Fin 1024) : V1 m ρ c main_v2 (ix2 p k) = m ((c : Thread nD τ).loc main_arg4) (ix2 p k) := by
  show StableHlo.after hostOps0 (W0 m ρ c) _ _ = _
  after_results
  rfl
/-- The norm's scale is the argument. -/
theorem entry_v3 (k : Fin 1024) : V1 m ρ c main_v3 (ix2 0 k) = m ((c : Thread nD τ).loc main_arg5) (ix1 k) := by
  show StableHlo.after hostOps0 (W0 m ρ c) _ _ = _
  after_results
  pointwise
/-- The norm's shift is the argument. -/
theorem entry_v4 (k : Fin 1024) : V1 m ρ c main_v4 (ix2 0 k) = m ((c : Thread nD τ).loc main_arg6) (ix1 k) := by
  show StableHlo.after hostOps0 (W0 m ρ c) _ _ = _
  after_results
  pointwise

/-- The result at row `r`, column `l`, from the launch contents of the arguments. -/
theorem result_apply (r : Fin 32768) (l : Fin 1024) :
    W4 m ρ c (Proc.devRef .tc main_v6) (ix2 r l)
      = normed (residual (stacked (fun a p => m ((c : Thread nD τ).loc main_arg0) (ix2 a p))
              (fun a p => m ((c : Thread nD τ).loc main_arg1) (ix2 a p)) r)
            (fun p k => m ((c : Thread nD τ).loc main_arg2) (ix2 p k)) (fun p k => m ((c : Thread nD τ).loc main_arg3) (ix2 p k))
            (fun p k => m ((c : Thread nD τ).loc main_arg4) (ix2 p k)))
          (fun k => m ((c : Thread nD τ).loc main_arg5) (ix1 k)) (fun k => m ((c : Thread nD τ).loc main_arg6) (ix1 k)) l := by
  refine (congrFun (result_rows m ρ c) (ix2 r l)).trans ?_
  show normed (residual (stacked (fun a p => V1 m ρ c main_arg0 (ix2 a p)) (fun a p => V1 m ρ c main_arg1 (ix2 a p)) r)
      (fun p k => V1 m ρ c main_v0 (ix2 p k)) (fun p k => V1 m ρ c main_v1 (ix2 p k)) (fun p k => V1 m ρ c main_v2 (ix2 p k)))
    (fun k => V1 m ρ c main_v3 (ix2 0 k)) (fun k => V1 m ρ c main_v4 (ix2 0 k)) l = _
  have e0 : V1 m ρ c main_arg0 = m ((c : Thread nD τ).loc main_arg0) := W1_args m ρ c main_arg0 (by decide)
  have e1 : V1 m ρ c main_arg1 = m ((c : Thread nD τ).loc main_arg1) := W1_args m ρ c main_arg1 (by decide)
  rw [e0, e1, funext fun p => funext (entry_v0 m ρ c p), funext fun p => funext (entry_v1 m ρ c p),
    funext fun p => funext (entry_v2 m ρ c p), funext (entry_v3 m ρ c), funext (entry_v4 m ρ c)]

/-- The run of the two calls, read: the result's elements and the arguments as launched. -/
theorem run : θ_run defs (onTc (τ := τ) (main (F := Ideal))) ⟨m, fun _ => 0, ρ⟩ (fun r => ∀ c : Dev nD,
      r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨h c _ (mem_uc main_v6 (by decide)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c)⟩) (ends m ρ)

end Cert.Ffn

end
-- ==== Proof.MergeAlgebra.lean ====
/-
  The merge of the three mixers: what one row of the result is, and that one block of the kernel and the reference both
  give it.
-/
module

public import proofs.«01_k».proof.Proof.FfnAlgebra
public import proofs.«01_k».proof.Proof.Gen.Kernel3Ideal.Frame
public import proofs.«01_k».proof.Proof.Gen.Reference3Ideal.Run
public import Idealize.ShloMosaic.Lib.Pipeline.ValueKit

@[expose] public section

set_option maxRecDepth 16384

noncomputable section

namespace Cert.Merge

open Idealize.ShloMosaic Idealize.ShloMosaic.TcCoe
open Cert.Ffn (normed mean)

/-- The logistic function. -/
def sigma (u : EReal) : EReal := Ideal.div 1 (1 + Ideal.exp (-u))

/-- One row of the state space branch under its gated linear unit. -/
def glu (y : Fin 512 → EReal) (gw : Fin 512 → Fin 512 → EReal) (gb : Fin 512 → EReal) (p : Fin 512) : EReal :=
  y p * sigma ((∑ q, y q * gw q p) + gb p)

/-- One gated branch at column `k`: the gate from the row `x`, times the branch's row `a` projected by `w`. -/
def branch (x : Fin 1024 → EReal) (wg : Fin 1024 → Fin 1024 → EReal) (a : Fin 512 → EReal) (w : Fin 512 → Fin 1024 → EReal)
    (k : Fin 1024) : EReal :=
  sigma (∑ p, x p * wg p k) * ∑ p, a p * w p k

/-- The `j`-th block of 1024 gate columns. -/
def gateCols (wg : Fin 1024 → Fin 3072 → EReal) (j : Fin 3) (p k : Fin 1024) : EReal := wg p ⟨1024 * j + k, by omega⟩

/-- The row before the normalisation. -/
def mixed (x : Fin 1024 → EReal) (a y c : Fin 512 → EReal) (wg : Fin 1024 → Fin 3072 → EReal)
    (wa wb wc : Fin 512 → Fin 1024 → EReal) (gw : Fin 512 → Fin 512 → EReal) (gb : Fin 512 → EReal)
    (wo : Fin 1024 → Fin 1024 → EReal) (l : Fin 1024) : EReal :=
  Ideal.ofBits .f32 0x3FB504F3#32 * x l
    + ∑ k, (branch x (gateCols wg 0) a wa k + branch x (gateCols wg 1) (glu y gw gb) wb k + branch x (gateCols wg 2) c wc k)
        * wo k l

section Kernel
open Cert.Kernel3Ideal Cert.Kernel3Ideal.Gen

variable (x0 : Vec Ideal S512x1024 .f32) (x1 : Vec Ideal S512x512 .bf16) (x2 : Vec Ideal S4x512x128 .f32)
  (x3 : Vec Ideal S512x512 .bf16) (x4 : Vec Ideal S1024x3072 .bf16) (x5 x6 x7 : Vec Ideal S512x1024 .bf16)
  (x8 : Vec Ideal S512x512 .bf16) (x9 : Vec Ideal S1x512 .f32) (x10 : Vec Ideal S1024x1024 .bf16)
  (x11 x12 : Vec Ideal S1x1024 .f32) (r : Fin 512)

/-- Row `r` of the four chunks' transposes one after the other is time `r % 128` of chunk `r / 128`. -/
theorem times_apply (p : Fin 512) :
    k0_pay4 (View.ld x2 r0_3) (View.ld x2 r0_4) (View.ld x2 r0_5) (View.ld x2 r0_6) (ix2 r p)
      = x2 (ix3 ⟨r / 128, by omega⟩ p ⟨r % 128, by omega⟩) := by
  pointwise [k0_pay4]
  split_ifs
  all_goals (congr 1; funext d; fin_cases d <;> first | rfl | (refine Fin.ext ?_; simp; omega))

/-- The block's row before the normalisation. -/
theorem mixed_apply (l : Fin 1024) (y0 y1 y2 y3 : Vec Ideal S1x512x128 .f32) (gw : Vec Ideal S512x512 .bf16) (gb : Vec Ideal S1x512 .f32)
    (w0 w1 w2 wo : Vec Ideal S1024x1024 .bf16) (a : Vec Ideal S512x512 .bf16) :
    k0_pay7 x0 (k0_pay2 x0) (k0_pay3 x0 w0 a x5) (k0_pay4 y0 y1 y2 y3) (k0_pay5 y0 y1 y2 y3 gw) (k0_pay6 gb) w1 x6 w2 x3 x7 wo (ix2 r l)
      = Ideal.ofBits .f32 0x3FB504F3#32 * x0 (ix2 r l)
        + ∑ k, (branch (fun p => x0 (ix2 r p)) (fun p k => w0 (ix2 p k)) (fun p => a (ix2 r p)) (fun p k => x5 (ix2 p k)) k
          + branch (fun p => x0 (ix2 r p)) (fun p k => w1 (ix2 p k))
              (glu (fun p => k0_pay4 y0 y1 y2 y3 (ix2 r p)) (fun p k => gw (ix2 p k)) (fun k => gb (ix2 0 k))) (fun p k => x6 (ix2 p k)) k
          + branch (fun p => x0 (ix2 r p)) (fun p k => w2 (ix2 p k)) (fun p => x3 (ix2 r p)) (fun p k => x7 (ix2 p k)) k)
          * wo (ix2 k l) := by
  unfold branch glu sigma
  pointwise [k0_pay7, k0_pay2, k0_pay3, k0_pay5, k0_pay6]
  rfl

/-- The normalisation of the block's rows. -/
theorem norm_apply (v0 : Vec Ideal S512x1024 .f32) (v1 : FVec Ideal S512x1024 .bf16) (v11 : FVec Ideal S512x1024 .f32)
    (v24 v28 v31 : FVec Ideal S512x512 .f32) (v35 : Vec Ideal S1024x1024 .bf16) (v40 : Vec Ideal S512x1024 .bf16)
    (v45 : Vec Ideal S1024x1024 .bf16) (v49 : Vec Ideal S512x512 .bf16) (v51 : Vec Ideal S512x1024 .bf16)
    (v57 : Vec Ideal S1024x1024 .bf16) (g b : Vec Ideal S1x1024 .f32) (l : Fin 1024) :
    k0_pay1 (k0_pay7 v0 v1 v11 v24 v28 v31 v35 v40 v45 v49 v51 v57) (k0_pay8 g) (k0_pay9 b)
        (k0_pay10 v0 v1 v11 v24 v28 v31 v35 v40 v45 v49 v51 v57) (ix2 r l)
      = normed (fun k => k0_pay7 v0 v1 v11 v24 v28 v31 v35 v40 v45 v49 v51 v57 (ix2 r k)) (fun k => g (ix2 0 k))
          (fun k => b (ix2 0 k)) l := by
  unfold normed mean
  pointwise [k0_pay1, k0_pay8, k0_pay9, k0_pay10]

/-- A block of 512 rows of 1024, loaded whole. -/
theorem load_rows {e : EltTy} (x : Vec Ideal S512x1024 e) : View.ld x r0_0 = x := by
  funext i
  obtain ⟨a, b, rfl⟩ : ∃ (a : Fin 512) (b : Fin 1024), i = ix2 a b := ⟨i 0, i 1, by funext d; fin_cases d <;> rfl⟩
  pointwise

/-- What one grid point writes, from its blocks: each row is the normalised merge of its inputs' rows. -/
theorem tile_apply (l : Fin 1024) : out0_13 x0 x1 x2 x3 x4 x5 x6 x7 x8 x9 x10 x11 x12 (ix2 r l)
    = normed (mixed (fun p => x0 (ix2 r p)) (fun p => x1 (ix2 r p)) (fun p => x2 (ix3 ⟨r / 128, by omega⟩ p ⟨r % 128, by omega⟩))
          (fun p => x3 (ix2 r p)) (fun p k => x4 (ix2 p k)) (fun p k => x5 (ix2 p k)) (fun p k => x6 (ix2 p k))
          (fun p k => x7 (ix2 p k)) (fun p k => x8 (ix2 p k)) (fun p => x9 (ix2 0 p)) (fun p k => x10 (ix2 p k)))
        (fun k => x11 (ix2 0 k)) (fun k => x12 (ix2 0 k)) l := by
  frame_out
  unfold k0_pay11 k0_pay12 k0_pay13 k0_pay14 k0_pay15
  simp only [load_rows]
  refine (norm_apply r _ _ _ _ _ _ _ _ _ _ _ _ _ _ l).trans ?_
  simp only [mixed_apply, times_apply]
  unfold mixed gateCols
  pointwise

end Kernel

open Cert.Reference3Ideal in
/-- The reference's result at row `r`, column `l`. -/
theorem ref_apply (m : (ℓ : Loc nD τ sig) → Buf (Elt Ideal) ℓ) (c : Dev nD) (r : Fin 16384) (l : Fin 1024) :
    Value.res_out0 m c (ix2 r l)
      = normed (mixed (fun p => m ((c.tc : Thread _ _).loc main_arg0) (ix2 r p)) (fun p => m ((c.tc : Thread _ _).loc main_arg1) (ix2 r p))
          (fun p => m ((c.tc : Thread _ _).loc main_arg2) (ix2 r p)) (fun p => m ((c.tc : Thread _ _).loc main_arg3) (ix2 r p))
          (fun p k => m ((c.tc : Thread _ _).loc main_arg4) (ix2 p ⟨3072 + k, by omega⟩))
          (fun p k => m ((c.tc : Thread _ _).loc main_arg5) (ix2 p k)) (fun p k => m ((c.tc : Thread _ _).loc main_arg6) (ix2 p k))
          (fun p k => m ((c.tc : Thread _ _).loc main_arg7) (ix2 p k)) (fun p k => m ((c.tc : Thread _ _).loc main_arg8) (ix2 p k))
          (fun p => m ((c.tc : Thread _ _).loc main_arg9) (ix1 p)) (fun p k => m ((c.tc : Thread _ _).loc main_arg10) (ix2 p k)))
        (fun k => m ((c.tc : Thread _ _).loc main_arg11) (ix1 k)) (fun k => m ((c.tc : Thread _ _).loc main_arg12) (ix1 k)) l := by
  unfold normed mean mixed branch glu sigma gateCols
  pointwise [Value.res_out0, Value.res_main_v61]

end Cert.Merge

end
-- ==== Proof.MergeArray.lean ====
/-
  The merge's result array: every row is the normalised merge of the arguments' rows.
-/
module

public import proofs.«01_k».proof.Proof.MergeAlgebra
public import proofs.«01_k».proof.Proof.Gen.Kernel3Ideal.Value

@[expose] public section

set_option maxRecDepth 16384

noncomputable section

namespace Cert.Merge

open Idealize.ShloMosaic Idealize.ShloMosaic.TcCoe
open Cert.Ffn (normed)
open Cert.Kernel3Ideal Cert.Kernel3Ideal.Gen

variable (m : (ℓ : Loc nD τ sig) → Buf (Elt Ideal) ℓ) (c : Dev nD)

/-- Which block of each array a grid point reads or writes. -/
theorem index0 : ∀ t : Fin cfg0.N, win0_0.index t = ![t.val, 0] ∧ win0_1.index t = ![t.val, 0] ∧ win0_2.index t = ![t.val, 0, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![t.val, 0] :=
  (by decide +kernel : ∀ t : Fin grid0.N, _)

/-- The result's rows, from the arrays as the call finds them. -/
def rows : Buf (Elt Ideal) ((c : Thread nD τ).loc main_v14) := fun i : S16384x1024.Idx =>
  normed (mixed (fun p => V m c main_arg0 (ix2 (i 0) p)) (fun p => V m c main_v12 (ix2 (i 0) p))
      (fun p => V m c main_v11 (ix3 ⟨(i 0 : ℕ) / 128, by have := (i 0).isLt; simp at this; omega⟩ p ⟨(i 0 : ℕ) % 128, by omega⟩))
      (fun p => V m c main_v13 (ix2 (i 0) p)) (fun p k => V m c main_v1 (ix2 p k)) (fun p k => V m c main_v2 (ix2 p k))
      (fun p k => V m c main_v3 (ix2 p k)) (fun p k => V m c main_v4 (ix2 p k)) (fun p k => V m c main_v5 (ix2 p k))
      (fun p => V m c main_v6 (ix2 0 p)) (fun p k => V m c main_v7 (ix2 p k)))
    (fun k => V m c main_v8 (ix2 0 k)) (fun k => V m c main_v9 (ix2 0 k)) (i 1)

/-- Rows merged from equal inputs are equal. -/
theorem mixed_congr {x x' : Fin 1024 → EReal} {a a' y y' d d' : Fin 512 → EReal} {wg wg' : Fin 1024 → Fin 3072 → EReal}
    {wa wa' wb wb' wc wc' : Fin 512 → Fin 1024 → EReal} {gw gw' : Fin 512 → Fin 512 → EReal} {gb gb' : Fin 512 → EReal}
    {wo wo' : Fin 1024 → Fin 1024 → EReal} (hx : x = x') (ha : a = a') (hy : y = y') (hd : d = d') (hg : wg = wg')
    (hwa : wa = wa') (hwb : wb = wb') (hwc : wc = wc') (hgw : gw = gw') (hgb : gb = gb') (hwo : wo = wo') :
    mixed x a y d wg wa wb wc gw gb wo = mixed x' a' y' d' wg' wa' wb' wc' gw' gb' wo' := by
  subst hx ha hy hd hg hwa hwb hwc hgw hgb hwo; rfl

/-- Rows normalised from equal inputs are equal. -/
theorem normed_congr {v v' g g' b b' : Fin 1024 → EReal} {l l' : Fin 1024} (hv : v = v') (hg : g = g') (hb : b = b')
    (hl : l = l') : normed v g b l = normed v' g' b' l' := by
  subst hv hg hb hl; rfl

section Blocks

variable (t : Fin cfg0.N) (r : Fin 512)

/-- The array's row that is row `r` of block `t`. -/
def row : Fin 16384 := ⟨t.val * 512 + r.val, by have := lt_of_lt_of_eq t.isLt N_0; omega⟩

/-! Each window's block at a grid point, read from the array it is a block of. -/

/-- The block of window 0. -/
theorem block0 (p : Fin 1024) : iblk m c 0 t (ix2 r p) = V m c main_arg0 (ix2 (row t r) p) := by
  have e := (index0 t).1
  unfold row
  blk_ext [iblk, e]
/-- The block of window 1. -/
theorem block1 (p : Fin 512) : iblk m c 1 t (ix2 r p) = V m c main_v12 (ix2 (row t r) p) := by
  have e := (index0 t).2.1
  unfold row
  blk_ext [iblk, e]
/-- The block of window 2. -/
theorem block2 (p : Fin 512) : iblk m c 2 t (ix3 ⟨r / 128, by omega⟩ p ⟨r % 128, by omega⟩)
    = V m c main_v11 (ix3 ⟨(row t r : ℕ) / 128, by omega⟩ p ⟨(row t r : ℕ) % 128, by omega⟩) := by
  have e := (index0 t).2.2.1
  unfold row
  blk_ext [iblk, e]
/-- The block of window 3. -/
theorem block3 (p : Fin 512) : iblk m c 3 t (ix2 r p) = V m c main_v13 (ix2 (row t r) p) := by
  have e := (index0 t).2.2.2.1
  unfold row
  blk_ext [iblk, e]
/-- The block of window 4. -/
theorem block4 (p : Fin 1024) (k : Fin 3072) : iblk m c 4 t (ix2 p k) = V m c main_v1 (ix2 p k) := by
  have e := (index0 t).2.2.2.2.1
  blk_ext [iblk, e]
/-- The block of window 5. -/
theorem block5 (p : Fin 512) (k : Fin 1024) : iblk m c 5 t (ix2 p k) = V m c main_v2 (ix2 p k) := by
  have e := (index0 t).2.2.2.2.2.1
  blk_ext [iblk, e]
/-- The block of window 6. -/
theorem block6 (p : Fin 512) (k : Fin 1024) : iblk m c 6 t (ix2 p k) = V m c main_v3 (ix2 p k) := by
  have e := (index0 t).2.2.2.2.2.2.1
  blk_ext [iblk, e]
/-- The block of window 7. -/
theorem block7 (p : Fin 512) (k : Fin 1024) : iblk m c 7 t (ix2 p k) = V m c main_v4 (ix2 p k) := by
  have e := (index0 t).2.2.2.2.2.2.2.1
  blk_ext [iblk, e]
/-- The block of window 8. -/
theorem block8 (p : Fin 512) (k : Fin 512) : iblk m c 8 t (ix2 p k) = V m c main_v5 (ix2 p k) := by
  have e := (index0 t).2.2.2.2.2.2.2.2.1
  blk_ext [iblk, e]
/-- The block of window 9. -/
theorem block9 (p : Fin 1) (k : Fin 512) : iblk m c 9 t (ix2 p k) = V m c main_v6 (ix2 p k) := by
  have e := (index0 t).2.2.2.2.2.2.2.2.2.1
  blk_ext [iblk, e]
/-- The block of window 10. -/
theorem block10 (p : Fin 1024) (k : Fin 1024) : iblk m c 10 t (ix2 p k) = V m c main_v7 (ix2 p k) := by
  have e := (index0 t).2.2.2.2.2.2.2.2.2.2.1
  blk_ext [iblk, e]
/-- The block of window 11. -/
theorem block11 (p : Fin 1) (k : Fin 1024) : iblk m c 11 t (ix2 p k) = V m c main_v8 (ix2 p k) := by
  have e := (index0 t).2.2.2.2.2.2.2.2.2.2.2.1
  blk_ext [iblk, e]
/-- The block of window 12. -/
theorem block12 (p : Fin 1) (k : Fin 1024) : iblk m c 12 t (ix2 p k) = V m c main_v9 (ix2 p k) := by
  have e := (index0 t).2.2.2.2.2.2.2.2.2.2.2.2.1
  blk_ext [iblk, e]

/-- Where element `(r, l)` of the result's block `t` lies in the result. -/
theorem place (l : Fin 1024) : (win0_13.blk t).view.emb (ix2 r l) = ix2 (row t r) l := by
  have e := (index0 t).2.2.2.2.2.2.2.2.2.2.2.2.2
  unfold row
  funext d
  fin_cases d <;> refine Fin.ext ?_ <;> blk_simp [e] <;> rfl

/-- Block `t` of the result is block `t` of `rows`. -/
theorem written (l : Fin 1024) : out0_13 (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t)
      (iblk m c 12 t) (ix2 r l) = rows m c (ix2 (row t r) l) :=
  (tile_apply _ _ _ _ _ _ _ _ _ _ _ _ _ r l).trans
    (normed_congr (mixed_congr (funext (block0 m c t r)) (funext (block1 m c t r)) (funext (block2 m c t r))
        (funext (block3 m c t r)) (funext fun p => funext (block4 m c t p)) (funext fun p => funext (block5 m c t p))
        (funext fun p => funext (block6 m c t p)) (funext fun p => funext (block7 m c t p))
        (funext fun p => funext (block8 m c t p)) (funext (block9 m c t 0)) (funext fun p => funext (block10 m c t p)))
      (funext (block11 m c t 0)) (funext (block12 m c t 0)) rfl)

end Blocks

/-- The array after the call is `rows`. -/
theorem final : (dats m 0 c).arrAt 13 cfg0.N = rows m c := by
  funext i
  refine ((dats m 0 c).arrAt_apply_of_coversWhere 13 (rows m c)
    (P := fun i : S16384x1024.Idx => (i 0 : ℕ) / 512 < 32) (fun β => β (0 : Fin _) < 32) (by decide +kernel)
    (fun t hf y => ?_) (fun j => Iff.rfl) i).trans (if_pos ?_)
  swap
  · have := (i (0 : Fin 2)).isLt
    simp at this ⊢
    omega
  obtain ⟨r, l, rfl⟩ : ∃ (r : Fin 512) (l : Fin 1024), y = ix2 r l := ⟨y 0, y 1, by funext a; fin_cases a <;> rfl⟩
  blk_simp
  rw [after0_13]
  exact (written m c t r l).trans (congrArg (rows m c) (place t r l).symm)

/-- What `main_v12` holds when the call begins. -/
theorem entry_v12 (r : Fin 16384) (p : Fin 512) : V m c main_v12 (ix2 r p) = m ((c : Thread nD τ).loc main_arg1) (ix2 r p) := by
  unfold V
  after_results
  rfl
/-- What `main_v13` holds when the call begins. -/
theorem entry_v13 (r : Fin 16384) (p : Fin 512) : V m c main_v13 (ix2 r p) = m ((c : Thread nD τ).loc main_arg3) (ix2 r p) := by
  unfold V
  after_results
  rfl
/-- The state space model's result, chunk by chunk with the time last, is the row of its time. -/
theorem entry_v11 (r : Fin 16384) (p : Fin 512) :
    V m c main_v11 (ix3 ⟨(r : ℕ) / 128, by omega⟩ p ⟨(r : ℕ) % 128, by omega⟩) = m ((c : Thread nD τ).loc main_arg2) (ix2 r p) := by
  unfold V
  after_results
  pointwise
  congr 1
  funext d
  fin_cases d <;> first | rfl | (refine Fin.ext ?_; simp; omega)
/-- What `main_v1` holds when the call begins. -/
theorem entry_v1 (p : Fin 1024) (k : Fin 3072) : V m c main_v1 (ix2 p k) = m ((c : Thread nD τ).loc main_arg4) (ix2 p ⟨3072 + k, by omega⟩) := by
  unfold V
  after_results
  pointwise
/-- What `main_v2` holds when the call begins. -/
theorem entry_v2 (p : Fin 512) (k : Fin 1024) : V m c main_v2 (ix2 p k) = m ((c : Thread nD τ).loc main_arg5) (ix2 p k) := by
  unfold V
  after_results
  rfl
/-- What `main_v3` holds when the call begins. -/
theorem entry_v3 (p : Fin 512) (k : Fin 1024) : V m c main_v3 (ix2 p k) = m ((c : Thread nD τ).loc main_arg6) (ix2 p k) := by
  unfold V
  after_results
  rfl
/-- What `main_v4` holds when the call begins. -/
theorem entry_v4 (p : Fin 512) (k : Fin 1024) : V m c main_v4 (ix2 p k) = m ((c : Thread nD τ).loc main_arg7) (ix2 p k) := by
  unfold V
  after_results
  rfl
/-- What `main_v5` holds when the call begins. -/
theorem entry_v5 (p : Fin 512) (k : Fin 512) : V m c main_v5 (ix2 p k) = m ((c : Thread nD τ).loc main_arg8) (ix2 p k) := by
  unfold V
  after_results
  rfl
/-- What `main_v6` holds when the call begins. -/
theorem entry_v6 (k : Fin 512) : V m c main_v6 (ix2 0 k) = m ((c : Thread nD τ).loc main_arg9) (ix1 k) := by
  unfold V
  after_results
  pointwise
/-- What `main_v7` holds when the call begins. -/
theorem entry_v7 (p : Fin 1024) (k : Fin 1024) : V m c main_v7 (ix2 p k) = m ((c : Thread nD τ).loc main_arg10) (ix2 p k) := by
  unfold V
  after_results
  rfl
/-- What `main_v8` holds when the call begins. -/
theorem entry_v8 (k : Fin 1024) : V m c main_v8 (ix2 0 k) = m ((c : Thread nD τ).loc main_arg11) (ix1 k) := by
  unfold V
  after_results
  pointwise
/-- What `main_v9` holds when the call begins. -/
theorem entry_v9 (k : Fin 1024) : V m c main_v9 (ix2 0 k) = m ((c : Thread nD τ).loc main_arg12) (ix1 k) := by
  unfold V
  after_results
  pointwise

/-- The result at row `r`, column `l`, from the launch contents of the arguments. -/
theorem result_apply (r : Fin 16384) (l : Fin 1024) :
    (dats m 0 c).arrAt 13 cfg0.N (ix2 r l)
      = normed (mixed (fun p => m ((c : Thread nD τ).loc main_arg0) (ix2 r p)) (fun p => m ((c : Thread nD τ).loc main_arg1) (ix2 r p))
          (fun p => m ((c : Thread nD τ).loc main_arg2) (ix2 r p)) (fun p => m ((c : Thread nD τ).loc main_arg3) (ix2 r p))
          (fun p k => m ((c : Thread nD τ).loc main_arg4) (ix2 p ⟨3072 + k, by omega⟩))
          (fun p k => m ((c : Thread nD τ).loc main_arg5) (ix2 p k)) (fun p k => m ((c : Thread nD τ).loc main_arg6) (ix2 p k))
          (fun p k => m ((c : Thread nD τ).loc main_arg7) (ix2 p k)) (fun p k => m ((c : Thread nD τ).loc main_arg8) (ix2 p k))
          (fun p => m ((c : Thread nD τ).loc main_arg9) (ix1 p)) (fun p k => m ((c : Thread nD τ).loc main_arg10) (ix2 p k)))
        (fun k => m ((c : Thread nD τ).loc main_arg11) (ix1 k)) (fun k => m ((c : Thread nD τ).loc main_arg12) (ix1 k)) l := by
  refine (congrFun (final m c) (ix2 r l)).trans ?_
  show normed (mixed (fun p => V m c main_arg0 (ix2 r p)) (fun p => V m c main_v12 (ix2 r p))
      (fun p => V m c main_v11 (ix3 ⟨(r : ℕ) / 128, _⟩ p ⟨(r : ℕ) % 128, _⟩))
      (fun p => V m c main_v13 (ix2 r p)) (fun p k => V m c main_v1 (ix2 p k)) (fun p k => V m c main_v2 (ix2 p k))
      (fun p k => V m c main_v3 (ix2 p k)) (fun p k => V m c main_v4 (ix2 p k)) (fun p k => V m c main_v5 (ix2 p k))
      (fun p => V m c main_v6 (ix2 0 p)) (fun p k => V m c main_v7 (ix2 p k)))
    (fun k => V m c main_v8 (ix2 0 k)) (fun k => V m c main_v9 (ix2 0 k)) l = _
  rw [V_main_arg0 m c, funext (entry_v12 m c r), funext (entry_v11 m c r), funext (entry_v13 m c r),
    funext fun p => funext (entry_v1 m c p), funext fun p => funext (entry_v2 m c p), funext fun p => funext (entry_v3 m c p),
    funext fun p => funext (entry_v4 m c p), funext fun p => funext (entry_v5 m c p), funext (entry_v6 m c),
    funext fun p => funext (entry_v7 m c p), funext (entry_v8 m c), funext (entry_v9 m c)]

end Cert.Merge

end
-- ==== Proof.InprojBody.lean ====
/-
  The in-projection call's body: its operands, the three kinds of grid point, and the branch conditions at each.
-/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel4Ideal Cert.Kernel4Ideal.Gen

variable {F : FTy → Type} [FloatOps F]

local notation "𝕄" => MT nD τ sig Unit (Elt F) ℕ (UR sig nD τ) ℕ

/-- The buffers one run of the body works on, each whole: the staging buffers of the twenty windows, then the two scratches. -/
structure Bufs where
  a1 : Memref sig .tc .vmem S256x1024 .f32
  h1 : a1.IsWhole
  a2 : Memref sig .tc .vmem S1024x1024 .bf16
  h2 : a2.IsWhole
  a3 : Memref sig .tc .vmem S512x1024 .bf16
  h3 : a3.IsWhole
  a4 : Memref sig .tc .vmem S1024x512 .bf16
  h4 : a4.IsWhole
  a5 : Memref sig .tc .vmem S1024x512 .bf16
  h5 : a5.IsWhole
  a6 : Memref sig .tc .vmem S512x1024 .bf16
  h6 : a6.IsWhole
  a7 : Memref sig .tc .vmem S256x1024 .f32
  h7 : a7.IsWhole
  a8 : Memref sig .tc .vmem S256x1024 .f32
  h8 : a8.IsWhole
  a9 : Memref sig .tc .vmem S1x512 .f32
  h9 : a9.IsWhole
  a10 : Memref sig .tc .vmem S1x512 .f32
  h10 : a10.IsWhole
  a11 : Memref sig .tc .vmem S4x128x128 .bf16
  h11 : a11.IsWhole
  a12 : Memref sig .tc .vmem S128x4 .f32
  h12 : a12.IsWhole
  a13 : Memref sig .tc .vmem S256x512 .bf16
  h13 : a13.IsWhole
  a14 : Memref sig .tc .vmem S2x512x128 .f32
  h14 : a14.IsWhole
  a15 : Memref sig .tc .vmem S1x8x256x128 .f32
  h15 : a15.IsWhole
  a16 : Memref sig .tc .vmem S256x1024 .bf16
  h16 : a16.IsWhole
  a17 : Memref sig .tc .vmem S1x512x256 .bf16
  h17 : a17.IsWhole
  a18 : Memref sig .tc .vmem S1x3x8x256 .i32
  h18 : a18.IsWhole
  a19 : Memref sig .tc .vmem S1x3x8x256 .i32
  h19 : a19.IsWhole
  a20 : Memref sig .tc .vmem S1x8x64x256 .f32
  h20 : a20.IsWhole
  a21 : Memref sig .tc .vmem S64x1024 .f32
  h21 : a21.IsWhole
  a22 : Memref sig .tc .vmem S8x64x256 .f32
  h22 : a22.IsWhole

/-- The contents of the twelve input windows. -/
structure Ins (F : FTy → Type) where
  x0 : Vec F S256x1024 .f32
  x1 : Vec F S1024x1024 .bf16
  x2 : Vec F S512x1024 .bf16
  x3 : Vec F S1024x512 .bf16
  x4 : Vec F S1024x512 .bf16
  x5 : Vec F S512x1024 .bf16
  x6 : Vec F S256x1024 .f32
  x7 : Vec F S256x1024 .f32
  x8 : Vec F S1x512 .f32
  x9 : Vec F S1x512 .f32
  x10 : Vec F S4x128x128 .bf16
  x11 : Vec F S128x4 .f32

/-- The three kinds of grid point: the first clears both scratches, the last copies one of them out. -/
inductive Kind
  | first
  | mid
  | last
  deriving DecidableEq

/-- The body clears the first scratch. -/
abbrev clears0 (i : grid0.Coords) : Prop := (Scalar.cmpi .ne (Scalar.extui (Scalar.cmpi .eq (BitVec.ofNat 32 (i 0).val) 0#32)) 0#32) = 1#1
/-- The body clears the second scratch. -/
abbrev clears1 (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 64#32 0#32) 1#32 64#32)) 0#32) (Scalar.cmpi .slt (Scalar.select (Scalar.cmpi .eq 64#32 0#32) 1#32 64#32) 0#32)) (Scalar.cmpi .ne (Scalar.remsi (BitVec.ofNat 32 (i 0).val) (Scalar.select (Scalar.cmpi .eq 64#32 0#32) 1#32 64#32)) 0#32)) (Scalar.addi (Scalar.remsi (BitVec.ofNat 32 (i 0).val) (Scalar.select (Scalar.cmpi .eq 64#32 0#32) 1#32 64#32)) (Scalar.select (Scalar.cmpi .eq 64#32 0#32) 1#32 64#32)) (Scalar.remsi (BitVec.ofNat 32 (i 0).val) (Scalar.select (Scalar.cmpi .eq 64#32 0#32) 1#32 64#32))) 0#32)) 0#32) = 1#1
/-- The body copies the second scratch out. -/
abbrev copies (i : grid0.Coords) : Prop := k0_cond3 i = 1#1

/-- The branches a point of each kind takes. -/
def Kind.at (i : grid0.Coords) : Kind → Prop
  | first => clears0 i ∧ clears1 i ∧ ¬copies i
  | mid => ¬clears0 i ∧ ¬clears1 i ∧ ¬copies i
  | last => ¬clears0 i ∧ ¬clears1 i ∧ copies i

/-- The kind of each grid point. -/
def kind (t : Fin cfg0.N) : Kind := if t.val = 0 then .first else if t.val = 63 then .last else .mid

/-- Where the branches are taken, point by point. -/
theorem branches : ∀ t : Fin cfg0.N, (clears0 (grid0.coords t) ↔ t.val = 0) ∧ (clears1 (grid0.coords t) ↔ t.val = 0) ∧ (copies (grid0.coords t) ↔ t.val = 63) :=
  (by decide +kernel : ∀ t : Fin grid0.N, _)

/-- The row of the first scratch a point stores into is the point's number. -/
theorem row_eq : ∀ i : grid0.Coords, k0_off1 i = ![(i 0).val, 0] := by decide +kernel

/-- The same, where the stores' places are looked up. -/
instance rowClosed (i : grid0.Coords) : ClosedOff (k0_off1 i) := ⟨![(i 0).val, 0], row_eq i⟩

/-- Every point takes the branches of its kind. -/
theorem kind_at (t : Fin cfg0.N) : (kind t).at (grid0.coords t) := by
  obtain ⟨e0, e1, e2⟩ := branches t
  unfold kind
  split_ifs with h h' <;> simp only [Kind.at, e0, e1, e2] <;> omega

end Cert.Inproj

end
-- ==== Proof.InprojHost.lean ====
/-
  The in-projection call's host operations around the tiled region: what they leave alone.
-/
module

public import proofs.«01_k».proof.Proof.InprojBody

@[expose] public section

set_option maxRecDepth 16384

noncomputable section

namespace Cert.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the buffers hold when the tiled region is entered. -/
abbrev V0 (c : Dev nD) : Valuation τ sig (Elt F) := StableHlo.after (List.flatten [hostOps0]) (fun b => m (c, b))
/-- The same, at one buffer. -/
abbrev V (c : Dev nD) (b : Ref sig .tc) : Buf (Elt F) ((c : Thread nD τ).loc b) := V0 m c (Proc.devRef .tc b)

/-- The operations before the region allocate nothing. -/
theorem before_fresh : (hostOps0 : List (HloOp τ sig (Elt F))).Forall fun op => op.fresh = ∅ := by
  simp only [List.Forall]; repeat' constructor

/-- Nor do those after it. -/
theorem after_fresh : (hostOps1 : List (HloOp τ sig (Elt F))).Forall fun op => op.fresh = ∅ := by
  simp only [List.Forall]; repeat' constructor

set_option maxHeartbeats 800000 in
/-- The whole function is the operations before the region, the region, and the operations after it. -/
theorem main_around (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact before_fresh) main_chain

/-- The operations after the region touch no scoped buffer. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op ((List.forall_iff_forall_mem.mp hostOps1_sub) op hop)

/-- They allocate nothing, as the launch asks it. -/
theorem tail_fresh : ∀ ops ∈ ([hostOps1] : List (List (HloOp τ sig (Elt F)))), ∀ op ∈ ops, op.fresh = ∅ := by
  intro ops hops op hop
  obtain rfl := List.mem_singleton.mp hops
  exact (List.forall_iff_forall_mem.mp after_fresh) op hop

set_option maxHeartbeats 800000 in
/-- They write none of the region's arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  obtain rfl := List.mem_singleton.mp hops
  simp only [hostOps1, List.mem_cons, List.mem_nil_iff, or_false] at hop
  rcases hop with rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The call's argument arrays. -/
def arguments : List (Ref sig .tc) := [main_arg0, main_arg1, main_arg2, main_arg3, main_arg4, main_arg5]

set_option maxHeartbeats 800000 in
/-- No operation before the region writes an argument. -/
theorem entry_arguments (c : Dev nD) : ∀ b ∈ arguments, V m c b = m ((c : Thread nD τ).loc b) := by
  intro b hb
  refine StableHlo.after_of_forall_not_mem (b := Proc.devRef .tc b) _ _ (List.forall_iff_forall_mem.mp ?_)
  simp only [arguments, List.mem_cons, List.mem_nil_iff, or_false] at hb
  simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl | rfl | rfl
  all_goals
    repeat' apply And.intro
    all_goals exact StableHlo.devRef_ne_of_ne (by decide)

set_option maxHeartbeats 800000 in
/-- Nor does an operation after it, so an argument the region does not stage ends as it began. -/
theorem exit_arguments (dats : (p : Fin _) → (c : Dev nD) → Dat τ (Elt F) Unit ℕ (UR sig nD τ) ℕ (cfgs p) c) (c : Dev nD) :
    ∀ b ∈ arguments, (∀ w, Pipeline.arrRef spec0 w ≠ b) →
      Pipeline.afterTail₀ cfgs dats 0 (V0 m) [hostOps1] c b = m ((c : Thread nD τ).loc b) := by
  intro b hb hw
  unfold Pipeline.afterTail₀
  rw [StableHlo.after_of_forall_not_mem (b := Proc.devRef .tc b) _ _ (List.forall_iff_forall_mem.mp (by
      simp only [arguments, List.mem_cons, List.mem_nil_iff, or_false] at hb
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      rcases hb with rfl | rfl | rfl | rfl | rfl | rfl
      all_goals
        repeat' apply And.intro
        all_goals exact StableHlo.devRef_ne_of_ne (by decide))),
    Pipeline.withArrays_of_ne _ c (V0 m c) _ b (by exact hw)]
  exact entry_arguments m c b hb

/-- A window's block at a grid point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

set_option maxHeartbeats 1200000 in
/-- The arguments end unchanged, from a run of the region. -/
theorem frame_of (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) (c : Dev nD) :
    ∀ b ∈ arguments, r.2.mem ((c.tc : Thread nD τ).loc b) = m ((c.tc : Thread nD τ).loc b) := by
  have h0 : r.2.mem ((c.tc : Thread nD τ).loc main_arg0) = m ((c.tc : Thread nD τ).loc main_arg0) :=
    ((h c).1 0).trans (((dats 0 c).arrAt_in 0 rfl _).trans ((hA c 0).trans (entry_arguments m c main_arg0 (by simp [arguments]))))
  have hr : ∀ b ∈ arguments, b ∈ Pipeline.restRefs sig spec0 → (∀ w, Pipeline.arrRef spec0 w ≠ b) → r.2.mem ((c.tc : Thread nD τ).loc b) = m ((c.tc : Thread nD τ).loc b) :=
    fun b hb hb' hw => ((h c).2 b hb').trans (exit_arguments m dats c b hb hw)
  intro b hb
  have hb' := hb
  simp only [arguments, List.mem_cons, List.mem_nil_iff, or_false] at hb'
  rcases hb' with rfl | rfl | rfl | rfl | rfl | rfl
  · exact h0
  all_goals exact hr _ hb (Pipeline.mem_restRefs_of _ (by decide) (by decide)) (by decide)

end Cert.Inproj

end
-- ==== Proof.InprojStep.lean ====
/-
  The in-projection call's body run on any whole buffers: what its stores leave in each, at each kind of grid point.
-/
module

public import proofs.«01_k».proof.Proof.InprojBody

@[expose] public section

set_option maxRecDepth 16384

noncomputable section

namespace Cert.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel4Ideal Cert.Kernel4Ideal.Gen

variable {F : FTy → Type} [FloatOps F]

local notation "𝕄" => MT nD τ sig Unit (Elt F) ℕ (UR sig nD τ) ℕ

/-- A middle point is not the first. -/
theorem Kind.mid_ne : Kind.mid ≠ Kind.first := by decide
/-- The last point is not the first. -/
theorem Kind.last_ne : Kind.last ≠ Kind.first := by decide

set_option maxHeartbeats 8000000 in
/-- The pieces the body's stores leave in each output (`L12` to `L19`) and in the two scratches (`S0`, `S1`), the last store first, with the
    proof that the body runs to a state holding them. The inputs are left as they were. Away from the first point the scratches are entered at `s0` and `s1`; at
    the first point they may hold anything, since the body clears them. The last output is entered at some contents, and only the last point stores into it. -/
def bodyRun (c : Dev nD) (i : grid0.Coords) (a : Bufs) (x : Ins F) (s0 : Vec F S64x1024 .f32) (s1 : Vec F S8x64x256 .f32) (k : Kind) (hk : k.at i) :
    Σ' (L12 : List (View.Piece (Elt F) S256x512 .bf16)), Σ' (L13 : List (View.Piece (Elt F) S2x512x128 .f32)), Σ' (L14 : List (View.Piece (Elt F) S1x8x256x128 .f32)), Σ' (L15 : List (View.Piece (Elt F) S256x1024 .bf16)), Σ' (L16 : List (View.Piece (Elt F) S1x512x256 .bf16)), Σ' (L17 : List (View.Piece (Elt F) S1x3x8x256 .i32)), Σ' (L18 : List (View.Piece (Elt F) S1x3x8x256 .i32)), Σ' (L19 : List (View.Piece (Elt F) S1x8x64x256 .f32)), Σ' (S0 : List (View.Piece (Elt F) S64x1024 .f32)), { S1 : List (View.Piece (Elt F) S8x64x256 .f32) //
      ∀ (d0 : Vec F S64x1024 .f32) (d1 : Vec F S8x64x256 .f32) (hd : k ≠ .first → s0 = d0 ∧ s1 = d1) (y : Vec F S1x8x64x256 .f32) (E : Set ℕ) (K : PUnit → sProp 𝕄),
        iprop(owns (c : Thread nD τ) a.a1 fullShare x.x0 ∗ owns (c : Thread nD τ) a.a2 fullShare x.x1 ∗ owns (c : Thread nD τ) a.a3 fullShare x.x2 ∗ owns (c : Thread nD τ) a.a4 fullShare x.x3 ∗ owns (c : Thread nD τ) a.a5 fullShare x.x4 ∗ owns (c : Thread nD τ) a.a6 fullShare x.x5 ∗ owns (c : Thread nD τ) a.a7 fullShare x.x6 ∗ owns (c : Thread nD τ) a.a8 fullShare x.x7 ∗ owns (c : Thread nD τ) a.a9 fullShare x.x8 ∗ owns (c : Thread nD τ) a.a10 fullShare x.x9 ∗ owns (c : Thread nD τ) a.a11 fullShare x.x10 ∗ owns (c : Thread nD τ) a.a12 fullShare x.x11 ∗ (∃ d, owns (c : Thread nD τ) a.a13 fullShare d) ∗ (∃ d, owns (c : Thread nD τ) a.a14 fullShare d) ∗ (∃ d, owns (c : Thread nD τ) a.a15 fullShare d) ∗ (∃ d, owns (c : Thread nD τ) a.a16 fullShare d) ∗ (∃ d, owns (c : Thread nD τ) a.a17 fullShare d) ∗ (∃ d, owns (c : Thread nD τ) a.a18 fullShare d) ∗ (∃ d, owns (c : Thread nD τ) a.a19 fullShare d) ∗ owns (c : Thread nD τ) a.a20 fullShare y ∗ owns (c : Thread nD τ) a.a21 fullShare d0 ∗ owns (c : Thread nD τ) a.a22 fullShare d1
            ∗ (iprop(owns (c : Thread nD τ) a.a1 fullShare x.x0 ∗ owns (c : Thread nD τ) a.a2 fullShare x.x1 ∗ owns (c : Thread nD τ) a.a3 fullShare x.x2 ∗ owns (c : Thread nD τ) a.a4 fullShare x.x3 ∗ owns (c : Thread nD τ) a.a5 fullShare x.x4 ∗ owns (c : Thread nD τ) a.a6 fullShare x.x5 ∗ owns (c : Thread nD τ) a.a7 fullShare x.x6 ∗ owns (c : Thread nD τ) a.a8 fullShare x.x7 ∗ owns (c : Thread nD τ) a.a9 fullShare x.x8 ∗ owns (c : Thread nD τ) a.a10 fullShare x.x9 ∗ owns (c : Thread nD τ) a.a11 fullShare x.x10 ∗ owns (c : Thread nD τ) a.a12 fullShare x.x11 ∗ (∃ f, (a.a13.view.loc (c : Thread nD τ) ↦[a.a13.view.set]{fullShare} a.a13.view.writes (Elt F) f L12)) ∗ (∃ f, (a.a14.view.loc (c : Thread nD τ) ↦[a.a14.view.set]{fullShare} a.a14.view.writes (Elt F) f L13)) ∗ (∃ f, (a.a15.view.loc (c : Thread nD τ) ↦[a.a15.view.set]{fullShare} a.a15.view.writes (Elt F) f L14)) ∗ (∃ f, (a.a16.view.loc (c : Thread nD τ) ↦[a.a16.view.set]{fullShare} a.a16.view.writes (Elt F) f L15)) ∗ (∃ f, (a.a17.view.loc (c : Thread nD τ) ↦[a.a17.view.set]{fullShare} a.a17.view.writes (Elt F) f L16)) ∗ (∃ f, (a.a18.view.loc (c : Thread nD τ) ↦[a.a18.view.set]{fullShare} a.a18.view.writes (Elt F) f L17)) ∗ (∃ f, (a.a19.view.loc (c : Thread nD τ) ↦[a.a19.view.set]{fullShare} a.a19.view.writes (Elt F) f L18)) ∗ (∃ f, ⌜f = a.a20.view.writes (Elt F) (a.h20.unread y) L19⌝ ∗ (a.a20.view.loc (c : Thread nD τ) ↦[a.a20.view.set]{fullShare} f)) ∗ (a.a21.view.loc (c : Thread nD τ) ↦[a.a21.view.set]{fullShare} a.a21.view.writes (Elt F) (a.h21.unread d0) S0) ∗ (a.a22.view.loc (c : Thread nD τ) ↦[a.a22.view.set]{fullShare} a.a22.view.writes (Elt F) (a.h22.unread d1) S1)) -∗ K ⟨⟩))
          ⊢ wp frame (wpE (defs₀ (F := F)) Variants.none c none) E (cc0_inproj_sgu_gate i a.a1 a.h1 a.a2 a.h2 a.a3 a.h3 a.a4 a.h4 a.a5 a.h5 a.a6 a.h6 a.a7 a.h7 a.a8 a.h8 a.a9 a.h9 a.a10 a.h10 a.a11 a.h11 a.a12 a.h12 a.a13 a.h13 a.a14 a.h14 a.a15 a.h15 a.a16 a.h16 a.a17 a.h17 a.a18 a.h18 a.a19 a.h19 a.a20 a.h20 a.a21 a.h21 a.a22 a.h22) K } := by
  cases k
  all_goals
    refine ⟨?_, ?_, ?_, ?_, ?_, ?_, ?_, ?_, ?_, ?_, fun d0 d1 hd y E K => ?run⟩
    case run =>
      first | (have hd' := hd Kind.mid_ne; obtain ⟨rfl, rfl⟩ := hd') | (have hd' := hd Kind.last_ne; obtain ⟨rfl, rfl⟩ := hd') | skip
      have hk0 := hk.1
      have hk1 := hk.2.1
      have hk2 := hk.2.2
      simp only [cc0_inproj_sgu_gate_eq_skeleton]; unfold cc0_inproj_sgu_gate_skel
      simp only [k0_part34_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%f19, %hf19, H19⟩, ⟨%f20, %hf20, H20⟩, ⟨%f21, %hf21, H21⟩, Hk⟩
      obtain rfl := a.h1.eq_unread hf0; obtain rfl := a.h2.eq_unread hf1; obtain rfl := a.h3.eq_unread hf2; obtain rfl := a.h4.eq_unread hf3; obtain rfl := a.h5.eq_unread hf4; obtain rfl := a.h6.eq_unread hf5; obtain rfl := a.h7.eq_unread hf6; obtain rfl := a.h8.eq_unread hf7; obtain rfl := a.h9.eq_unread hf8; obtain rfl := a.h10.eq_unread hf9; obtain rfl := a.h11.eq_unread hf10; obtain rfl := a.h12.eq_unread hf11; obtain rfl := a.h20.eq_unread hf19; obtain rfl := a.h21.eq_unread hf20; obtain rfl := a.h22.eq_unread hf21
      sl_exec (disch := first | sl_exact hk0 | sl_exact hk1 | sl_exact hk2)
      sl_step
      iapply Hk
      isplitl [H0]
      · iexists _; isplitr; · ipureintro; exact a.h1.read_unread _
        iexact H0
      isplitl [H1]
      · iexists _; isplitr; · ipureintro; exact a.h2.read_unread _
        iexact H1
      isplitl [H2]
      · iexists _; isplitr; · ipureintro; exact a.h3.read_unread _
        iexact H2
      isplitl [H3]
      · iexists _; isplitr; · ipureintro; exact a.h4.read_unread _
        iexact H3
      isplitl [H4]
      · iexists _; isplitr; · ipureintro; exact a.h5.read_unread _
        iexact H4
      isplitl [H5]
      · iexists _; isplitr; · ipureintro; exact a.h6.read_unread _
        iexact H5
      isplitl [H6]
      · iexists _; isplitr; · ipureintro; exact a.h7.read_unread _
        iexact H6
      isplitl [H7]
      · iexists _; isplitr; · ipureintro; exact a.h8.read_unread _
        iexact H7
      isplitl [H8]
      · iexists _; isplitr; · ipureintro; exact a.h9.read_unread _
        iexact H8
      isplitl [H9]
      · iexists _; isplitr; · ipureintro; exact a.h10.read_unread _
        iexact H9
      isplitl [H10]
      · iexists _; isplitr; · ipureintro; exact a.h11.read_unread _
        iexact H10
      isplitl [H11]
      · iexists _; isplitr; · ipureintro; exact a.h12.read_unread _
        iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]
      · iexists _; isplitr
        swap; · iexact H19
        ipureintro; first | with_reducible rfl | (change a.h20.unread y = a.a20.view.writes (Elt F) (a.h20.unread y) []; rfl)
      isplitl [H20]; · iexact H20
      iexact H21

end Cert.Inproj

end
-- ==== Proof.InprojDats.lean ====
/-
  What every buffer of the in-projection call holds after each grid point.
-/
module

public import proofs.«01_k».proof.Proof.InprojHost
public import proofs.«01_k».proof.Proof.InprojStep

@[expose] public section

set_option maxRecDepth 16384

noncomputable section

namespace Cert.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the body works on at a grid point. -/
abbrev bufs (t : Fin cfg0.N) : Bufs where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a8 := win0_7.stage (cfg0.slots t 7)
  h8 := hstage0_7 ((cfg0.slots t 7).cast nbuf0_7)
  a9 := win0_8.stage (cfg0.slots t 8)
  h9 := hstage0_8 ((cfg0.slots t 8).cast nbuf0_8)
  a10 := win0_9.stage (cfg0.slots t 9)
  h10 := hstage0_9 ((cfg0.slots t 9).cast nbuf0_9)
  a11 := win0_10.stage (cfg0.slots t 10)
  h11 := hstage0_10 ((cfg0.slots t 10).cast nbuf0_10)
  a12 := win0_11.stage (cfg0.slots t 11)
  h12 := hstage0_11 ((cfg0.slots t 11).cast nbuf0_11)
  a13 := win0_12.stage (cfg0.slots t 12)
  h13 := hstage0_12 ((cfg0.slots t 12).cast nbuf0_12)
  a14 := win0_13.stage (cfg0.slots t 13)
  h14 := hstage0_13 ((cfg0.slots t 13).cast nbuf0_13)
  a15 := win0_14.stage (cfg0.slots t 14)
  h15 := hstage0_14 ((cfg0.slots t 14).cast nbuf0_14)
  a16 := win0_15.stage (cfg0.slots t 15)
  h16 := hstage0_15 ((cfg0.slots t 15).cast nbuf0_15)
  a17 := win0_16.stage (cfg0.slots t 16)
  h17 := hstage0_16 ((cfg0.slots t 16).cast nbuf0_16)
  a18 := win0_17.stage (cfg0.slots t 17)
  h18 := hstage0_17 ((cfg0.slots t 17).cast nbuf0_17)
  a19 := win0_18.stage (cfg0.slots t 18)
  h19 := hstage0_18 ((cfg0.slots t 18).cast nbuf0_18)
  a20 := win0_19.stage (cfg0.slots t 19)
  h20 := hstage0_19 ((cfg0.slots t 19).cast nbuf0_19)
  a21 := Memref.whole cc0_scratch0
  h21 := Memref.isWhole_whole _
  a22 := Memref.whole cc0_scratch1
  h22 := Memref.isWhole_whole _

/-- The input blocks of a grid point. -/
abbrev ins (c : Dev nD) (t : Fin cfg0.N) : Ins F where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t

/-- What the two scratches hold. -/
abbrev Scratches (F : FTy → Type) [FloatOps F] : Type := Vec F S64x1024 .f32 × Vec F S8x64x256 .f32

/-- What the body at a grid point leaves in the scratches, entered at `s`, over the contents `d`. -/
def left (c : Dev nD) (t : Fin cfg0.N) (s d : Scratches F) : Scratches F :=
  ((bufs t).a21.view.read (Elt F) ((bufs t).a21.view.writes (Elt F) ((bufs t).h21.unread d.1) (bodyRun c (grid0.coords t) (bufs t) (ins m c t) s.1 s.2 (kind t) (kind_at t)).2.2.2.2.2.2.2.2.1),
   (bufs t).a22.view.read (Elt F) ((bufs t).a22.view.writes (Elt F) ((bufs t).h22.unread d.2) (bodyRun c (grid0.coords t) (bufs t) (ins m c t) s.1 s.2 (kind t) (kind_at t)).2.2.2.2.2.2.2.2.2.1))

/-- What the scratches hold when the body at a grid point is entered; at the first point, anything. -/
def held (c : Dev nD) : (n : ℕ) → n ≤ cfg0.N → Scratches F
  | 0, _ => ((Memref.whole cc0_scratch0).view.read (Elt F) (Memref.whole cc0_scratch0).view.junk, (Memref.whole cc0_scratch1).view.read (Elt F) (Memref.whole cc0_scratch1).view.junk)
  | n + 1, h => left m c ⟨n, h⟩ (held c n (Nat.le_of_succ_le h)) (held c n (Nat.le_of_succ_le h))

/-- The run of the body at a grid point. -/
abbrev stepAt (c : Dev nD) (t : Fin cfg0.N) :=
  bodyRun c (grid0.coords t) (bufs t) (ins m c t) (held m c t.val (Nat.le_of_lt t.isLt)).1 (held m c t.val (Nat.le_of_lt t.isLt)).2 (kind t) (kind_at t)

/-- Between points the scratches hold what the points before left, and before the first point anything. -/
def between (c : Dev nD) (n : ℕ) (h : n ≤ cfg0.N) : sProp 𝕄 :=
  iprop((∃ d0 d1, ⌜n ≠ 0 → held m c n h = (d0, d1)⌝ ∗ owns (c : Thread nD τ) (Memref.whole cc0_scratch0 : Memref sig .tc .vmem S64x1024 .f32) fullShare d0 ∗ owns (c : Thread nD τ) (Memref.whole cc0_scratch1 : Memref sig .tc .vmem S8x64x256 .f32) fullShare d1) ∗ (∃ r, prngReg c r))

/-- What each window's buffer holds after the body at each point: an input its block, an output what the stores left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (Memref.whole cc0_stg12_0 : Memref sig .tc .vmem S256x512 .bf16).view.read (Elt F) ((Memref.whole cc0_stg12_0 : Memref sig .tc .vmem S256x512 .bf16).view.writes (Elt F) (Memref.whole cc0_stg12_0 : Memref sig .tc .vmem S256x512 .bf16).view.junk (stepAt m c t).1)
    | ⟨13, _⟩ => (Memref.whole cc0_stg13_0 : Memref sig .tc .vmem S2x512x128 .f32).view.read (Elt F) ((Memref.whole cc0_stg13_0 : Memref sig .tc .vmem S2x512x128 .f32).view.writes (Elt F) (Memref.whole cc0_stg13_0 : Memref sig .tc .vmem S2x512x128 .f32).view.junk (stepAt m c t).2.1)
    | ⟨14, _⟩ => (Memref.whole cc0_stg14_0 : Memref sig .tc .vmem S1x8x256x128 .f32).view.read (Elt F) ((Memref.whole cc0_stg14_0 : Memref sig .tc .vmem S1x8x256x128 .f32).view.writes (Elt F) (Memref.whole cc0_stg14_0 : Memref sig .tc .vmem S1x8x256x128 .f32).view.junk (stepAt m c t).2.2.1)
    | ⟨15, _⟩ => (Memref.whole cc0_stg15_0 : Memref sig .tc .vmem S256x1024 .bf16).view.read (Elt F) ((Memref.whole cc0_stg15_0 : Memref sig .tc .vmem S256x1024 .bf16).view.writes (Elt F) (Memref.whole cc0_stg15_0 : Memref sig .tc .vmem S256x1024 .bf16).view.junk (stepAt m c t).2.2.2.1)
    | ⟨16, _⟩ => (Memref.whole cc0_stg16_0 : Memref sig .tc .vmem S1x512x256 .bf16).view.read (Elt F) ((Memref.whole cc0_stg16_0 : Memref sig .tc .vmem S1x512x256 .bf16).view.writes (Elt F) (Memref.whole cc0_stg16_0 : Memref sig .tc .vmem S1x512x256 .bf16).view.junk (stepAt m c t).2.2.2.2.1)
    | ⟨17, _⟩ => (Memref.whole cc0_stg17_0 : Memref sig .tc .vmem S1x3x8x256 .i32).view.read (Elt F) ((Memref.whole cc0_stg17_0 : Memref sig .tc .vmem S1x3x8x256 .i32).view.writes (Elt F) (Memref.whole cc0_stg17_0 : Memref sig .tc .vmem S1x3x8x256 .i32).view.junk (stepAt m c t).2.2.2.2.2.1)
    | ⟨18, _⟩ => (Memref.whole cc0_stg18_0 : Memref sig .tc .vmem S1x3x8x256 .i32).view.read (Elt F) ((Memref.whole cc0_stg18_0 : Memref sig .tc .vmem S1x3x8x256 .i32).view.writes (Elt F) (Memref.whole cc0_stg18_0 : Memref sig .tc .vmem S1x3x8x256 .i32).view.junk (stepAt m c t).2.2.2.2.2.2.1)
    | ⟨19, _⟩ => (Memref.whole cc0_stg19_0 : Memref sig .tc .vmem S1x8x64x256 .f32).view.read (Elt F) ((Memref.whole cc0_stg19_0 : Memref sig .tc .vmem S1x8x64x256 .f32).view.writes (Elt F) (Memref.whole cc0_stg19_0 : Memref sig .tc .vmem S1x8x64x256 .f32).view.junk (stepAt m c t).2.2.2.2.2.2.2.1)
    | ⟨_ + 20, h⟩ => absurd h (Nat.not_lt.2 (Nat.le_add_left _ _))
  Φ t := between m c t.val (Nat.le_of_lt_succ t.isLt)
  q _ := fullShare
  owed _ := 0

/-- The arrays begin as the region finds them. -/
theorem A_eq (c : Dev nD) (w : Fin cfg0.W) : (dats m 0 c).A w = V m c (Pipeline.arrRef spec0 w) := by dsimp only [dats]

end Cert.Inproj

end
-- ==== Proof.InprojCover.lean ====
/-
  The in-projection call's tiles cover their buffers, whatever the kind of grid point.
-/
module

public import proofs.«01_k».proof.Proof.InprojStep

@[expose] public section

set_option maxRecDepth 16384

noncomputable section

namespace Cert.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel4Ideal Cert.Kernel4Ideal.Gen

variable {F : FTy → Type} [FloatOps F]

local notation "𝕄" => MT nD τ sig Unit (Elt F) ℕ (UR sig nD τ) ℕ

variable (c : Dev nD) (i : grid0.Coords) (a : Bufs) (x : Ins F) (s0 : Vec F S64x1024 .f32) (s1 : Vec F S8x64x256 .f32)

/-- The stores into each output cover it. -/
theorem covered (k : Kind) (hk : k.at i) :
    (∀ y, ∃ p ∈ (bodyRun c i a x s0 s1 k hk).1, y ∈ p.1.set) ∧
    (∀ y, ∃ p ∈ (bodyRun c i a x s0 s1 k hk).2.1, y ∈ p.1.set) ∧
    (∀ y, ∃ p ∈ (bodyRun c i a x s0 s1 k hk).2.2.1, y ∈ p.1.set) ∧
    (∀ y, ∃ p ∈ (bodyRun c i a x s0 s1 k hk).2.2.2.1, y ∈ p.1.set) ∧
    (∀ y, ∃ p ∈ (bodyRun c i a x s0 s1 k hk).2.2.2.2.1, y ∈ p.1.set) ∧
    (∀ y, ∃ p ∈ (bodyRun c i a x s0 s1 k hk).2.2.2.2.2.1, y ∈ p.1.set) ∧
    (∀ y, ∃ p ∈ (bodyRun c i a x s0 s1 k hk).2.2.2.2.2.2.1, y ∈ p.1.set) := by
  cases k <;> exact ⟨View.cover_of_tiledL _ S128x128.size (by sl_kernel_rfl), View.cover_of_tiledL _ S1x512x128.size (by sl_kernel_rfl), View.cover_of_tiledL _ S1x1x256x128.size (by sl_kernel_rfl), View.cover_of_tiledL _ S256x128.size (by sl_kernel_rfl), View.cover_of_tiledL _ S1x512x256.size (by sl_kernel_rfl), View.cover_of_tiledL _ S1x1x1x256.size (by sl_kernel_rfl), View.cover_of_tiledL _ S1x1x1x256.size (by sl_kernel_rfl)⟩

/-- At the last point the stores into the last output cover it; elsewhere there are none. -/
theorem covered_last (k : Kind) (hk : k.at i) :
    (k = .last → ∀ y, ∃ p ∈ (bodyRun c i a x s0 s1 k hk).2.2.2.2.2.2.2.1, y ∈ p.1.set) ∧ (k ≠ .last → (bodyRun c i a x s0 s1 k hk).2.2.2.2.2.2.2.1 = []) := by
  cases k
  · exact ⟨fun h => by simp at h, fun _ => rfl⟩
  · exact ⟨fun h => by simp at h, fun _ => rfl⟩
  · exact ⟨fun _ => View.cover_of_tiledL _ S1x8x64x256.size (by sl_kernel_rfl), fun h => absurd rfl h⟩

/-- At the first point the stores into the scratches cover them. -/
theorem covered_scratch (hk : Kind.first.at i) :
    (∀ y, ∃ p ∈ (bodyRun c i a x s0 s1 .first hk).2.2.2.2.2.2.2.2.1, y ∈ p.1.set) ∧ (∀ y, ∃ p ∈ (bodyRun c i a x s0 s1 .first hk).2.2.2.2.2.2.2.2.2.1, y ∈ p.1.set) :=
  ⟨View.cover_of_wholeMem _ (by sl_whole_mem), View.cover_of_wholeMem _ (by sl_whole_mem)⟩

end Cert.Inproj

end
-- ==== Proof.InprojRun.lean ====
/-
  The in-projection call's run: the body at each grid point, the launch, and the frame.
-/
module

public import proofs.«01_k».proof.Proof.InprojDats
public import proofs.«01_k».proof.Proof.InprojCover

@[expose] public section

set_option maxRecDepth 16384

noncomputable section

namespace Cert.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point is of the first kind exactly when it is the first. -/
theorem kind_first (t : Fin cfg0.N) : kind t = .first ↔ t.val = 0 := by
  unfold kind; split_ifs with h h' <;> simp [h]

/-- A point is of the last kind exactly when it is the last. -/
theorem kind_last (t : Fin cfg0.N) : kind t = .last ↔ t.val = 63 := by
  unfold kind
  split_ifs with h h'
  · simp [h]
  · simp [h']
  · simp [h']

/-- The run of the body at a grid point, under a name of its own. -/
def step (c : Dev nD) (t : Fin cfg0.N) :=
  bodyRun c (grid0.coords t) (bufs t) (ins m c t) (held m c t.val (Nat.le_of_lt t.isLt)).1 (held m c t.val (Nat.le_of_lt t.isLt)).2 (kind t) (kind_at t)

/-- At the first point its stores into the scratches cover them. -/
theorem step_scratch (c : Dev nD) (t : Fin cfg0.N) (h : kind t = .first) :
    (∀ y, ∃ p ∈ (step m c t).2.2.2.2.2.2.2.2.1, y ∈ p.1.set) ∧ (∀ y, ∃ p ∈ (step m c t).2.2.2.2.2.2.2.2.2.1, y ∈ p.1.set) := by
  have key : ∀ (k : Kind) (hk : k.at (grid0.coords t)), k = .first →
      (∀ y, ∃ p ∈ (bodyRun c (grid0.coords t) (bufs t) (ins m c t) (held m c t.val (Nat.le_of_lt t.isLt)).1 (held m c t.val (Nat.le_of_lt t.isLt)).2 k hk).2.2.2.2.2.2.2.2.1, y ∈ p.1.set)
      ∧ (∀ y, ∃ p ∈ (bodyRun c (grid0.coords t) (bufs t) (ins m c t) (held m c t.val (Nat.le_of_lt t.isLt)).1 (held m c t.val (Nat.le_of_lt t.isLt)).2 k hk).2.2.2.2.2.2.2.2.2.1, y ∈ p.1.set) := by
    intro k hk e
    subst e
    exact covered_scratch c _ _ _ _ _ hk
  unfold step
  exact key (kind t) (kind_at t) h

/-- What it leaves in the scratches. -/
theorem left_step (c : Dev nD) (t : Fin cfg0.N) (d0 : Vec F S64x1024 .f32) (d1 : Vec F S8x64x256 .f32) :
    left m c t (held m c t.val (Nat.le_of_lt t.isLt)) (d0, d1)
      = ((bufs t).a21.view.read (Elt F) ((bufs t).a21.view.writes (Elt F) ((bufs t).h21.unread d0) (step m c t).2.2.2.2.2.2.2.2.1),
         (bufs t).a22.view.read (Elt F) ((bufs t).a22.view.writes (Elt F) ((bufs t).h22.unread d1) (step m c t).2.2.2.2.2.2.2.2.2.1)) := by
  unfold left step
  dsimp only

/-- Where the stores cover the scratches, what they held before does not matter. -/
theorem pair_covered (a : Bufs) (d0 d0' : Vec F S64x1024 .f32) (d1 d1' : Vec F S8x64x256 .f32) (P : List (View.Piece (Elt F) S64x1024 .f32)) (Q : List (View.Piece (Elt F) S8x64x256 .f32))
    (hP : ∀ y, ∃ p ∈ P, y ∈ p.1.set) (hQ : ∀ y, ∃ p ∈ Q, y ∈ p.1.set) :
    (a.a21.view.read (Elt F) (a.a21.view.writes (Elt F) (a.h21.unread d0) P), a.a22.view.read (Elt F) (a.a22.view.writes (Elt F) (a.h22.unread d1) Q))
      = (a.a21.view.read (Elt F) (a.a21.view.writes (Elt F) (a.h21.unread d0') P), a.a22.view.read (Elt F) (a.a22.view.writes (Elt F) (a.h22.unread d1') Q)) :=
  congrArg₂ Prod.mk (View.read_writes_of_cover _ _ _ _ _ hP) (View.read_writes_of_cover _ _ _ _ _ hQ)

/-- One step of the scratches. -/
theorem held_next (c : Dev nD) (n : ℕ) (h : n + 1 ≤ cfg0.N) :
    held m c (n + 1) h = left m c ⟨n, h⟩ (held m c n (Nat.le_of_succ_le h)) (held m c n (Nat.le_of_succ_le h)) := by
  rw [held]

/-- At the first point the scratches end the same whatever they held. -/
theorem left_first (c : Dev nD) (t : Fin cfg0.N) (h : kind t = .first) (d d' : Scratches F) :
    left m c t (held m c t.val (Nat.le_of_lt t.isLt)) d = left m c t (held m c t.val (Nat.le_of_lt t.isLt)) d' := by
  obtain ⟨d0, d1⟩ := d
  obtain ⟨d0', d1'⟩ := d'
  obtain ⟨e0, e1⟩ := step_scratch m c t h
  exact (left_step m c t d0 d1).trans ((pair_covered (bufs t) d0 d0' d1 d1' _ _ e0 e1).trans (left_step m c t d0' d1').symm)

/-- The scratches after a point, whatever they held before it where the point clears them. -/
theorem held_succ (c : Dev nD) (t : Fin cfg0.N) (d : Scratches F) (hd : kind t ≠ .first → held m c t.val (Nat.le_of_lt t.isLt) = d) :
    held m c (t.val + 1) t.isLt = left m c t (held m c t.val (Nat.le_of_lt t.isLt)) d := by
  refine (held_next m c t.val t.isLt).trans ?_
  by_cases h : kind t = .first
  · exact left_first m c t h _ d
  · rw [← hd h]

set_option maxHeartbeats 3200000 in
/-- An input window holds its block at every point, for any contents that leave it there. -/
theorem before_blocks (c : Dev nD) (t : Fin cfg0.N) (dat : Dat τ (Elt F) Unit ℕ (UR sig nD τ) ℕ cfg0 c) (hA : ∀ w, dat.A w = V m c (Pipeline.arrRef spec0 w))
    (h0 : ∀ t, dat.after 0 t = iblk m c 0 t)
    (h1 : ∀ t, dat.after 1 t = iblk m c 1 t)
    (h2 : ∀ t, dat.after 2 t = iblk m c 2 t)
    (h3 : ∀ t, dat.after 3 t = iblk m c 3 t)
    (h4 : ∀ t, dat.after 4 t = iblk m c 4 t)
    (h5 : ∀ t, dat.after 5 t = iblk m c 5 t)
    (h6 : ∀ t, dat.after 6 t = iblk m c 6 t)
    (h7 : ∀ t, dat.after 7 t = iblk m c 7 t)
    (h8 : ∀ t, dat.after 8 t = iblk m c 8 t)
    (h9 : ∀ t, dat.after 9 t = iblk m c 9 t)
    (h10 : ∀ t, dat.after 10 t = iblk m c 10 t)
    (h11 : ∀ t, dat.after 11 t = iblk m c 11 t) :
    (∀ d, dat.before 0 t d = iblk m c 0 t) ∧ (∀ d, dat.before 1 t d = iblk m c 1 t) ∧ (∀ d, dat.before 2 t d = iblk m c 2 t) ∧ (∀ d, dat.before 3 t d = iblk m c 3 t) ∧ (∀ d, dat.before 4 t d = iblk m c 4 t) ∧ (∀ d, dat.before 5 t d = iblk m c 5 t) ∧ (∀ d, dat.before 6 t d = iblk m c 6 t) ∧ (∀ d, dat.before 7 t d = iblk m c 7 t) ∧ (∀ d, dat.before 8 t d = iblk m c 8 t) ∧ (∀ d, dat.before 9 t d = iblk m c 9 t) ∧ (∀ d, dat.before 10 t d = iblk m c 10 t) ∧ (∀ d, dat.before 11 t d = iblk m c 11 t) := by
  refine ⟨?_, ?_, ?_, ?_, ?_, ?_, ?_, ?_, ?_, ?_, ?_, ?_⟩
  all_goals
    exact fun d => (dat.before_in_eq_fetched _ rfl (fun _ => rfl) (fun _ _ _ => rfl)
      (fun t => by
        first | rw [h0] | rw [h1] | rw [h2] | rw [h3] | rw [h4] | rw [h5] | rw [h6] | rw [h7] | rw [h8] | rw [h9] | rw [h10] | rw [h11]
        unfold Dat.blockOf iblk
        rw [hA]
        try rfl) t d).trans (by unfold Dat.fetched Dat.blockOf iblk; rw [hA]; try rfl)

/-- Every window but the last output is used at every point. -/
theorem live : ∀ w : Fin cfg0.W, w.val ≠ 19 → ∀ i, cfg0.idle w i = false := by
  intro w hw i
  match w, hw with
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨9, _⟩, _ => rfl
  | ⟨10, _⟩, _ => rfl
  | ⟨11, _⟩, _ => rfl
  | ⟨12, _⟩, _ => rfl
  | ⟨13, _⟩, _ => rfl
  | ⟨14, _⟩, _ => rfl
  | ⟨15, _⟩, _ => rfl
  | ⟨16, _⟩, _ => rfl
  | ⟨17, _⟩, _ => rfl
  | ⟨18, _⟩, _ => rfl
  | ⟨19, _⟩, h => exact absurd rfl h
  | ⟨_ + 20, h⟩, _ => exact absurd h (Nat.not_lt.2 (Nat.le_add_left _ _))

/-- The last output is used at the last point only. -/
theorem last_live : ∀ t : Fin cfg0.N, (t.val ≠ 63 → cfg0.idle 19 (grid0.coords t) = true ∧ (cfg0.win 19).flush t = false)
    ∧ (t.val = 63 → cfg0.idle 19 (grid0.coords t) = false) := by decide +kernel

/-- So a used window is left at the contents stated for it. -/
theorem leaves_live (c : Dev nD) (dat : Dat τ (Elt F) Unit ℕ (UR sig nD τ) ℕ cfg0 c) (t : Fin cfg0.N) (w : Fin cfg0.W) (hw : w.val ≠ 19) :
    dat.leavesExact w t = owns (c : Thread nD τ) ((cfg0.win w).stage (cfg0.slots t w)) fullShare (dat.after w t) := by
  unfold Dat.leavesExact; rw [live w hw]

/-- The last output is left untouched before the last point and written over at it. -/
theorem leaves_last (c : Dev nD) (dat : Dat τ (Elt F) Unit ℕ (UR sig nD τ) ℕ cfg0 c) (t : Fin cfg0.N) (d) (P : List (View.Piece (Elt F) S1x8x64x256 .f32))
    (e1 : t.val = 63 → ∀ y, ∃ p ∈ P, y ∈ p.1.set) (e2 : t.val ≠ 63 → P = [])
    (a19 : dat.after 19 t = (Memref.whole cc0_stg19_0 : Memref sig .tc .vmem S1x8x64x256 .f32).view.read (Elt F) ((Memref.whole cc0_stg19_0 : Memref sig .tc .vmem S1x8x64x256 .f32).view.writes (Elt F) (Memref.whole cc0_stg19_0 : Memref sig .tc .vmem S1x8x64x256 .f32).view.junk P)) :
    (iprop(∃ f, ⌜f = (bufs t).a20.view.writes (Elt F) ((bufs t).h20.unread (dat.before 19 t d)) P⌝
        ∗ ((bufs t).a20.view.loc (c : Thread nD τ) ↦[(bufs t).a20.view.set]{fullShare} f)) : sProp 𝕄) ⊢ dat.leavesExact 19 t := by
  by_cases h : t.val = 63
  · have e := e1 h
    have l : dat.leavesExact 19 t = owns (c : Thread nD τ) ((bufs t).a20) fullShare ((Memref.whole cc0_stg19_0 : Memref sig .tc .vmem S1x8x64x256 .f32).view.read (Elt F) ((Memref.whole cc0_stg19_0 : Memref sig .tc .vmem S1x8x64x256 .f32).view.writes (Elt F) (Memref.whole cc0_stg19_0 : Memref sig .tc .vmem S1x8x64x256 .f32).view.junk P)) := by
      refine Eq.trans (b := owns (c : Thread nD τ) ((cfg0.win 19).stage (cfg0.slots t 19)) fullShare (dat.after 19 t)) ?_ ?_
      · unfold Dat.leavesExact; rw [(last_live t).2 h]
      · rw [a19]
    rw [l]
    iintro ⟨%f, %hf, H⟩
    unfold owns; iexists _; isplitr
    swap; · iexact H
    ipureintro; rw [hf]; exact View.read_writes_of_cover _ _ _ _ _ e
  · rw [Dat.leavesExact_idle dat 19 t ((last_live t).1 h).1 ((last_live t).1 h).2, e2 h]
    iintro ⟨%f, %hf, H⟩
    iexists d
    unfold owns; iexists _; isplitr
    swap; · iexact H
    ipureintro; rw [hf]; exact (bufs t).h20.read_unread _

/-- What a point leaves in the outputs' buffers is what its run stores. -/
theorem step_after (c : Dev nD) (t : Fin cfg0.N) :
    (dats m 0 c).after 12 t = (Memref.whole cc0_stg12_0 : Memref sig .tc .vmem S256x512 .bf16).view.read (Elt F) ((Memref.whole cc0_stg12_0 : Memref sig .tc .vmem S256x512 .bf16).view.writes (Elt F) (Memref.whole cc0_stg12_0 : Memref sig .tc .vmem S256x512 .bf16).view.junk (step m c t).1)
    ∧ (dats m 0 c).after 13 t = (Memref.whole cc0_stg13_0 : Memref sig .tc .vmem S2x512x128 .f32).view.read (Elt F) ((Memref.whole cc0_stg13_0 : Memref sig .tc .vmem S2x512x128 .f32).view.writes (Elt F) (Memref.whole cc0_stg13_0 : Memref sig .tc .vmem S2x512x128 .f32).view.junk (step m c t).2.1)
    ∧ (dats m 0 c).after 14 t = (Memref.whole cc0_stg14_0 : Memref sig .tc .vmem S1x8x256x128 .f32).view.read (Elt F) ((Memref.whole cc0_stg14_0 : Memref sig .tc .vmem S1x8x256x128 .f32).view.writes (Elt F) (Memref.whole cc0_stg14_0 : Memref sig .tc .vmem S1x8x256x128 .f32).view.junk (step m c t).2.2.1)
    ∧ (dats m 0 c).after 15 t = (Memref.whole cc0_stg15_0 : Memref sig .tc .vmem S256x1024 .bf16).view.read (Elt F) ((Memref.whole cc0_stg15_0 : Memref sig .tc .vmem S256x1024 .bf16).view.writes (Elt F) (Memref.whole cc0_stg15_0 : Memref sig .tc .vmem S256x1024 .bf16).view.junk (step m c t).2.2.2.1)
    ∧ (dats m 0 c).after 16 t = (Memref.whole cc0_stg16_0 : Memref sig .tc .vmem S1x512x256 .bf16).view.read (Elt F) ((Memref.whole cc0_stg16_0 : Memref sig .tc .vmem S1x512x256 .bf16).view.writes (Elt F) (Memref.whole cc0_stg16_0 : Memref sig .tc .vmem S1x512x256 .bf16).view.junk (step m c t).2.2.2.2.1)
    ∧ (dats m 0 c).after 17 t = (Memref.whole cc0_stg17_0 : Memref sig .tc .vmem S1x3x8x256 .i32).view.read (Elt F) ((Memref.whole cc0_stg17_0 : Memref sig .tc .vmem S1x3x8x256 .i32).view.writes (Elt F) (Memref.whole cc0_stg17_0 : Memref sig .tc .vmem S1x3x8x256 .i32).view.junk (step m c t).2.2.2.2.2.1)
    ∧ (dats m 0 c).after 18 t = (Memref.whole cc0_stg18_0 : Memref sig .tc .vmem S1x3x8x256 .i32).view.read (Elt F) ((Memref.whole cc0_stg18_0 : Memref sig .tc .vmem S1x3x8x256 .i32).view.writes (Elt F) (Memref.whole cc0_stg18_0 : Memref sig .tc .vmem S1x3x8x256 .i32).view.junk (step m c t).2.2.2.2.2.2.1)
    ∧ (dats m 0 c).after 19 t = (Memref.whole cc0_stg19_0 : Memref sig .tc .vmem S1x8x64x256 .f32).view.read (Elt F) ((Memref.whole cc0_stg19_0 : Memref sig .tc .vmem S1x8x64x256 .f32).view.writes (Elt F) (Memref.whole cc0_stg19_0 : Memref sig .tc .vmem S1x8x64x256 .f32).view.junk (step m c t).2.2.2.2.2.2.2.1) := by
  unfold step
  exact ⟨rfl, rfl, rfl, rfl, rfl, rfl, rfl, rfl⟩

/-- Its stores cover every output but the last. -/
theorem step_covered (c : Dev nD) (t : Fin cfg0.N) :
    (∀ y, ∃ p ∈ (step m c t).1, y ∈ p.1.set)
    ∧ (∀ y, ∃ p ∈ (step m c t).2.1, y ∈ p.1.set)
    ∧ (∀ y, ∃ p ∈ (step m c t).2.2.1, y ∈ p.1.set)
    ∧ (∀ y, ∃ p ∈ (step m c t).2.2.2.1, y ∈ p.1.set)
    ∧ (∀ y, ∃ p ∈ (step m c t).2.2.2.2.1, y ∈ p.1.set)
    ∧ (∀ y, ∃ p ∈ (step m c t).2.2.2.2.2.1, y ∈ p.1.set)
    ∧ (∀ y, ∃ p ∈ (step m c t).2.2.2.2.2.2.1, y ∈ p.1.set) := by
  unfold step
  exact covered c (grid0.coords t) (bufs t) (ins m c t) (held m c t.val (Nat.le_of_lt t.isLt)).1 (held m c t.val (Nat.le_of_lt t.isLt)).2 (kind t) (kind_at t)

/-- The last output they cover at the last point and leave alone before it. -/
theorem step_last (c : Dev nD) (t : Fin cfg0.N) :
    (t.val = 63 → ∀ y, ∃ p ∈ (step m c t).2.2.2.2.2.2.2.1, y ∈ p.1.set) ∧ (t.val ≠ 63 → (step m c t).2.2.2.2.2.2.2.1 = []) := by
  have e := covered_last c (grid0.coords t) (bufs t) (ins m c t) (held m c t.val (Nat.le_of_lt t.isLt)).1 (held m c t.val (Nat.le_of_lt t.isLt)).2 (kind t) (kind_at t)
  unfold step
  refine ⟨fun h => ?_, fun h => ?_⟩
  · exact e.1 ((kind_last t).mpr h)
  · exact e.2 (fun hl => h ((kind_last t).mp hl))

set_option maxHeartbeats 4000000 in
/-- The body between two points: from the contents entered to what the windows are left at, given what its run there
    stores. The contents and the stores are arbitrary. -/
theorem weave (c : Dev nD) (i : grid0.Coords) (a : Bufs) (x : Ins F)
    (L12 : List (View.Piece (Elt F) S256x512 .bf16)) (L13 : List (View.Piece (Elt F) S2x512x128 .f32)) (L14 : List (View.Piece (Elt F) S1x8x256x128 .f32)) (L15 : List (View.Piece (Elt F) S256x1024 .bf16)) (L16 : List (View.Piece (Elt F) S1x512x256 .bf16)) (L17 : List (View.Piece (Elt F) S1x3x8x256 .i32)) (L18 : List (View.Piece (Elt F) S1x3x8x256 .i32)) (L19 : List (View.Piece (Elt F) S1x8x64x256 .f32)) (S0 : List (View.Piece (Elt F) S64x1024 .f32)) (S1 : List (View.Piece (Elt F) S8x64x256 .f32))
    {D0 D1 D2 D3 D4 D5 D6 D7 D8 D9 D10 D11 D12 D13 D14 D15 D16 D17 D18 D19 : Type}
    (B0 : D0 → Vec F S256x1024 .f32)
    (B1 : D1 → Vec F S1024x1024 .bf16)
    (B2 : D2 → Vec F S512x1024 .bf16)
    (B3 : D3 → Vec F S1024x512 .bf16)
    (B4 : D4 → Vec F S1024x512 .bf16)
    (B5 : D5 → Vec F S512x1024 .bf16)
    (B6 : D6 → Vec F S256x1024 .f32)
    (B7 : D7 → Vec F S256x1024 .f32)
    (B8 : D8 → Vec F S1x512 .f32)
    (B9 : D9 → Vec F S1x512 .f32)
    (B10 : D10 → Vec F S4x128x128 .bf16)
    (B11 : D11 → Vec F S128x4 .f32)
    (B12 : D12 → Vec F S256x512 .bf16)
    (B13 : D13 → Vec F S2x512x128 .f32)
    (B14 : D14 → Vec F S1x8x256x128 .f32)
    (B15 : D15 → Vec F S256x1024 .bf16)
    (B16 : D16 → Vec F S1x512x256 .bf16)
    (B17 : D17 → Vec F S1x3x8x256 .i32)
    (B18 : D18 → Vec F S1x3x8x256 .i32)
    (B19 : D19 → Vec F S1x8x64x256 .f32)
    (enter leave : Vec F S64x1024 .f32 → Vec F S8x64x256 .f32 → Prop) (Φ₀ Φ₁ R O₀ O₁ W0 W1 W2 W3 W4 W5 W6 W7 W8 W9 W10 W11 W12 W13 W14 W15 W16 W17 W18 W19 : sProp 𝕄)
    (prog : Prog (TpuEff nD τ sig (Elt F) Λ₀ .tc) PUnit) (hp : prog = (cc0_inproj_sgu_gate i a.a1 a.h1 a.a2 a.h2 a.a3 a.h3 a.a4 a.h4 a.a5 a.h5 a.a6 a.h6 a.a7 a.h7 a.a8 a.h8 a.a9 a.h9 a.a10 a.h10 a.a11 a.h11 a.a12 a.h12 a.a13 a.h13 a.a14 a.h14 a.a15 a.h15 a.a16 a.h16 a.a17 a.h17 a.a18 a.h18 a.a19 a.h19 a.a20 a.h20 a.a21 a.h21 a.a22 a.h22))
    (run : ∀ (d0 : Vec F S64x1024 .f32) (d1 : Vec F S8x64x256 .f32) (hd : enter d0 d1) (y : Vec F S1x8x64x256 .f32) (E : Set ℕ) (K : PUnit → sProp 𝕄),
        iprop(owns (c : Thread nD τ) a.a1 fullShare x.x0 ∗ owns (c : Thread nD τ) a.a2 fullShare x.x1 ∗ owns (c : Thread nD τ) a.a3 fullShare x.x2 ∗ owns (c : Thread nD τ) a.a4 fullShare x.x3 ∗ owns (c : Thread nD τ) a.a5 fullShare x.x4 ∗ owns (c : Thread nD τ) a.a6 fullShare x.x5 ∗ owns (c : Thread nD τ) a.a7 fullShare x.x6 ∗ owns (c : Thread nD τ) a.a8 fullShare x.x7 ∗ owns (c : Thread nD τ) a.a9 fullShare x.x8 ∗ owns (c : Thread nD τ) a.a10 fullShare x.x9 ∗ owns (c : Thread nD τ) a.a11 fullShare x.x10 ∗ owns (c : Thread nD τ) a.a12 fullShare x.x11 ∗ (∃ d, owns (c : Thread nD τ) a.a13 fullShare d) ∗ (∃ d, owns (c : Thread nD τ) a.a14 fullShare d) ∗ (∃ d, owns (c : Thread nD τ) a.a15 fullShare d) ∗ (∃ d, owns (c : Thread nD τ) a.a16 fullShare d) ∗ (∃ d, owns (c : Thread nD τ) a.a17 fullShare d) ∗ (∃ d, owns (c : Thread nD τ) a.a18 fullShare d) ∗ (∃ d, owns (c : Thread nD τ) a.a19 fullShare d) ∗ owns (c : Thread nD τ) a.a20 fullShare y ∗ owns (c : Thread nD τ) a.a21 fullShare d0 ∗ owns (c : Thread nD τ) a.a22 fullShare d1
            ∗ (iprop(owns (c : Thread nD τ) a.a1 fullShare x.x0 ∗ owns (c : Thread nD τ) a.a2 fullShare x.x1 ∗ owns (c : Thread nD τ) a.a3 fullShare x.x2 ∗ owns (c : Thread nD τ) a.a4 fullShare x.x3 ∗ owns (c : Thread nD τ) a.a5 fullShare x.x4 ∗ owns (c : Thread nD τ) a.a6 fullShare x.x5 ∗ owns (c : Thread nD τ) a.a7 fullShare x.x6 ∗ owns (c : Thread nD τ) a.a8 fullShare x.x7 ∗ owns (c : Thread nD τ) a.a9 fullShare x.x8 ∗ owns (c : Thread nD τ) a.a10 fullShare x.x9 ∗ owns (c : Thread nD τ) a.a11 fullShare x.x10 ∗ owns (c : Thread nD τ) a.a12 fullShare x.x11 ∗ (∃ f, (a.a13.view.loc (c : Thread nD τ) ↦[a.a13.view.set]{fullShare} a.a13.view.writes (Elt F) f L12)) ∗ (∃ f, (a.a14.view.loc (c : Thread nD τ) ↦[a.a14.view.set]{fullShare} a.a14.view.writes (Elt F) f L13)) ∗ (∃ f, (a.a15.view.loc (c : Thread nD τ) ↦[a.a15.view.set]{fullShare} a.a15.view.writes (Elt F) f L14)) ∗ (∃ f, (a.a16.view.loc (c : Thread nD τ) ↦[a.a16.view.set]{fullShare} a.a16.view.writes (Elt F) f L15)) ∗ (∃ f, (a.a17.view.loc (c : Thread nD τ) ↦[a.a17.view.set]{fullShare} a.a17.view.writes (Elt F) f L16)) ∗ (∃ f, (a.a18.view.loc (c : Thread nD τ) ↦[a.a18.view.set]{fullShare} a.a18.view.writes (Elt F) f L17)) ∗ (∃ f, (a.a19.view.loc (c : Thread nD τ) ↦[a.a19.view.set]{fullShare} a.a19.view.writes (Elt F) f L18)) ∗ (∃ f, ⌜f = a.a20.view.writes (Elt F) (a.h20.unread y) L19⌝ ∗ (a.a20.view.loc (c : Thread nD τ) ↦[a.a20.view.set]{fullShare} f)) ∗ (a.a21.view.loc (c : Thread nD τ) ↦[a.a21.view.set]{fullShare} a.a21.view.writes (Elt F) (a.h21.unread d0) S0) ∗ (a.a22.view.loc (c : Thread nD τ) ↦[a.a22.view.set]{fullShare} a.a22.view.writes (Elt F) (a.h22.unread d1) S1)) -∗ K ⟨⟩))
          ⊢ wp frame (wpE (defs₀ (F := F)) Variants.none c none) E (cc0_inproj_sgu_gate i a.a1 a.h1 a.a2 a.h2 a.a3 a.h3 a.a4 a.h4 a.a5 a.h5 a.a6 a.h6 a.a7 a.h7 a.a8 a.h8 a.a9 a.h9 a.a10 a.h10 a.a11 a.h11 a.a12 a.h12 a.a13 a.h13 a.a14 a.h14 a.a15 a.h15 a.a16 a.h16 a.a17 a.h17 a.a18 a.h18 a.a19 a.h19 a.a20 a.h20 a.a21 a.h21 a.a22 a.h22) K)
    (f0 : Φ₀ = iprop((∃ d0 d1, ⌜enter d0 d1⌝ ∗ owns (c : Thread nD τ) a.a21 fullShare d0 ∗ owns (c : Thread nD τ) a.a22 fullShare d1) ∗ R))
    (f1 : Φ₁ = iprop((∃ d0 d1, ⌜leave d0 d1⌝ ∗ owns (c : Thread nD τ) a.a21 fullShare d0 ∗ owns (c : Thread nD τ) a.a22 fullShare d1) ∗ R)) (fo : O₁ = O₀)
    (hl : ∀ d0 d1, enter d0 d1 → leave (a.a21.view.read (Elt F) (a.a21.view.writes (Elt F) (a.h21.unread d0) S0)) (a.a22.view.read (Elt F) (a.a22.view.writes (Elt F) (a.h22.unread d1) S1)))
    (b0 : ∀ d, B0 d = x.x0) (l0 : owns (c : Thread nD τ) a.a1 fullShare x.x0 ⊢ W0)
    (b1 : ∀ d, B1 d = x.x1) (l1 : owns (c : Thread nD τ) a.a2 fullShare x.x1 ⊢ W1)
    (b2 : ∀ d, B2 d = x.x2) (l2 : owns (c : Thread nD τ) a.a3 fullShare x.x2 ⊢ W2)
    (b3 : ∀ d, B3 d = x.x3) (l3 : owns (c : Thread nD τ) a.a4 fullShare x.x3 ⊢ W3)
    (b4 : ∀ d, B4 d = x.x4) (l4 : owns (c : Thread nD τ) a.a5 fullShare x.x4 ⊢ W4)
    (b5 : ∀ d, B5 d = x.x5) (l5 : owns (c : Thread nD τ) a.a6 fullShare x.x5 ⊢ W5)
    (b6 : ∀ d, B6 d = x.x6) (l6 : owns (c : Thread nD τ) a.a7 fullShare x.x6 ⊢ W6)
    (b7 : ∀ d, B7 d = x.x7) (l7 : owns (c : Thread nD τ) a.a8 fullShare x.x7 ⊢ W7)
    (b8 : ∀ d, B8 d = x.x8) (l8 : owns (c : Thread nD τ) a.a9 fullShare x.x8 ⊢ W8)
    (b9 : ∀ d, B9 d = x.x9) (l9 : owns (c : Thread nD τ) a.a10 fullShare x.x9 ⊢ W9)
    (b10 : ∀ d, B10 d = x.x10) (l10 : owns (c : Thread nD τ) a.a11 fullShare x.x10 ⊢ W10)
    (b11 : ∀ d, B11 d = x.x11) (l11 : owns (c : Thread nD τ) a.a12 fullShare x.x11 ⊢ W11)
    (l12 : (iprop(∃ f, (a.a13.view.loc (c : Thread nD τ) ↦[a.a13.view.set]{fullShare} a.a13.view.writes (Elt F) f L12)) : sProp 𝕄) ⊢ W12)
    (l13 : (iprop(∃ f, (a.a14.view.loc (c : Thread nD τ) ↦[a.a14.view.set]{fullShare} a.a14.view.writes (Elt F) f L13)) : sProp 𝕄) ⊢ W13)
    (l14 : (iprop(∃ f, (a.a15.view.loc (c : Thread nD τ) ↦[a.a15.view.set]{fullShare} a.a15.view.writes (Elt F) f L14)) : sProp 𝕄) ⊢ W14)
    (l15 : (iprop(∃ f, (a.a16.view.loc (c : Thread nD τ) ↦[a.a16.view.set]{fullShare} a.a16.view.writes (Elt F) f L15)) : sProp 𝕄) ⊢ W15)
    (l16 : (iprop(∃ f, (a.a17.view.loc (c : Thread nD τ) ↦[a.a17.view.set]{fullShare} a.a17.view.writes (Elt F) f L16)) : sProp 𝕄) ⊢ W16)
    (l17 : (iprop(∃ f, (a.a18.view.loc (c : Thread nD τ) ↦[a.a18.view.set]{fullShare} a.a18.view.writes (Elt F) f L17)) : sProp 𝕄) ⊢ W17)
    (l18 : (iprop(∃ f, (a.a19.view.loc (c : Thread nD τ) ↦[a.a19.view.set]{fullShare} a.a19.view.writes (Elt F) f L18)) : sProp 𝕄) ⊢ W18)
    (l19 : ∀ d, (iprop(∃ f, ⌜f = a.a20.view.writes (Elt F) (a.h20.unread (B19 d)) L19⌝ ∗ (a.a20.view.loc (c : Thread nD τ) ↦[a.a20.view.set]{fullShare} f)) : sProp 𝕄) ⊢ W19) :
    (iprop(Φ₀ ∗ O₀ ∗ (∃ d, owns (c : Thread nD τ) a.a1 fullShare (B0 d)) ∗ (∃ d, owns (c : Thread nD τ) a.a2 fullShare (B1 d)) ∗ (∃ d, owns (c : Thread nD τ) a.a3 fullShare (B2 d)) ∗ (∃ d, owns (c : Thread nD τ) a.a4 fullShare (B3 d)) ∗ (∃ d, owns (c : Thread nD τ) a.a5 fullShare (B4 d)) ∗ (∃ d, owns (c : Thread nD τ) a.a6 fullShare (B5 d)) ∗ (∃ d, owns (c : Thread nD τ) a.a7 fullShare (B6 d)) ∗ (∃ d, owns (c : Thread nD τ) a.a8 fullShare (B7 d)) ∗ (∃ d, owns (c : Thread nD τ) a.a9 fullShare (B8 d)) ∗ (∃ d, owns (c : Thread nD τ) a.a10 fullShare (B9 d)) ∗ (∃ d, owns (c : Thread nD τ) a.a11 fullShare (B10 d)) ∗ (∃ d, owns (c : Thread nD τ) a.a12 fullShare (B11 d)) ∗ (∃ d, owns (c : Thread nD τ) a.a13 fullShare (B12 d)) ∗ (∃ d, owns (c : Thread nD τ) a.a14 fullShare (B13 d)) ∗ (∃ d, owns (c : Thread nD τ) a.a15 fullShare (B14 d)) ∗ (∃ d, owns (c : Thread nD τ) a.a16 fullShare (B15 d)) ∗ (∃ d, owns (c : Thread nD τ) a.a17 fullShare (B16 d)) ∗ (∃ d, owns (c : Thread nD τ) a.a18 fullShare (B17 d)) ∗ (∃ d, owns (c : Thread nD τ) a.a19 fullShare (B18 d)) ∗ (∃ d, owns (c : Thread nD τ) a.a20 fullShare (B19 d))) : sProp 𝕄)
    ⊢ wp frame (wpE (defs₀ (F := F)) Variants.none c none) Set.univ prog (fun _ => iprop(Φ₁ ∗ O₁ ∗ W0 ∗ W1 ∗ W2 ∗ W3 ∗ W4 ∗ W5 ∗ W6 ∗ W7 ∗ W8 ∗ W9 ∗ W10 ∗ W11 ∗ W12 ∗ W13 ∗ W14 ∗ W15 ∗ W16 ∗ W17 ∗ W18 ∗ W19)) := by
  subst f0 f1 fo hp
  iintro ⟨⟨⟨%d0, %d1, %hd, HS0, HS1⟩, Hg⟩, Ho, ⟨%d0_, H0⟩, ⟨%d1_, H1⟩, ⟨%d2_, H2⟩, ⟨%d3_, H3⟩, ⟨%d4_, H4⟩, ⟨%d5_, H5⟩, ⟨%d6_, H6⟩, ⟨%d7_, H7⟩, ⟨%d8_, H8⟩, ⟨%d9_, H9⟩, ⟨%d10_, H10⟩, ⟨%d11_, H11⟩, ⟨%d12_, H12⟩, ⟨%d13_, H13⟩, ⟨%d14_, H14⟩, ⟨%d15_, H15⟩, ⟨%d16_, H16⟩, ⟨%d17_, H17⟩, ⟨%d18_, H18⟩, ⟨%d19_, H19⟩⟩
  iapply (run d0 d1 hd _ Set.univ _)
  isplitl [H0]; · rw [← b0 d0_]; iexact H0
  isplitl [H1]; · rw [← b1 d1_]; iexact H1
  isplitl [H2]; · rw [← b2 d2_]; iexact H2
  isplitl [H3]; · rw [← b3 d3_]; iexact H3
  isplitl [H4]; · rw [← b4 d4_]; iexact H4
  isplitl [H5]; · rw [← b5 d5_]; iexact H5
  isplitl [H6]; · rw [← b6 d6_]; iexact H6
  isplitl [H7]; · rw [← b7 d7_]; iexact H7
  isplitl [H8]; · rw [← b8 d8_]; iexact H8
  isplitl [H9]; · rw [← b9 d9_]; iexact H9
  isplitl [H10]; · rw [← b10 d10_]; iexact H10
  isplitl [H11]; · rw [← b11 d11_]; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexact H19
  isplitl [HS0]; · iexact HS0
  isplitl [HS1]; · iexact HS1
  iintro ⟨H0, H1, H2, H3, H4, H5, H6, H7, H8, H9, H10, H11, H12, H13, H14, H15, H16, H17, H18, H19, HS0, HS1⟩
  isplitl [HS0 HS1 Hg]
  · isplitl [HS0 HS1]
    · iexists a.a21.view.read (Elt F) (a.a21.view.writes (Elt F) (a.h21.unread d0) S0)
      iexists a.a22.view.read (Elt F) (a.a22.view.writes (Elt F) (a.h22.unread d1) S1)
      isplitr
      · ipureintro; exact hl d0 d1 hd
      isplitl [HS0]
      · unfold owns; iexists _; isplitr
        swap; · iexact HS0
        ipureintro; rfl
      unfold owns; iexists _; isplitr
      swap; · iexact HS1
      ipureintro; rfl
    iexact Hg
  isplitl [Ho]; · iexact Ho
  isplitl [H0]; · iapply l0; iexact H0
  isplitl [H1]; · iapply l1; iexact H1
  isplitl [H2]; · iapply l2; iexact H2
  isplitl [H3]; · iapply l3; iexact H3
  isplitl [H4]; · iapply l4; iexact H4
  isplitl [H5]; · iapply l5; iexact H5
  isplitl [H6]; · iapply l6; iexact H6
  isplitl [H7]; · iapply l7; iexact H7
  isplitl [H8]; · iapply l8; iexact H8
  isplitl [H9]; · iapply l9; iexact H9
  isplitl [H10]; · iapply l10; iexact H10
  isplitl [H11]; · iapply l11; iexact H11
  isplitl [H12]; · iapply l12; iexact H12
  isplitl [H13]; · iapply l13; iexact H13
  isplitl [H14]; · iapply l14; iexact H14
  isplitl [H15]; · iapply l15; iexact H15
  isplitl [H16]; · iapply l16; iexact H16
  isplitl [H17]; · iapply l17; iexact H17
  isplitl [H18]; · iapply l18; iexact H18
  iapply l19 d19_
  iexact H19

/-- A buffer is left at what every contents reads as once the stores are made. -/
theorem left_at {s : Shape} {e : EltTy} (c : Dev nD) (r : Memref sig .tc .vmem s e) (L : List (View.Piece (Elt F) s e)) (X : Vec F s e)
    (hX : ∀ f, r.view.read (Elt F) (r.view.writes (Elt F) f L) = X) :
    (iprop(∃ f, (r.view.loc (c : Thread nD τ) ↦[r.view.set]{fullShare} r.view.writes (Elt F) f L)) : sProp 𝕄) ⊢ owns (c : Thread nD τ) r fullShare X := by
  iintro ⟨%f, H⟩
  unfold owns; iexists _; isplitr
  swap; · iexact H
  ipureintro; exact hX f

/-- A used window is left at what its stores give, its buffer being so. -/
theorem leaves_stored (c : Dev nD) (dat : Dat τ (Elt F) Unit ℕ (UR sig nD τ) ℕ cfg0 c) (t : Fin cfg0.N) (w : Fin cfg0.W) (hw : w.val ≠ 19) (P : sProp 𝕄) (X)
    (a : dat.after w t = X) (h : P ⊢ owns (c : Thread nD τ) ((cfg0.win w).stage (cfg0.slots t w)) fullShare X) : P ⊢ dat.leavesExact w t := by
  rw [leaves_live c dat t w hw, a]; exact h

attribute [local irreducible] iblk in
set_option maxHeartbeats 4000000 in
/-- The body at a grid point, from what its run stores. -/
theorem body_from (c : Dev nD) (t : Fin cfg0.N) (S : type_of% (step m c t)) (dat : Dat τ (Elt F) Unit ℕ (UR sig nD τ) ℕ cfg0 c)
    (hA : ∀ w, dat.A w = V m c (Pipeline.arrRef spec0 w))
    (h0 : ∀ t, dat.after 0 t = iblk m c 0 t)
    (h1 : ∀ t, dat.after 1 t = iblk m c 1 t)
    (h2 : ∀ t, dat.after 2 t = iblk m c 2 t)
    (h3 : ∀ t, dat.after 3 t = iblk m c 3 t)
    (h4 : ∀ t, dat.after 4 t = iblk m c 4 t)
    (h5 : ∀ t, dat.after 5 t = iblk m c 5 t)
    (h6 : ∀ t, dat.after 6 t = iblk m c 6 t)
    (h7 : ∀ t, dat.after 7 t = iblk m c 7 t)
    (h8 : ∀ t, dat.after 8 t = iblk m c 8 t)
    (h9 : ∀ t, dat.after 9 t = iblk m c 9 t)
    (h10 : ∀ t, dat.after 10 t = iblk m c 10 t)
    (h11 : ∀ t, dat.after 11 t = iblk m c 11 t)
    (f0 : dat.Φ t.castSucc = between m c t.val (Nat.le_of_lt t.isLt)) (f1 : dat.Φ t.succ = between m c (t.val + 1) t.isLt)
    (fo : dat.owesAt () t.succ = dat.owesAt () t.castSucc)
    (a12 : dat.after 12 t = (Memref.whole cc0_stg12_0 : Memref sig .tc .vmem S256x512 .bf16).view.read (Elt F) ((Memref.whole cc0_stg12_0 : Memref sig .tc .vmem S256x512 .bf16).view.writes (Elt F) (Memref.whole cc0_stg12_0 : Memref sig .tc .vmem S256x512 .bf16).view.junk S.1))
    (a13 : dat.after 13 t = (Memref.whole cc0_stg13_0 : Memref sig .tc .vmem S2x512x128 .f32).view.read (Elt F) ((Memref.whole cc0_stg13_0 : Memref sig .tc .vmem S2x512x128 .f32).view.writes (Elt F) (Memref.whole cc0_stg13_0 : Memref sig .tc .vmem S2x512x128 .f32).view.junk S.2.1))
    (a14 : dat.after 14 t = (Memref.whole cc0_stg14_0 : Memref sig .tc .vmem S1x8x256x128 .f32).view.read (Elt F) ((Memref.whole cc0_stg14_0 : Memref sig .tc .vmem S1x8x256x128 .f32).view.writes (Elt F) (Memref.whole cc0_stg14_0 : Memref sig .tc .vmem S1x8x256x128 .f32).view.junk S.2.2.1))
    (a15 : dat.after 15 t = (Memref.whole cc0_stg15_0 : Memref sig .tc .vmem S256x1024 .bf16).view.read (Elt F) ((Memref.whole cc0_stg15_0 : Memref sig .tc .vmem S256x1024 .bf16).view.writes (Elt F) (Memref.whole cc0_stg15_0 : Memref sig .tc .vmem S256x1024 .bf16).view.junk S.2.2.2.1))
    (a16 : dat.after 16 t = (Memref.whole cc0_stg16_0 : Memref sig .tc .vmem S1x512x256 .bf16).view.read (Elt F) ((Memref.whole cc0_stg16_0 : Memref sig .tc .vmem S1x512x256 .bf16).view.writes (Elt F) (Memref.whole cc0_stg16_0 : Memref sig .tc .vmem S1x512x256 .bf16).view.junk S.2.2.2.2.1))
    (a17 : dat.after 17 t = (Memref.whole cc0_stg17_0 : Memref sig .tc .vmem S1x3x8x256 .i32).view.read (Elt F) ((Memref.whole cc0_stg17_0 : Memref sig .tc .vmem S1x3x8x256 .i32).view.writes (Elt F) (Memref.whole cc0_stg17_0 : Memref sig .tc .vmem S1x3x8x256 .i32).view.junk S.2.2.2.2.2.1))
    (a18 : dat.after 18 t = (Memref.whole cc0_stg18_0 : Memref sig .tc .vmem S1x3x8x256 .i32).view.read (Elt F) ((Memref.whole cc0_stg18_0 : Memref sig .tc .vmem S1x3x8x256 .i32).view.writes (Elt F) (Memref.whole cc0_stg18_0 : Memref sig .tc .vmem S1x3x8x256 .i32).view.junk S.2.2.2.2.2.2.1))
    (a19 : dat.after 19 t = (Memref.whole cc0_stg19_0 : Memref sig .tc .vmem S1x8x64x256 .f32).view.read (Elt F) ((Memref.whole cc0_stg19_0 : Memref sig .tc .vmem S1x8x64x256 .f32).view.writes (Elt F) (Memref.whole cc0_stg19_0 : Memref sig .tc .vmem S1x8x64x256 .f32).view.junk S.2.2.2.2.2.2.2.1))
    (c12 : (∀ y, ∃ p ∈ S.1, y ∈ p.1.set))
    (c13 : (∀ y, ∃ p ∈ S.2.1, y ∈ p.1.set))
    (c14 : (∀ y, ∃ p ∈ S.2.2.1, y ∈ p.1.set))
    (c15 : (∀ y, ∃ p ∈ S.2.2.2.1, y ∈ p.1.set))
    (c16 : (∀ y, ∃ p ∈ S.2.2.2.2.1, y ∈ p.1.set))
    (c17 : (∀ y, ∃ p ∈ S.2.2.2.2.2.1, y ∈ p.1.set))
    (c18 : (∀ y, ∃ p ∈ S.2.2.2.2.2.2.1, y ∈ p.1.set))
    (e1 : t.val = 63 → ∀ y, ∃ p ∈ S.2.2.2.2.2.2.2.1, y ∈ p.1.set) (e2 : t.val ≠ 63 → S.2.2.2.2.2.2.2.1 = [])
    (hl : ∀ (d0 : Vec F S64x1024 .f32) (d1 : Vec F S8x64x256 .f32), left m c t (held m c t.val (Nat.le_of_lt t.isLt)) (d0, d1)
      = ((bufs t).a21.view.read (Elt F) ((bufs t).a21.view.writes (Elt F) ((bufs t).h21.unread d0) S.2.2.2.2.2.2.2.2.1),
         (bufs t).a22.view.read (Elt F) ((bufs t).a22.view.writes (Elt F) ((bufs t).h22.unread d1) S.2.2.2.2.2.2.2.2.2.1))) :
    (iprop(dat.Φ t.castSucc ∗ dat.owesAt () t.castSucc
      ∗ (∃ d, owns (c : Thread nD τ) ((bufs t).a1) fullShare (dat.before 0 t d)) ∗ (∃ d, owns (c : Thread nD τ) ((bufs t).a2) fullShare (dat.before 1 t d)) ∗ (∃ d, owns (c : Thread nD τ) ((bufs t).a3) fullShare (dat.before 2 t d)) ∗ (∃ d, owns (c : Thread nD τ) ((bufs t).a4) fullShare (dat.before 3 t d)) ∗ (∃ d, owns (c : Thread nD τ) ((bufs t).a5) fullShare (dat.before 4 t d)) ∗ (∃ d, owns (c : Thread nD τ) ((bufs t).a6) fullShare (dat.before 5 t d)) ∗ (∃ d, owns (c : Thread nD τ) ((bufs t).a7) fullShare (dat.before 6 t d)) ∗ (∃ d, owns (c : Thread nD τ) ((bufs t).a8) fullShare (dat.before 7 t d)) ∗ (∃ d, owns (c : Thread nD τ) ((bufs t).a9) fullShare (dat.before 8 t d)) ∗ (∃ d, owns (c : Thread nD τ) ((bufs t).a10) fullShare (dat.before 9 t d)) ∗ (∃ d, owns (c : Thread nD τ) ((bufs t).a11) fullShare (dat.before 10 t d)) ∗ (∃ d, owns (c : Thread nD τ) ((bufs t).a12) fullShare (dat.before 11 t d)) ∗ (∃ d, owns (c : Thread nD τ) ((bufs t).a13) fullShare (dat.before 12 t d)) ∗ (∃ d, owns (c : Thread nD τ) ((bufs t).a14) fullShare (dat.before 13 t d)) ∗ (∃ d, owns (c : Thread nD τ) ((bufs t).a15) fullShare (dat.before 14 t d)) ∗ (∃ d, owns (c : Thread nD τ) ((bufs t).a16) fullShare (dat.before 15 t d)) ∗ (∃ d, owns (c : Thread nD τ) ((bufs t).a17) fullShare (dat.before 16 t d)) ∗ (∃ d, owns (c : Thread nD τ) ((bufs t).a18) fullShare (dat.before 17 t d)) ∗ (∃ d, owns (c : Thread nD τ) ((bufs t).a19) fullShare (dat.before 18 t d)) ∗ (∃ d, owns (c : Thread nD τ) ((bufs t).a20) fullShare (dat.before 19 t d))) : sProp 𝕄)
    ⊢ wp frame (wpE (defs₀ (F := F)) Variants.none c none) Set.univ (bodyAt0 t) (fun _ => iprop(dat.Φ t.succ ∗ dat.owesAt () t.succ
      ∗ dat.leavesExact 0 t ∗ dat.leavesExact 1 t ∗ dat.leavesExact 2 t ∗ dat.leavesExact 3 t ∗ dat.leavesExact 4 t ∗ dat.leavesExact 5 t ∗ dat.leavesExact 6 t ∗ dat.leavesExact 7 t ∗ dat.leavesExact 8 t ∗ dat.leavesExact 9 t ∗ dat.leavesExact 10 t ∗ dat.leavesExact 11 t ∗ dat.leavesExact 12 t ∗ dat.leavesExact 13 t ∗ dat.leavesExact 14 t ∗ dat.leavesExact 15 t ∗ dat.leavesExact 16 t ∗ dat.leavesExact 17 t ∗ dat.leavesExact 18 t ∗ dat.leavesExact 19 t)) := by
  have hb := before_blocks m c t dat hA h0 h1 h2 h3 h4 h5 h6 h7 h8 h9 h10 h11
  refine weave c (grid0.coords t) (bufs t) (ins m c t) S.1 S.2.1 S.2.2.1 S.2.2.2.1 S.2.2.2.2.1 S.2.2.2.2.2.1 S.2.2.2.2.2.2.1 S.2.2.2.2.2.2.2.1 S.2.2.2.2.2.2.2.2.1 S.2.2.2.2.2.2.2.2.2.1
    (fun d => dat.before 0 t d) (fun d => dat.before 1 t d) (fun d => dat.before 2 t d) (fun d => dat.before 3 t d) (fun d => dat.before 4 t d) (fun d => dat.before 5 t d) (fun d => dat.before 6 t d) (fun d => dat.before 7 t d) (fun d => dat.before 8 t d) (fun d => dat.before 9 t d) (fun d => dat.before 10 t d) (fun d => dat.before 11 t d) (fun d => dat.before 12 t d) (fun d => dat.before 13 t d) (fun d => dat.before 14 t d) (fun d => dat.before 15 t d) (fun d => dat.before 16 t d) (fun d => dat.before 17 t d) (fun d => dat.before 18 t d) (fun d => dat.before 19 t d)
    (fun d0 d1 => t.val ≠ 0 → held m c t.val (Nat.le_of_lt t.isLt) = (d0, d1)) (fun d0 d1 => t.val + 1 ≠ 0 → held m c (t.val + 1) t.isLt = (d0, d1))
    _ _ (iprop(∃ r, prngReg c r)) _ _ (dat.leavesExact 0 t) (dat.leavesExact 1 t) (dat.leavesExact 2 t) (dat.leavesExact 3 t) (dat.leavesExact 4 t) (dat.leavesExact 5 t) (dat.leavesExact 6 t) (dat.leavesExact 7 t) (dat.leavesExact 8 t) (dat.leavesExact 9 t) (dat.leavesExact 10 t) (dat.leavesExact 11 t) (dat.leavesExact 12 t) (dat.leavesExact 13 t) (dat.leavesExact 14 t) (dat.leavesExact 15 t) (dat.leavesExact 16 t) (dat.leavesExact 17 t) (dat.leavesExact 18 t) (dat.leavesExact 19 t) (bodyAt0 t) ?hp (fun d0 d1 hd => S.2.2.2.2.2.2.2.2.2.2 d0 d1 (fun hk => ?_)) f0 f1 fo (fun d0 d1 hd => fun _ => ?_) ?b0 ?w0 ?b1 ?w1 ?b2 ?w2 ?b3 ?w3 ?b4 ?w4 ?b5 ?w5 ?b6 ?w6 ?b7 ?w7 ?b8 ?w8 ?b9 ?w9 ?b10 ?w10 ?b11 ?w11 ?w12 ?w13 ?w14 ?w15 ?w16 ?w17 ?w18 ?w19
  case hp => exact rfl
  · rw [hd (fun h => hk ((kind_first t).mpr h))]; exact ⟨rfl, rfl⟩
  · exact (held_succ m c t (d0, d1) (fun hk => hd (fun h => hk ((kind_first t).mpr h)))).trans (hl d0 d1)
  case b0 => exact hb.1
  case b1 => exact hb.2.1
  case b2 => exact hb.2.2.1
  case b3 => exact hb.2.2.2.1
  case b4 => exact hb.2.2.2.2.1
  case b5 => exact hb.2.2.2.2.2.1
  case b6 => exact hb.2.2.2.2.2.2.1
  case b7 => exact hb.2.2.2.2.2.2.2.1
  case b8 => exact hb.2.2.2.2.2.2.2.2.1
  case b9 => exact hb.2.2.2.2.2.2.2.2.2.1
  case b10 => exact hb.2.2.2.2.2.2.2.2.2.2.1
  case b11 => exact hb.2.2.2.2.2.2.2.2.2.2.2
  case w0 => rw [leaves_live c dat t 0 (by decide), h0]
  case w1 => rw [leaves_live c dat t 1 (by decide), h1]
  case w2 => rw [leaves_live c dat t 2 (by decide), h2]
  case w3 => rw [leaves_live c dat t 3 (by decide), h3]
  case w4 => rw [leaves_live c dat t 4 (by decide), h4]
  case w5 => rw [leaves_live c dat t 5 (by decide), h5]
  case w6 => rw [leaves_live c dat t 6 (by decide), h6]
  case w7 => rw [leaves_live c dat t 7 (by decide), h7]
  case w8 => rw [leaves_live c dat t 8 (by decide), h8]
  case w9 => rw [leaves_live c dat t 9 (by decide), h9]
  case w10 => rw [leaves_live c dat t 10 (by decide), h10]
  case w11 => rw [leaves_live c dat t 11 (by decide), h11]
  case w12 => exact leaves_stored c dat t 12 (by decide) _ _ a12 (left_at c (bufs t).a13 S.1 _ (fun f => View.read_writes_of_cover _ _ _ _ _ c12))
  case w13 => exact leaves_stored c dat t 13 (by decide) _ _ a13 (left_at c (bufs t).a14 S.2.1 _ (fun f => View.read_writes_of_cover _ _ _ _ _ c13))
  case w14 => exact leaves_stored c dat t 14 (by decide) _ _ a14 (left_at c (bufs t).a15 S.2.2.1 _ (fun f => View.read_writes_of_cover _ _ _ _ _ c14))
  case w15 => exact leaves_stored c dat t 15 (by decide) _ _ a15 (left_at c (bufs t).a16 S.2.2.2.1 _ (fun f => View.read_writes_of_cover _ _ _ _ _ c15))
  case w16 => exact leaves_stored c dat t 16 (by decide) _ _ a16 (left_at c (bufs t).a17 S.2.2.2.2.1 _ (fun f => View.read_writes_of_cover _ _ _ _ _ c16))
  case w17 => exact leaves_stored c dat t 17 (by decide) _ _ a17 (left_at c (bufs t).a18 S.2.2.2.2.2.1 _ (fun f => View.read_writes_of_cover _ _ _ _ _ c17))
  case w18 => exact leaves_stored c dat t 18 (by decide) _ _ a18 (left_at c (bufs t).a19 S.2.2.2.2.2.2.1 _ (fun f => View.read_writes_of_cover _ _ _ _ _ c18))
  case w19 => exact fun d => leaves_last c dat t d _ e1 e2 a19

attribute [local irreducible] iblk in
set_option maxHeartbeats 8000000 in
/-- The body at a grid point, entered with the scratches as the points before left them. -/
theorem body_at (c : Dev nD) (t : Fin cfg0.N) :
    (iprop((dats m 0 c).Φ t.castSucc ∗ (dats m 0 c).owesAt () t.castSucc
      ∗ (∃ d, owns (c : Thread nD τ) ((bufs t).a1) fullShare ((dats m 0 c).before 0 t d)) ∗ (∃ d, owns (c : Thread nD τ) ((bufs t).a2) fullShare ((dats m 0 c).before 1 t d)) ∗ (∃ d, owns (c : Thread nD τ) ((bufs t).a3) fullShare ((dats m 0 c).before 2 t d)) ∗ (∃ d, owns (c : Thread nD τ) ((bufs t).a4) fullShare ((dats m 0 c).before 3 t d)) ∗ (∃ d, owns (c : Thread nD τ) ((bufs t).a5) fullShare ((dats m 0 c).before 4 t d)) ∗ (∃ d, owns (c : Thread nD τ) ((bufs t).a6) fullShare ((dats m 0 c).before 5 t d)) ∗ (∃ d, owns (c : Thread nD τ) ((bufs t).a7) fullShare ((dats m 0 c).before 6 t d)) ∗ (∃ d, owns (c : Thread nD τ) ((bufs t).a8) fullShare ((dats m 0 c).before 7 t d)) ∗ (∃ d, owns (c : Thread nD τ) ((bufs t).a9) fullShare ((dats m 0 c).before 8 t d)) ∗ (∃ d, owns (c : Thread nD τ) ((bufs t).a10) fullShare ((dats m 0 c).before 9 t d)) ∗ (∃ d, owns (c : Thread nD τ) ((bufs t).a11) fullShare ((dats m 0 c).before 10 t d)) ∗ (∃ d, owns (c : Thread nD τ) ((bufs t).a12) fullShare ((dats m 0 c).before 11 t d)) ∗ (∃ d, owns (c : Thread nD τ) ((bufs t).a13) fullShare ((dats m 0 c).before 12 t d)) ∗ (∃ d, owns (c : Thread nD τ) ((bufs t).a14) fullShare ((dats m 0 c).before 13 t d)) ∗ (∃ d, owns (c : Thread nD τ) ((bufs t).a15) fullShare ((dats m 0 c).before 14 t d)) ∗ (∃ d, owns (c : Thread nD τ) ((bufs t).a16) fullShare ((dats m 0 c).before 15 t d)) ∗ (∃ d, owns (c : Thread nD τ) ((bufs t).a17) fullShare ((dats m 0 c).before 16 t d)) ∗ (∃ d, owns (c : Thread nD τ) ((bufs t).a18) fullShare ((dats m 0 c).before 17 t d)) ∗ (∃ d, owns (c : Thread nD τ) ((bufs t).a19) fullShare ((dats m 0 c).before 18 t d)) ∗ (∃ d, owns (c : Thread nD τ) ((bufs t).a20) fullShare ((dats m 0 c).before 19 t d))) : sProp 𝕄)
    ⊢ wp frame (wpE (defs₀ (F := F)) Variants.none c none) Set.univ (bodyAt0 t) (fun _ => iprop((dats m 0 c).Φ t.succ ∗ (dats m 0 c).owesAt () t.succ
      ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t ∗ (dats m 0 c).leavesExact 16 t ∗ (dats m 0 c).leavesExact 17 t ∗ (dats m 0 c).leavesExact 18 t ∗ (dats m 0 c).leavesExact 19 t)) := by
  have a := step_after m c t
  have k := step_covered m c t
  have e := step_last m c t
  exact body_from m c t (step m c t) (dats m 0 c) (A_eq m c) (fun _ => rfl) (fun _ => rfl) (fun _ => rfl) (fun _ => rfl) (fun _ => rfl) (fun _ => rfl) (fun _ => rfl) (fun _ => rfl) (fun _ => rfl) (fun _ => rfl) (fun _ => rfl) (fun _ => rfl) rfl rfl rfl
    a.1 a.2.1 a.2.2.1 a.2.2.2.1 a.2.2.2.2.1 a.2.2.2.2.2.1 a.2.2.2.2.2.2.1 a.2.2.2.2.2.2.2 k.1 k.2.1 k.2.2.1 k.2.2.2.1 k.2.2.2.2.1 k.2.2.2.2.2.1 k.2.2.2.2.2.2 e.1 e.2 (left_step m c t)

/-- The body's obligation from its triple at every point, for any contents of the windows. -/
theorem obligation_of (c : Dev nD) (dat : Dat τ (Elt F) Unit ℕ (UR sig nD τ) ℕ cfg0 c) (h : ∀ t : Fin cfg0.N,
    (iprop(dat.Φ t.castSucc ∗ dat.owesAt () t.castSucc
      ∗ (∃ d, owns (c : Thread nD τ) ((bufs t).a1) fullShare (dat.before 0 t d)) ∗ (∃ d, owns (c : Thread nD τ) ((bufs t).a2) fullShare (dat.before 1 t d)) ∗ (∃ d, owns (c : Thread nD τ) ((bufs t).a3) fullShare (dat.before 2 t d)) ∗ (∃ d, owns (c : Thread nD τ) ((bufs t).a4) fullShare (dat.before 3 t d)) ∗ (∃ d, owns (c : Thread nD τ) ((bufs t).a5) fullShare (dat.before 4 t d)) ∗ (∃ d, owns (c : Thread nD τ) ((bufs t).a6) fullShare (dat.before 5 t d)) ∗ (∃ d, owns (c : Thread nD τ) ((bufs t).a7) fullShare (dat.before 6 t d)) ∗ (∃ d, owns (c : Thread nD τ) ((bufs t).a8) fullShare (dat.before 7 t d)) ∗ (∃ d, owns (c : Thread nD τ) ((bufs t).a9) fullShare (dat.before 8 t d)) ∗ (∃ d, owns (c : Thread nD τ) ((bufs t).a10) fullShare (dat.before 9 t d)) ∗ (∃ d, owns (c : Thread nD τ) ((bufs t).a11) fullShare (dat.before 10 t d)) ∗ (∃ d, owns (c : Thread nD τ) ((bufs t).a12) fullShare (dat.before 11 t d)) ∗ (∃ d, owns (c : Thread nD τ) ((bufs t).a13) fullShare (dat.before 12 t d)) ∗ (∃ d, owns (c : Thread nD τ) ((bufs t).a14) fullShare (dat.before 13 t d)) ∗ (∃ d, owns (c : Thread nD τ) ((bufs t).a15) fullShare (dat.before 14 t d)) ∗ (∃ d, owns (c : Thread nD τ) ((bufs t).a16) fullShare (dat.before 15 t d)) ∗ (∃ d, owns (c : Thread nD τ) ((bufs t).a17) fullShare (dat.before 16 t d)) ∗ (∃ d, owns (c : Thread nD τ) ((bufs t).a18) fullShare (dat.before 17 t d)) ∗ (∃ d, owns (c : Thread nD τ) ((bufs t).a19) fullShare (dat.before 18 t d)) ∗ (∃ d, owns (c : Thread nD τ) ((bufs t).a20) fullShare (dat.before 19 t d))) : sProp 𝕄)
    ⊢ wp frame (wpE (defs₀ (F := F)) Variants.none c none) Set.univ (bodyAt0 t) (fun _ => iprop(dat.Φ t.succ ∗ dat.owesAt () t.succ
      ∗ dat.leavesExact 0 t ∗ dat.leavesExact 1 t ∗ dat.leavesExact 2 t ∗ dat.leavesExact 3 t ∗ dat.leavesExact 4 t ∗ dat.leavesExact 5 t ∗ dat.leavesExact 6 t ∗ dat.leavesExact 7 t ∗ dat.leavesExact 8 t ∗ dat.leavesExact 9 t ∗ dat.leavesExact 10 t ∗ dat.leavesExact 11 t ∗ dat.leavesExact 12 t ∗ dat.leavesExact 13 t ∗ dat.leavesExact 14 t ∗ dat.leavesExact 15 t ∗ dat.leavesExact 16 t ∗ dat.leavesExact 17 t ∗ dat.leavesExact 18 t ∗ dat.leavesExact 19 t))) :
    BodyObligation dat (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (h t) rfl .rfl fun _ => .rfl

/-- The body's obligation at every grid point. -/
theorem body_obligation (c : Dev nD) : BodyObligation (dats (F := F) m 0 c) (defs₀ (F := F)) Variants.none () Set.univ :=
  obligation_of c (dats m 0 c) (body_at m c)

/-- The scratches at anything, as memrefs. -/
theorem scratches_eq (c : Dev nD) : (Pipeline.ΦA spec0 c : sProp 𝕄)
    = iprop(iprop((∃ d, owns (c : Thread nD τ) (Memref.whole cc0_scratch0 : Memref sig .tc .vmem S64x1024 .f32) fullShare d) ∗ (∃ d, owns (c : Thread nD τ) (Memref.whole cc0_scratch1 : Memref sig .tc .vmem S8x64x256 .f32) fullShare d)) ∗ (∃ r, prngReg c r)) := by
  unfold Pipeline.ΦA; rw [scopedRest0_eq]; simp only [owns_whole]; try rfl

/-- What the launch hands over is the state before the first point. -/
theorem enter (c : Dev nD) : Pipeline.ΦA spec0 c ⊢ (dats m 0 c).Φ 0 := by
  rw [show (dats m 0 c).Φ 0 = between m c 0 (Nat.zero_le _) from rfl, scratches_eq]
  unfold between
  iintro ⟨⟨⟨%d0, HS0⟩, ⟨%d1, HS1⟩⟩, Hg⟩
  isplitl [HS0 HS1]
  · iexists d0; iexists d1
    isplitr
    · ipureintro; exact fun h => absurd rfl h
    isplitl [HS0]; · iexact HS0
    iexact HS1
  iexact Hg

/-- The state after the last point gives it back. -/
theorem leave (c : Dev nD) : (dats m 0 c).Φ (Fin.last cfg0.N) ⊢ Pipeline.ΦA spec0 c := by
  rw [show (dats m 0 c).Φ (Fin.last cfg0.N) = between m c cfg0.N le_rfl from rfl, scratches_eq]
  unfold between
  iintro ⟨⟨%d0, %d1, %hd, HS0, HS1⟩, Hg⟩
  isplitl [HS0 HS1]
  · isplitl [HS0]
    · iexists d0; iexact HS0
    iexists d1; iexact HS1
  iexact Hg

set_option backward.isDefEq.respectTransparency.types false in
set_option maxHeartbeats 800000 in
/-- The launch: every execution ends with the arrays at what the points leave in them, and every counter at zero. -/
theorem run : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := main_around m Variants.none) (hA := A_eq m) (hin := enter m) (hout := leave m)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => by
    have e := frame_of m (dats m) (A_eq m) r h.1 c
    exact ⟨e _ (by simp [arguments]), e _ (by simp [arguments]), e _ (by simp [arguments]), e _ (by simp [arguments]), e _ (by simp [arguments]), e _ (by simp [arguments])⟩, h.2⟩) (run m ρ)

end Cert.Inproj

end
-- ==== Proof.InprojAlgebra.lean ====
/-
  The in-projection call's results, and the reference's, as rows of plain sums.
-/
module

public import proofs.«01_k».proof.Proof.Gen.Reference4Ideal.Run
public import Idealize.ShloMosaic.Lib.Pointwise

@[expose] public section

set_option maxRecDepth 16384

noncomputable section

namespace Cert.Inproj

open Idealize.ShloMosaic Idealize.ShloMosaic.TcCoe

/-- The smooth rectifier, by its tanh form. -/
def gelu (z : EReal) : EReal :=
  z * (Ideal.ofBits .f32 0x3F000000#32 * (1 + Ideal.tanh (Ideal.ofBits .f32 0x3F4C422A#32
    * (z + Ideal.ofBits .f32 0x3D372713#32 * (z * z * z)))))

/-- Column `k` of a row of activations. -/
def act (x : Fin 1024 → EReal) (w : Fin 1024 → Fin 1024 → EReal) (k : Fin 1024) : EReal := gelu (∑ p, x p * w p k)

/-- The mean of a row of 512. -/
def mean (v : Fin 512 → EReal) : EReal := Ideal.div (∑ k, v k) (Ideal.ofBits .f32 0x44000000#32)

/-- A row of 512 normalised to mean zero and variance one, then scaled by `g` and shifted by `b`. -/
def normed (v g b : Fin 512 → EReal) (l : Fin 512) : EReal :=
  (v l - mean v) * Ideal.rsqrt (mean (fun k => (v k - mean v) * (v k - mean v)) + Ideal.ofBits .f32 0x3727C5AC#32)
    * g l + b l

/-- The spatial gating unit at time `t` of a chunk, column `l`: the first half of the activations, times the normalised second
    half mixed over the chunk's times up to `t`. -/
def gating (x : Fin 128 → Fin 1024 → EReal) (w : Fin 1024 → Fin 1024 → EReal) (g b : Fin 512 → EReal) (ws : Fin 128 → EReal)
    (bs : EReal) (t : Fin 128) (l : Fin 512) : EReal :=
  act (x t) w ⟨l, by omega⟩
    * ((∑ s : Fin 128, Scalar.select (IntOp.cmpi .sge (BitVec.ofNat 32 t) (BitVec.ofNat 32 s))
          (normed (fun k => act (x s) w ⟨512 + k, by omega⟩) g b l * ws s) 0) + bs)

open Cert.Reference4Ideal in
/-- The reference's gating result at row `r`, column `l`. -/
theorem ref_gating (m : (ℓ : Loc nD τ sig) → Buf (Elt Ideal) ℓ) (c : Dev nD) (r : Fin 16384) (l : Fin 512) :
    Value.res_out0 m c (ix2 r l)
      = gating (fun s p => m ((c.tc : Thread _ _).loc main_arg0) (ix2 ⟨(r : ℕ) / 128 * 128 + s, by omega⟩ p))
          (fun p k => m ((c.tc : Thread _ _).loc main_arg1) (ix2 p ⟨k, by omega⟩))
          (fun k => m ((c.tc : Thread _ _).loc main_arg2) (ix1 k)) (fun k => m ((c.tc : Thread _ _).loc main_arg3) (ix1 k))
          (fun s => m ((c.tc : Thread _ _).loc main_arg4) (ix3 ⟨(l : ℕ) / 128, by omega⟩ ⟨(r : ℕ) % 128, by omega⟩ s))
          (m ((c.tc : Thread _ _).loc main_arg5) (ix2 ⟨(l : ℕ) / 128, by omega⟩ ⟨(r : ℕ) % 128, by omega⟩))
          ⟨(r : ℕ) % 128, by omega⟩ l := by
  unfold gating act gelu normed mean
  pointwise [Value.res_main_v56]
  have e : (⟨(r : ℕ) / 128 * 128 + (r : ℕ) % 128, by omega⟩ : Fin 16384) = r := Fin.ext (Nat.div_add_mod' _ _)
  simp only [e]
  congr 2
  refine Finset.sum_congr rfl fun s _ => ?_
  congr 2
  exact BitVec.add_zero _

end Cert.Inproj

end
-- ==== Proof.InprojEntry.lean ====
/-
  The in-projection call's input blocks, element by element, from the call's arguments.
-/
module

public import proofs.«01_k».proof.Proof.InprojHost
public import proofs.«01_k».proof.Proof.InprojAlgebra
public import Idealize.ShloMosaic.Lib.Pipeline.ValueKit

@[expose] public section

set_option maxRecDepth 16384

noncomputable section

namespace Cert.Inproj

open Idealize.ShloMosaic Idealize.ShloMosaic.TcCoe
open Cert.Kernel4Ideal Cert.Kernel4Ideal.Gen

variable (m : (ℓ : Loc nD τ sig) → Buf (Elt Ideal) ℓ) (c : Dev nD)

/-- Which block of each array a grid point reads. -/
theorem index_in : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_8.index t = ![0, 0]
    ∧ win0_9.index t = ![0, 0] ∧ win0_10.index t = ![0, 0, 0] ∧ win0_11.index t = ![0, 0] :=
  (by decide +kernel : ∀ t : Fin grid0.N, _)

/-- Which block of each array a grid point writes. -/
theorem index_out : ∀ t : Fin cfg0.N, win0_12.index t = ![t.val, 0] ∧ win0_13.index t = ![t.val, 0, 0] ∧ win0_14.index t = ![0, 0, t.val, 0]
    ∧ win0_15.index t = ![t.val, 0] ∧ win0_16.index t = ![0, 0, t.val] :=
  (by decide +kernel : ∀ t : Fin grid0.N, _)

/-! ## The prepared arguments -/

/-- The gating's weights are the first columns. -/
theorem entry_v43 (p k : Fin 1024) : V m c main_v43 (ix2 p k) = m ((c : Thread nD τ).loc main_arg1) (ix2 p ⟨k, by omega⟩) := by
  unfold V V0
  simp only [List.flatten_cons, List.flatten_nil, List.append_nil]
  after_results
  pointwise
/-- The state space model's weights are the next columns, transposed. -/
theorem entry_v46 (j : Fin 512) (p : Fin 1024) : V m c main_v46 (ix2 j p) = m ((c : Thread nD τ).loc main_arg1) (ix2 p ⟨1024 + j, by omega⟩) := by
  unfold V V0
  simp only [List.flatten_cons, List.flatten_nil, List.append_nil]
  after_results
  pointwise
/-- The queries' weights are the next columns, scaled. -/
theorem entry_v50 (p : Fin 1024) (k : Fin 512) : V m c main_v50 (ix2 p k) = HMul.hMul (α := EReal) (β := EReal) (m ((c : Thread nD τ).loc main_arg1) (ix2 p ⟨1536 + k, by omega⟩)) (Ideal.ofBits .f32 0x3E000000#32) := by
  unfold V V0
  simp only [List.flatten_cons, List.flatten_nil, List.append_nil]
  after_results
  pointwise
/-- The keys' weights are the next columns. -/
theorem entry_v52 (p : Fin 1024) (k : Fin 512) : V m c main_v52 (ix2 p k) = m ((c : Thread nD τ).loc main_arg1) (ix2 p ⟨2048 + k, by omega⟩) := by
  unfold V V0
  simp only [List.flatten_cons, List.flatten_nil, List.append_nil]
  after_results
  pointwise
/-- The values' weights are the next columns, transposed. -/
theorem entry_v55 (j : Fin 512) (p : Fin 1024) : V m c main_v55 (ix2 j p) = m ((c : Thread nD τ).loc main_arg1) (ix2 p ⟨2560 + j, by omega⟩) := by
  unfold V V0
  simp only [List.flatten_cons, List.flatten_nil, List.append_nil]
  after_results
  pointwise
/-- The layer norm's scale, as a row. -/
theorem entry_v56 (k : Fin 512) : V m c main_v56 (ix2 0 k) = m ((c : Thread nD τ).loc main_arg2) (ix1 k) := by
  unfold V V0
  simp only [List.flatten_cons, List.flatten_nil, List.append_nil]
  after_results
  pointwise
/-- The layer norm's offset, as a row. -/
theorem entry_v57 (k : Fin 512) : V m c main_v57 (ix2 0 k) = m ((c : Thread nD τ).loc main_arg3) (ix1 k) := by
  unfold V V0
  simp only [List.flatten_cons, List.flatten_nil, List.append_nil]
  after_results
  pointwise
/-- The mixing matrices. -/
theorem entry_v58 (g : Fin 4) (r s : Fin 128) : V m c main_v58 (ix3 g r s) = m ((c : Thread nD τ).loc main_arg4) (ix3 g r s) := by
  unfold V V0
  simp only [List.flatten_cons, List.flatten_nil, List.append_nil]
  after_results
  rfl
/-- The shifts, transposed. -/
theorem entry_v59 (r : Fin 128) (g : Fin 4) : V m c main_v59 (ix2 r g) = m ((c : Thread nD τ).loc main_arg5) (ix2 g r) := by
  unfold V V0
  simp only [List.flatten_cons, List.flatten_nil, List.append_nil]
  after_results
  pointwise

/-! ## The blocks -/

variable (t : Fin cfg0.N)

/-- The array's row that is row `r` of block `t`. -/
def row (r : Fin 256) : Fin 16384 := ⟨t.val * 256 + r.val, by have := lt_of_lt_of_eq t.isLt N_0; omega⟩

/-- A block of the first input is 256 of its rows. -/
theorem block0 (r : Fin 256) (p : Fin 1024) : iblk m c 0 t (ix2 r p) = V m c main_arg0 (ix2 (row t r) p) := by
  have e := (index_in t).1
  unfold row
  blk_ext [iblk, e]
/-- The block is the whole array. -/
theorem block1 (p : Fin 1024) (k : Fin 1024) : iblk m c 1 t (ix2 p k) = V m c main_v43 (ix2 p k) := by
  have e := (index_in t).2.1
  blk_ext [iblk, e]
/-- The block is the whole array. -/
theorem block2 (p : Fin 512) (k : Fin 1024) : iblk m c 2 t (ix2 p k) = V m c main_v46 (ix2 p k) := by
  have e := (index_in t).2.2.1
  blk_ext [iblk, e]
/-- The block is the whole array. -/
theorem block3 (p : Fin 1024) (k : Fin 512) : iblk m c 3 t (ix2 p k) = V m c main_v50 (ix2 p k) := by
  have e := (index_in t).2.2.2.1
  blk_ext [iblk, e]
/-- The block is the whole array. -/
theorem block4 (p : Fin 1024) (k : Fin 512) : iblk m c 4 t (ix2 p k) = V m c main_v52 (ix2 p k) := by
  have e := (index_in t).2.2.2.2.1
  blk_ext [iblk, e]
/-- The block is the whole array. -/
theorem block5 (p : Fin 512) (k : Fin 1024) : iblk m c 5 t (ix2 p k) = V m c main_v55 (ix2 p k) := by
  have e := (index_in t).2.2.2.2.2.1
  blk_ext [iblk, e]
/-- The block is the whole array. -/
theorem block8 (p : Fin 1) (k : Fin 512) : iblk m c 8 t (ix2 p k) = V m c main_v56 (ix2 p k) := by
  have e := (index_in t).2.2.2.2.2.2.1
  blk_ext [iblk, e]
/-- The block is the whole array. -/
theorem block9 (p : Fin 1) (k : Fin 512) : iblk m c 9 t (ix2 p k) = V m c main_v57 (ix2 p k) := by
  have e := (index_in t).2.2.2.2.2.2.2.1
  blk_ext [iblk, e]
/-- The block is the whole array. -/
theorem block10 (g : Fin 4) (r s : Fin 128) : iblk m c 10 t (ix3 g r s) = V m c main_v58 (ix3 g r s) := by
  have e := (index_in t).2.2.2.2.2.2.2.2.1
  blk_ext [iblk, e]
/-- The block is the whole array. -/
theorem block11 (r : Fin 128) (g : Fin 4) : iblk m c 11 t (ix2 r g) = V m c main_v59 (ix2 r g) := by
  have e := (index_in t).2.2.2.2.2.2.2.2.2
  blk_ext [iblk, e]

end Cert.Inproj

end
-- ==== Proof.InprojTile.lean ====
/-
  What one grid point of the in-projection call stores into each output it fills, as plain sums of its blocks.
-/
module

public import proofs.«01_k».proof.Proof.InprojAlgebra
public import proofs.«01_k».proof.Proof.InprojStep
public import Idealize.ShloMosaic.Lib.Pipeline.ValueKit

@[expose] public section

set_option maxRecDepth 16384

noncomputable section

namespace Cert.Inproj

open Idealize.ShloMosaic Idealize.ShloMosaic.TcCoe
open Cert.Kernel4Ideal Cert.Kernel4Ideal.Gen

variable (c : Dev nD) (i : grid0.Coords) (a : Bufs) (x : Ins Ideal) (s0 : Vec Ideal S64x1024 .f32) (s1 : Vec Ideal S8x64x256 .f32)

/-! ## The loads -/

/-- The rows of the block. -/
def rowsOf : Vec Ideal S256x1024 .f32 := View.readAt (Elt Ideal) a.a1.view (Rect.unit ![0, 0] S256x1024.size inb_S256x1024_S256x1024_0_0).toLoadRect (a.h1.unread x.x0)
/-- The weights of the spatial gating unit. -/
def wzOf : Vec Ideal S1024x1024 .bf16 := View.readAt (Elt Ideal) a.a2.view (Rect.unit ![0, 0] S1024x1024.size inb_S1024x1024_S1024x1024_0_0).toLoadRect (a.h2.unread x.x1)
/-- The state space model's weights. -/
def wsOf : Vec Ideal S512x1024 .bf16 := View.readAt (Elt Ideal) a.a3.view (Rect.unit ![0, 0] S512x1024.size inb_S512x1024_S512x1024_0_0).toLoadRect (a.h3.unread x.x2)
/-- The queries' weights. -/
def wqOf : Vec Ideal S1024x512 .bf16 := View.readAt (Elt Ideal) a.a4.view (Rect.unit ![0, 0] S1024x512.size inb_S1024x512_S1024x512_0_0).toLoadRect (a.h4.unread x.x3)
/-- The keys' weights. -/
def wkOf : Vec Ideal S1024x512 .bf16 := View.readAt (Elt Ideal) a.a5.view (Rect.unit ![0, 0] S1024x512.size inb_S1024x512_S1024x512_0_0).toLoadRect (a.h5.unread x.x4)
/-- The values' weights. -/
def wvOf : Vec Ideal S512x1024 .bf16 := View.readAt (Elt Ideal) a.a6.view (Rect.unit ![0, 0] S512x1024.size inb_S512x1024_S512x1024_0_0).toLoadRect (a.h6.unread x.x5)
/-- The norm's scale. -/
def gOf : Vec Ideal S1x512 .f32 := View.readAt (Elt Ideal) a.a9.view (Rect.unit ![0, 0] S1x512.size inb_S1x512_S1x512_0_0).toLoadRect (a.h9.unread x.x8)
/-- The norm's shift. -/
def bOf : Vec Ideal S1x512 .f32 := View.readAt (Elt Ideal) a.a10.view (Rect.unit ![0, 0] S1x512.size inb_S1x512_S1x512_0_0).toLoadRect (a.h10.unread x.x9)
/-- The `j`-th 128 lanes of the extra query lanes' block. -/
def eqOf (o : Fin 2 → ℕ) (h : ∀ d, o d + S256x128.size d ≤ S256x1024.size d) : Vec Ideal S256x128 .f32 :=
  View.readAt (Elt Ideal) a.a7.view (Rect.unit (s := S256x1024) o S256x128.size h).toLoadRect (a.h7.unread x.x6)
/-- The same of the extra key lanes' block. -/
def ekOf (o : Fin 2 → ℕ) (h : ∀ d, o d + S256x128.size d ≤ S256x1024.size d) : Vec Ideal S256x128 .f32 :=
  View.readAt (Elt Ideal) a.a8.view (Rect.unit (s := S256x1024) o S256x128.size h).toLoadRect (a.h8.unread x.x7)
/-- One group's mixing matrix. -/
def mixOf (o : Fin 3 → ℕ) (h : ∀ d, o d + S1x128x128.size d ≤ S4x128x128.size d) : Vec Ideal S1x128x128 .bf16 :=
  View.readAt (Elt Ideal) a.a11.view (Rect.unit (s := S4x128x128) o S1x128x128.size h).toLoadRect (a.h11.unread x.x10)
/-- One group's shift. -/
def shiftOf (o : Fin 2 → ℕ) (h : ∀ d, o d + S128x1.size d ≤ S128x4.size d) : Vec Ideal S128x1 .f32 :=
  View.readAt (Elt Ideal) a.a12.view (Rect.unit (s := S128x4) o S128x1.size h).toLoadRect (a.h12.unread x.x11)

/-! ## The stores -/

/-- The stores into the gating result, the last first. -/
def pieces12 (a : Bufs) (x : Ins Ideal) : List (View.Piece (Elt Ideal) S256x512 .bf16) :=
  [⟨Rect.unit (s := S256x512) ![128, 384] S128x128.size inb_S256x512_S128x128_128_384, k0_pay28 (k0_pay7 (rowsOf a x) (wzOf a x)) (k0_pay9 (k0_pay8 (rowsOf a x) (wzOf a x)) (gOf a x) (bOf a x)) k0_pay10 (mixOf a x ![3, 0, 0] inb_S4x128x128_S1x128x128_3_0_0) (shiftOf a x ![0, 3] inb_S128x4_S128x1_0_3)⟩,
   ⟨Rect.unit (s := S256x512) ![0, 384] S128x128.size inb_S256x512_S128x128_0_384, k0_pay27 (k0_pay7 (rowsOf a x) (wzOf a x)) (k0_pay9 (k0_pay8 (rowsOf a x) (wzOf a x)) (gOf a x) (bOf a x)) k0_pay10 (mixOf a x ![3, 0, 0] inb_S4x128x128_S1x128x128_3_0_0) (shiftOf a x ![0, 3] inb_S128x4_S128x1_0_3)⟩,
   ⟨Rect.unit (s := S256x512) ![128, 256] S128x128.size inb_S256x512_S128x128_128_256, k0_pay24 (k0_pay7 (rowsOf a x) (wzOf a x)) (k0_pay9 (k0_pay8 (rowsOf a x) (wzOf a x)) (gOf a x) (bOf a x)) (k0_pay20 k0_pay10 (mixOf a x ![2, 0, 0] inb_S4x128x128_S1x128x128_2_0_0)) (k0_pay21 (shiftOf a x ![0, 2] inb_S128x4_S128x1_0_2))⟩,
   ⟨Rect.unit (s := S256x512) ![0, 256] S128x128.size inb_S256x512_S128x128_0_256, k0_pay23 (k0_pay7 (rowsOf a x) (wzOf a x)) (k0_pay20 k0_pay10 (mixOf a x ![2, 0, 0] inb_S4x128x128_S1x128x128_2_0_0)) (k0_pay21 (shiftOf a x ![0, 2] inb_S128x4_S128x1_0_2)) (k0_pay22 (k0_pay9 (k0_pay8 (rowsOf a x) (wzOf a x)) (gOf a x) (bOf a x)))⟩,
   ⟨Rect.unit (s := S256x512) ![128, 128] S128x128.size inb_S256x512_S128x128_128_128, k0_pay19 (k0_pay7 (rowsOf a x) (wzOf a x)) (k0_pay9 (k0_pay8 (rowsOf a x) (wzOf a x)) (gOf a x) (bOf a x)) k0_pay10 (mixOf a x ![1, 0, 0] inb_S4x128x128_S1x128x128_1_0_0) (shiftOf a x ![0, 1] inb_S128x4_S128x1_0_1)⟩,
   ⟨Rect.unit (s := S256x512) ![0, 128] S128x128.size inb_S256x512_S128x128_0_128, k0_pay18 (k0_pay7 (rowsOf a x) (wzOf a x)) (k0_pay9 (k0_pay8 (rowsOf a x) (wzOf a x)) (gOf a x) (bOf a x)) k0_pay10 (mixOf a x ![1, 0, 0] inb_S4x128x128_S1x128x128_1_0_0) (shiftOf a x ![0, 1] inb_S128x4_S128x1_0_1)⟩,
   ⟨Rect.unit (s := S256x512) ![128, 0] S128x128.size inb_S256x512_S128x128_128_0, k0_pay15 (k0_pay7 (rowsOf a x) (wzOf a x)) (k0_pay11 (mixOf a x ![0, 0, 0] inb_S4x128x128_S1x128x128_0_0_0)) (k0_pay12 (shiftOf a x ![0, 0] inb_S128x4_S128x1_0_0)) (k0_pay14 (k0_pay8 (rowsOf a x) (wzOf a x)) (gOf a x) (bOf a x))⟩,
   ⟨Rect.unit (s := S256x512) ![0, 0] S128x128.size inb_S256x512_S128x128_0_0, k0_pay13 (k0_pay7 (rowsOf a x) (wzOf a x)) (k0_pay8 (rowsOf a x) (wzOf a x)) (gOf a x) (bOf a x) (mixOf a x ![0, 0, 0] inb_S4x128x128_S1x128x128_0_0_0) (shiftOf a x ![0, 0] inb_S128x4_S128x1_0_0)⟩]

/-- The stores into the state space model's input, the last first. -/
def pieces13 (a : Bufs) (x : Ins Ideal) : List (View.Piece (Elt Ideal) S2x512x128 .f32) :=
  [⟨Rect.unit (s := S2x512x128) ![1, 0, 0] S1x512x128.size inb_S2x512x128_S1x512x128_1_0_0, k0_pay31 (k0_pay5 (rowsOf a x)) (wsOf a x)⟩,
   ⟨Rect.unit (s := S2x512x128) ![0, 0, 0] S1x512x128.size inb_S2x512x128_S1x512x128_0_0_0, k0_pay30 (k0_pay5 (rowsOf a x)) (wsOf a x)⟩]

/-- The stores into the queries, the last first. -/
def pieces14 (i : grid0.Coords) (a : Bufs) (x : Ins Ideal) : List (View.Piece (Elt Ideal) S1x8x256x128 .f32) :=
  [⟨Rect.unit (s := S1x8x256x128) ![0, 7, 0, 0] S1x1x256x128.size inb_S1x8x256x128_S1x1x256x128_0_7_0_0, k0_pay82 k0_pay32 (k0_pay33 (bodyRun.sl.v9 i)) (k0_pay75 (k0_pay34 (k0_pay5 (rowsOf a x)) (wqOf a x))) (eqOf a x ![0, 896] inb_S256x1024_S256x128_0_896)⟩,
   ⟨Rect.unit (s := S1x8x256x128) ![0, 6, 0, 0] S1x1x256x128.size inb_S1x8x256x128_S1x1x256x128_0_6_0_0, k0_pay78 k0_pay32 (k0_pay33 (bodyRun.sl.v9 i)) (k0_pay34 (k0_pay5 (rowsOf a x)) (wqOf a x)) (eqOf a x ![0, 768] inb_S256x1024_S256x128_0_768)⟩,
   ⟨Rect.unit (s := S1x8x256x128) ![0, 5, 0, 0] S1x1x256x128.size inb_S1x8x256x128_S1x1x256x128_0_5_0_0, k0_pay70 k0_pay32 (k0_pay33 (bodyRun.sl.v9 i)) (k0_pay63 (k0_pay34 (k0_pay5 (rowsOf a x)) (wqOf a x))) (eqOf a x ![0, 640] inb_S256x1024_S256x128_0_640)⟩,
   ⟨Rect.unit (s := S1x8x256x128) ![0, 4, 0, 0] S1x1x256x128.size inb_S1x8x256x128_S1x1x256x128_0_4_0_0, k0_pay66 k0_pay32 (k0_pay33 (bodyRun.sl.v9 i)) (k0_pay34 (k0_pay5 (rowsOf a x)) (wqOf a x)) (eqOf a x ![0, 512] inb_S256x1024_S256x128_0_512)⟩,
   ⟨Rect.unit (s := S1x8x256x128) ![0, 3, 0, 0] S1x1x256x128.size inb_S1x8x256x128_S1x1x256x128_0_3_0_0, k0_pay58 k0_pay32 (k0_pay33 (bodyRun.sl.v9 i)) (k0_pay34 (k0_pay5 (rowsOf a x)) (wqOf a x)) (eqOf a x ![0, 384] inb_S256x1024_S256x128_0_384)⟩,
   ⟨Rect.unit (s := S1x8x256x128) ![0, 2, 0, 0] S1x1x256x128.size inb_S1x8x256x128_S1x1x256x128_0_2_0_0, k0_pay54 k0_pay32 (k0_pay33 (bodyRun.sl.v9 i)) (k0_pay34 (k0_pay5 (rowsOf a x)) (wqOf a x)) (eqOf a x ![0, 256] inb_S256x1024_S256x128_0_256)⟩,
   ⟨Rect.unit (s := S1x8x256x128) ![0, 1, 0, 0] S1x1x256x128.size inb_S1x8x256x128_S1x1x256x128_0_1_0_0, k0_pay45 k0_pay32 (k0_pay33 (bodyRun.sl.v9 i)) (k0_pay38 (k0_pay5 (rowsOf a x)) (wqOf a x)) (eqOf a x ![0, 128] inb_S256x1024_S256x128_0_128)⟩,
   ⟨Rect.unit (s := S1x8x256x128) ![0, 0, 0, 0] S1x1x256x128.size inb_S1x8x256x128_S1x1x256x128_0_0_0_0, k0_pay41 (k0_pay40 (bodyRun.sl.v9 i) (k0_pay5 (rowsOf a x)) (wqOf a x) (eqOf a x ![0, 0] inb_S256x1024_S256x128_0_0))⟩]

/-- The stores into the keys, the last first. -/
def pieces15 (a : Bufs) (x : Ins Ideal) : List (View.Piece (Elt Ideal) S256x1024 .bf16) :=
  [⟨Rect.unit (s := S256x1024) ![0, 896] S256x128.size inb_S256x1024_S256x128_0_896, k0_pay83 k0_pay32 (k0_pay76 (k0_pay35 (k0_pay5 (rowsOf a x)) (wkOf a x))) (ekOf a x ![0, 896] inb_S256x1024_S256x128_0_896)⟩,
   ⟨Rect.unit (s := S256x1024) ![0, 768] S256x128.size inb_S256x1024_S256x128_0_768, k0_pay80 k0_pay32 (k0_pay74 (k0_pay35 (k0_pay5 (rowsOf a x)) (wkOf a x))) (k0_pay79 (ekOf a x ![0, 768] inb_S256x1024_S256x128_0_768))⟩,
   ⟨Rect.unit (s := S256x1024) ![0, 640] S256x128.size inb_S256x1024_S256x128_0_640, k0_pay71 k0_pay32 (k0_pay64 (k0_pay35 (k0_pay5 (rowsOf a x)) (wkOf a x))) (ekOf a x ![0, 640] inb_S256x1024_S256x128_0_640)⟩,
   ⟨Rect.unit (s := S256x1024) ![0, 512] S256x128.size inb_S256x1024_S256x128_0_512, k0_pay67 k0_pay32 (k0_pay35 (k0_pay5 (rowsOf a x)) (wkOf a x)) (ekOf a x ![0, 512] inb_S256x1024_S256x128_0_512)⟩,
   ⟨Rect.unit (s := S256x1024) ![0, 384] S256x128.size inb_S256x1024_S256x128_0_384, k0_pay59 k0_pay32 (k0_pay52 (k0_pay35 (k0_pay5 (rowsOf a x)) (wkOf a x))) (ekOf a x ![0, 384] inb_S256x1024_S256x128_0_384)⟩,
   ⟨Rect.unit (s := S256x1024) ![0, 256] S256x128.size inb_S256x1024_S256x128_0_256, k0_pay55 k0_pay32 (k0_pay35 (k0_pay5 (rowsOf a x)) (wkOf a x)) (ekOf a x ![0, 256] inb_S256x1024_S256x128_0_256)⟩,
   ⟨Rect.unit (s := S256x1024) ![0, 128] S256x128.size inb_S256x1024_S256x128_0_128, k0_pay46 k0_pay32 (k0_pay39 (k0_pay5 (rowsOf a x)) (wkOf a x)) (ekOf a x ![0, 128] inb_S256x1024_S256x128_0_128)⟩,
   ⟨Rect.unit (s := S256x1024) ![0, 0] S256x128.size inb_S256x1024_S256x128_0_0, k0_pay42 k0_pay32 (k0_pay37 (k0_pay5 (rowsOf a x)) (wkOf a x)) (ekOf a x ![0, 0] inb_S256x1024_S256x128_0_0)⟩]

/-- The store into the values, the last first. -/
def pieces16 (a : Bufs) (x : Ins Ideal) : List (View.Piece (Elt Ideal) S1x512x256 .bf16) :=
  [⟨Rect.unit (s := S1x512x256) ![0, 0, 0] S1x512x256.size inb_S1x512x256_S1x512x256_0_0_0, k0_pay86 (k0_pay5 (rowsOf a x)) (k0_pay85 (wvOf a x))⟩]

/-- The body's stores are these, whatever the kind of grid point. -/
theorem stored (k : Kind) (hk : k.at i) :
    (bodyRun c i a x s0 s1 k hk).1 = pieces12 a x ∧ (bodyRun c i a x s0 s1 k hk).2.1 = pieces13 a x
    ∧ (bodyRun c i a x s0 s1 k hk).2.2.1 = pieces14 i a x ∧ (bodyRun c i a x s0 s1 k hk).2.2.2.1 = pieces15 a x
    ∧ (bodyRun c i a x s0 s1 k hk).2.2.2.2.1 = pieces16 a x := by
  cases k <;> exact ⟨rfl, rfl, rfl, rfl, rfl⟩

/-! ## The loads, element by element -/

/-- A load of a whole block reads the block. -/
theorem rows_apply (r : Fin 256) (p : Fin 1024) : rowsOf a x (ix2 r p) = x.x0 (ix2 r p) := by
  unfold rowsOf; rw [View.readAt_eq_ld, Memref.IsWhole.read_unread]; pointwise
/-- The same of the gating's weights. -/
theorem wz_apply (p k : Fin 1024) : wzOf a x (ix2 p k) = x.x1 (ix2 p k) := by
  unfold wzOf; rw [View.readAt_eq_ld, Memref.IsWhole.read_unread]; pointwise
/-- The same of the state space model's weights. -/
theorem ws_apply (p : Fin 512) (k : Fin 1024) : wsOf a x (ix2 p k) = x.x2 (ix2 p k) := by
  unfold wsOf; rw [View.readAt_eq_ld, Memref.IsWhole.read_unread]; pointwise
/-- The same of the queries' weights. -/
theorem wq_apply (p : Fin 1024) (k : Fin 512) : wqOf a x (ix2 p k) = x.x3 (ix2 p k) := by
  unfold wqOf; rw [View.readAt_eq_ld, Memref.IsWhole.read_unread]; pointwise
/-- The same of the keys' weights. -/
theorem wk_apply (p : Fin 1024) (k : Fin 512) : wkOf a x (ix2 p k) = x.x4 (ix2 p k) := by
  unfold wkOf; rw [View.readAt_eq_ld, Memref.IsWhole.read_unread]; pointwise
/-- The same of the values' weights. -/
theorem wv_apply (p : Fin 512) (k : Fin 1024) : wvOf a x (ix2 p k) = x.x5 (ix2 p k) := by
  unfold wvOf; rw [View.readAt_eq_ld, Memref.IsWhole.read_unread]; pointwise
/-- The same of the layer norm's scale. -/
theorem g_apply (k : Fin 512) : gOf a x (ix2 0 k) = x.x8 (ix2 0 k) := by
  unfold gOf; rw [View.readAt_eq_ld, Memref.IsWhole.read_unread]; pointwise
/-- The same of the layer norm's offset. -/
theorem b_apply (k : Fin 512) : bOf a x (ix2 0 k) = x.x9 (ix2 0 k) := by
  unfold bOf; rw [View.readAt_eq_ld, Memref.IsWhole.read_unread]; pointwise
/-- A load of one group's mixing matrix reads that group. -/
theorem mix_apply (n : ℕ) (hn : n < 4) (h) (r s : Fin 128) : mixOf a x ![n, 0, 0] h (ix3 0 r s) = x.x10 (ix3 ⟨n, hn⟩ r s) := by
  unfold mixOf; rw [View.readAt_eq_ld, Memref.IsWhole.read_unread]; pointwise
/-- A load of one group's shift reads that group. -/
theorem shift_apply (n : ℕ) (hn : n < 4) (h) (r : Fin 128) : shiftOf a x ![0, n] h (ix2 r 0) = x.x11 (ix2 r ⟨n, hn⟩) := by
  unfold shiftOf; rw [View.readAt_eq_ld, Memref.IsWhole.read_unread]; pointwise

/-- The activation of the gating's projection, one element. -/
theorem act_apply (X : Vec Ideal S256x1024 .f32) (w : Vec Ideal S1024x1024 .bf16) (r : Fin 256) (k : Fin 1024) :
    k0_pay6 X w (ix2 r k) = act (fun p => X (ix2 r p)) (fun p k => w (ix2 p k)) k := by
  unfold act gelu
  pointwise [k0_pay6, k0_pay5]
  simp only [mul_assoc]

/-- Below lane 64 the choice between a head's own lanes and the extra ones is the head's own. -/
theorem select_low (l : Fin 128) (hl : (l : ℕ) < 64) (A B : EReal) :
    Scalar.select (IntOp.cmpi .slt (BitVec.ofNat 32 (l : ℕ)) 64#32) A B = A := by
  have h : ∀ l : Fin 64, IntOp.cmpi .slt (BitVec.ofNat 32 (l : ℕ)) 64#32 = 1#1 := by decide
  have := h ⟨l, hl⟩
  simp only at this
  rw [this]; rfl

/-! ## The values stored -/

/-- What a relation says of every piece at every element holds of what is read where some piece covers. -/
theorem read_of_pieces {sig : RefSig} {s : Shape} {e : EltTy} {κ : Idealize.ShloMosaic.Kind} {sp : Space} (v : View sig κ sp s e) (f : v.ty.Contents (Elt Ideal))
    (Q : s.Idx → Elt Ideal e → Prop) : ∀ L : List (View.Piece (Elt Ideal) s e), (∀ p ∈ L, ∀ y, Q (p.1.emb y) (p.2 y)) →
      ∀ y, (∃ p ∈ L, y ∈ p.1.set) → Q y (v.read (Elt Ideal) (v.writes (Elt Ideal) f L) y)
  | [], _, _, h => by obtain ⟨p, hp, _⟩ := h; cases hp
  | ⟨r, w⟩ :: L, hQ, y, h => by
    by_cases hy : y ∈ r.set
    · obtain ⟨z, rfl⟩ : ∃ z, r.emb z = y := r.exists_idx_of_mem hy
      rw [View.read_writes_cons_emb]
      exact hQ ⟨r, w⟩ List.mem_cons_self z
    · rw [View.read_writes_cons_miss _ _ _ _ _ hy]
      obtain ⟨p, hp, hy'⟩ := h
      rcases List.mem_cons.mp hp with rfl | hp
      · exact absurd hy' hy
      · exact read_of_pieces v f Q L (fun p hp => hQ p (List.mem_cons_of_mem _ hp)) y ⟨p, hp, hy'⟩

/-- The first lanes of a group, and the later ones, counted in groups. -/
theorem group_facts (r : Fin 128) : (r : ℕ) / 128 = 0 ∧ (128 + (r : ℕ)) / 128 = 1 ∧ (256 + (r : ℕ)) / 128 = 2 ∧ (384 + (r : ℕ)) / 128 = 3
    ∧ (r : ℕ) % 128 = r ∧ (128 + (r : ℕ)) % 128 = r := by omega

/-- The queries' element stored, on a head's own lanes: a row of the block times a column of the weights. -/
theorem stored14 : ∀ p ∈ pieces14 i a x, ∀ y, ∀ (h : Fin 8) (r : Fin 256) (l : Fin 64), p.1.emb y = ix4 0 h r ⟨l, by omega⟩ →
    p.2 y = ∑ p, x.x0 (ix2 r p) * x.x3 (ix2 p ⟨64 * (h : ℕ) + (l : ℕ), by omega⟩) := by
  simp only [pieces14, List.forall_mem_cons, List.not_mem_nil, false_imp_iff, implies_true, and_true]
  refine ⟨?_, ?_, ?_, ?_, ?_, ?_, ?_, ?_⟩
  all_goals
    intro y h r l e
    obtain ⟨u, h', r', l', rfl⟩ : ∃ (u h : Fin 1) (r : Fin 256) (l : Fin 128), y = ix4 u h r l := ⟨y 0, y 1, y 2, y 3, by funext a; fin_cases a <;> rfl⟩
    have e1 := congrArg Fin.val (congrFun e (1 : Fin 4))
    have e2 := congrArg Fin.val (congrFun e (2 : Fin 4))
    have e3 := congrArg Fin.val (congrFun e (3 : Fin 4))
    rw [ValueKit.rect_emb_unit_val] at e1 e2 e3
    dsimp at e1 e2 e3
    clear e
    obtain rfl : u = 0 := Subsingleton.elim _ _
    obtain rfl : h' = 0 := Subsingleton.elim _ _
    obtain rfl : r' = r := Fin.ext (by omega)
    pointwise [k0_pay5, k0_pay32, k0_pay33, k0_pay34, k0_pay36, k0_pay38, k0_pay40, k0_pay41, k0_pay44, k0_pay45, k0_pay50, k0_pay53, k0_pay54, k0_pay57, k0_pay58, k0_pay61, k0_pay63, k0_pay65, k0_pay66, k0_pay69, k0_pay70, k0_pay73, k0_pay75, k0_pay77, k0_pay78, k0_pay81, k0_pay82]
    rw [select_low _ (by omega)]
    simp only [rows_apply, wq_apply]
    refine Finset.sum_congr rfl fun p _ => congrArg (fun k => x.x0 (ix2 r' p) * x.x3 (ix2 p k)) (Fin.ext ?_)
    simp only [Fin.val_zero] at e1
    simp only
    omega

/-- The keys' element stored, on a head's own lanes: a row of the block times a column of the weights. -/
theorem stored15 : ∀ p ∈ pieces15 a x, ∀ y, ∀ (r : Fin 256) (h : Fin 8) (l : Fin 64), p.1.emb y = ix2 r ⟨128 * (h : ℕ) + l, by omega⟩ →
    p.2 y = ∑ p, x.x0 (ix2 r p) * x.x4 (ix2 p ⟨64 * (h : ℕ) + (l : ℕ), by omega⟩) := by
  simp only [pieces15, List.forall_mem_cons, List.not_mem_nil, false_imp_iff, implies_true, and_true]
  refine ⟨?_, ?_, ?_, ?_, ?_, ?_, ?_, ?_⟩
  all_goals
    intro y r h l e
    obtain ⟨r', l', rfl⟩ : ∃ (r : Fin 256) (l : Fin 128), y = ix2 r l := ⟨y 0, y 1, by funext a; fin_cases a <;> rfl⟩
    have e0 := congrArg Fin.val (congrFun e (0 : Fin 2))
    have e1 := congrArg Fin.val (congrFun e (1 : Fin 2))
    rw [ValueKit.rect_emb_unit_val] at e0 e1
    dsimp at e0 e1
    clear e
    obtain rfl : r' = r := Fin.ext (by omega)
    pointwise [k0_pay5, k0_pay32, k0_pay35, k0_pay37, k0_pay39, k0_pay42, k0_pay46, k0_pay51, k0_pay52, k0_pay55, k0_pay59, k0_pay62, k0_pay64, k0_pay67, k0_pay71, k0_pay74, k0_pay76, k0_pay79, k0_pay80, k0_pay83]
    rw [select_low _ (by omega)]
    simp only [rows_apply, wk_apply]
    refine Finset.sum_congr rfl fun p _ => congrArg (fun k => x.x0 (ix2 r' p) * x.x4 (ix2 p k)) (Fin.ext ?_)
    simp only
    omega

/-- The values' element stored, transposed: a row of the weights times a row of the block. -/
theorem stored16 : ∀ p ∈ pieces16 a x, ∀ y, ∀ (j : Fin 512) (s : Fin 256), p.1.emb y = ix3 0 j s →
    p.2 y = ∑ p, x.x5 (ix2 j p) * x.x0 (ix2 s p) := by
  simp only [pieces16, List.forall_mem_cons, List.not_mem_nil, false_imp_iff, implies_true, and_true]
  intro y j s e
  obtain ⟨u, j', s', rfl⟩ : ∃ (u : Fin 1) (j : Fin 512) (s : Fin 256), y = ix3 u j s := ⟨y 0, y 1, y 2, by funext a; fin_cases a <;> rfl⟩
  have e1 := congrArg Fin.val (congrFun e (1 : Fin 3))
  have e2 := congrArg Fin.val (congrFun e (2 : Fin 3))
  rw [ValueKit.rect_emb_unit_val] at e1 e2
  dsimp at e1 e2
  obtain rfl : u = 0 := Subsingleton.elim _ _
  obtain rfl : j' = j := Fin.ext (by simpa using e1)
  obtain rfl : s' = s := Fin.ext (by simpa using e2)
  pointwise [k0_pay86, k0_pay5, k0_pay85]
  simp only [rows_apply, wv_apply]

/-- The state space model's element stored, transposed: a row of the weights times a row of the block. -/
theorem stored13 : ∀ p ∈ pieces13 a x, ∀ y, ∀ (h : Fin 2) (j : Fin 512) (s : Fin 128), p.1.emb y = ix3 h j s →
    p.2 y = ∑ p, x.x2 (ix2 j p) * x.x0 (ix2 ⟨128 * (h : ℕ) + s, by omega⟩ p) := by
  simp only [pieces13, List.forall_mem_cons, List.not_mem_nil, false_imp_iff, implies_true, and_true]
  refine ⟨?_, ?_⟩
  all_goals
    intro y h j s e
    obtain ⟨u, j', s', rfl⟩ : ∃ (u : Fin 1) (j : Fin 512) (s : Fin 128), y = ix3 u j s := ⟨y 0, y 1, y 2, by funext a; fin_cases a <;> rfl⟩
    have e0 := congrArg Fin.val (congrFun e (0 : Fin 3))
    have e1 := congrArg Fin.val (congrFun e (1 : Fin 3))
    have e2 := congrArg Fin.val (congrFun e (2 : Fin 3))
    rw [ValueKit.rect_emb_unit_val] at e0 e1 e2
    dsimp at e0 e1 e2
    clear e
    obtain rfl : u = 0 := Subsingleton.elim _ _
    obtain rfl : j' = j := Fin.ext (by omega)
    pointwise [k0_pay31, k0_pay30, k0_pay29, k0_pay5]
    simp only [rows_apply, ws_apply]
    refine Finset.sum_congr rfl fun p _ => congrArg (fun k => x.x2 (ix2 j' p) * x.x0 (ix2 k p)) (Fin.ext ?_)
    simp only [Fin.val_zero] at e0
    simp only
    omega

set_option maxHeartbeats 1600000 in
/-- The gating's element stored: the gating of the 128 rows it lies in. -/
theorem stored12 : ∀ p ∈ pieces12 a x, ∀ y, ∀ (R : Fin 256) (L : Fin 512), p.1.emb y = ix2 R L →
    p.2 y = gating (fun s p => x.x0 (ix2 ⟨(R : ℕ) / 128 * 128 + s, by omega⟩ p)) (fun p k => x.x1 (ix2 p k)) (fun k => x.x8 (ix2 0 k)) (fun k => x.x9 (ix2 0 k))
      (fun s => x.x10 (ix3 ⟨(L : ℕ) / 128, by omega⟩ ⟨(R : ℕ) % 128, by omega⟩ s)) (x.x11 (ix2 ⟨(R : ℕ) % 128, by omega⟩ ⟨(L : ℕ) / 128, by omega⟩)) ⟨(R : ℕ) % 128, by omega⟩ L := by
  simp only [pieces12, List.forall_mem_cons, List.not_mem_nil, false_imp_iff, implies_true, and_true]
  refine ⟨?_, ?_, ?_, ?_, ?_, ?_, ?_, ?_⟩
  all_goals
    intro y R L e
    obtain ⟨r, l, rfl⟩ : ∃ (r l : Fin 128), y = ix2 r l := ⟨y 0, y 1, by funext a; fin_cases a <;> rfl⟩
    have e0 := congrArg Fin.val (congrFun e (0 : Fin 2))
    have e1 := congrArg Fin.val (congrFun e (1 : Fin 2))
    rw [ValueKit.rect_emb_unit_val] at e0 e1
    dsimp at e0 e1
    clear e
    obtain ⟨R, hR⟩ := R
    obtain ⟨L, hL⟩ := L
    dsimp at e0 e1
    subst e0 e1
    unfold gating normed mean
    pointwise [k0_pay13, k0_pay15, k0_pay18, k0_pay19, k0_pay23, k0_pay24, k0_pay27, k0_pay28, k0_pay11, k0_pay12, k0_pay14, k0_pay10, k0_pay20, k0_pay21, k0_pay22, k0_pay9, k0_pay7, k0_pay8, k0_pay16, k0_pay17, k0_pay25, k0_pay26]
    simp only [act_apply, rows_apply, wz_apply, g_apply, b_apply, mul_comm (mixOf _ _ _ _ _)]
    first | rw [shift_apply a x 0 (by omega)] | rw [shift_apply a x 1 (by omega)] | rw [shift_apply a x 2 (by omega)] | rw [shift_apply a x 3 (by omega)]
    simp only [mix_apply a x 0 (by omega), mix_apply a x 1 (by omega), mix_apply a x 2 (by omega), mix_apply a x 3 (by omega)]
    simp only [group_facts, Nat.zero_mul, Nat.one_mul, Nat.zero_add, ← Nat.add_assoc, Nat.reduceAdd]

end Cert.Inproj

end
-- ==== Proof.InprojArray.lean ====
/-
  What the in-projection call's outputs hold, element by element, from the call's arguments.
-/
module

public import proofs.«01_k».proof.Proof.InprojEntry
public import proofs.«01_k».proof.Proof.InprojTile
public import proofs.«01_k».proof.Proof.InprojDats
public import proofs.«01_k».proof.Proof.InprojCover

@[expose] public section

set_option maxRecDepth 16384

noncomputable section

namespace Cert.Inproj

open Idealize.ShloMosaic Idealize.ShloMosaic.TcCoe
open Cert.Kernel4Ideal Cert.Kernel4Ideal.Gen

variable (m : (ℓ : Loc nD τ sig) → Buf (Elt Ideal) ℓ) (c : Dev nD)

/-- One element of the projection: a row of the first argument times a column of the second. -/
def proj (r : Fin 16384) (k : Fin 6144) : EReal :=
  ∑ p : Fin 1024, HMul.hMul (α := EReal) (β := EReal) (m ((c : Thread nD τ).loc main_arg0) (ix2 r p)) (m ((c : Thread nD τ).loc main_arg1) (ix2 p k))

/-- One element of the gating branch. -/
def branch (r : Fin 16384) (l : Fin 512) : EReal :=
  gating (fun s p => m ((c : Thread nD τ).loc main_arg0) (ix2 ⟨(r : ℕ) / 128 * 128 + s, by omega⟩ p))
    (fun p k => m ((c : Thread nD τ).loc main_arg1) (ix2 p ⟨k, by omega⟩)) (fun k => m ((c : Thread nD τ).loc main_arg2) (ix1 k))
    (fun k => m ((c : Thread nD τ).loc main_arg3) (ix1 k)) (fun s => m ((c : Thread nD τ).loc main_arg4) (ix3 ⟨(l : ℕ) / 128, by omega⟩ ⟨(r : ℕ) % 128, by omega⟩ s))
    (m ((c : Thread nD τ).loc main_arg5) (ix2 ⟨(l : ℕ) / 128, by omega⟩ ⟨(r : ℕ) % 128, by omega⟩)) ⟨(r : ℕ) % 128, by omega⟩ l

/-- What every piece holds of a family of places, read where some piece covers one of them. -/
theorem read_of_family {sig : RefSig} {s : Shape} {e : EltTy} {κ : Idealize.ShloMosaic.Kind} {sp : Space} (v : View sig κ sp s e) (f : v.ty.Contents (Elt Ideal))
    {ι : Type} (idx : ι → s.Idx) (val : ι → Elt Ideal e) (L : List (View.Piece (Elt Ideal) s e))
    (hL : ∀ p ∈ L, ∀ y, ∀ i, p.1.emb y = idx i → p.2 y = val i) (i : ι) (hc : ∃ p ∈ L, idx i ∈ p.1.set) :
    v.read (Elt Ideal) (v.writes (Elt Ideal) f L) (idx i) = val i :=
  read_of_pieces v f (fun y w => ∀ i, y = idx i → w = val i) L hL (idx i) hc i rfl

/-- The queries are scaled by this. -/
abbrev eighth : EReal := Ideal.ofBits .f32 0x3E000000#32

/-- It is an eighth. -/
theorem eighth_eq : eighth = (((1 : ℝ) / 8 : ℝ) : EReal) := by
  simp [eighth, Ideal.ofBits, Ideal.ieee, -EReal.coe_mul]; norm_num

/-- A sum of products, one factor scaled, is the sum scaled. -/
theorem sum_scaled {n : ℕ} (f g : Fin n → EReal) : ∑ p, f p * (g p * eighth) = (∑ p, f p * g p) * eighth := by
  have h0 : 0 ≤ eighth := by rw [eighth_eq]; exact EReal.coe_nonneg.mpr (by norm_num)
  have h1 : eighth ≠ ⊤ := by rw [eighth_eq]; exact EReal.coe_ne_top _
  simp only [← mul_assoc]
  refine Finset.induction_on (Finset.univ : Finset (Fin n)) (by simp) fun a s ha ih => ?_
  rw [Finset.sum_insert ha, Finset.sum_insert ha, ih, EReal.right_distrib_of_nonneg_of_ne_top h0 h1]

/-- Gatings of equal inputs are equal. -/
theorem gating_congr {x x' : Fin 128 → Fin 1024 → EReal} {w w' : Fin 1024 → Fin 1024 → EReal} {g g' b b' : Fin 512 → EReal} {ws ws' : Fin 128 → EReal}
    {bs bs' : EReal} {t t' : Fin 128} {l : Fin 512} (hx : x = x') (hw : w = w') (hg : g = g') (hb : b = b') (hs : ws = ws') (hbs : bs = bs') (ht : t = t') :
    gating x w g b ws bs t l = gating x' w' g' b' ws' bs' t' l := by
  subst hx hw hg hb hs hbs ht; rfl

section Blocks

variable (t : Fin cfg0.N)

/-! ## What a grid point leaves in each output's buffer -/

/-- The gating branch's element. -/
theorem after12 (r : Fin 256) (l : Fin 512) : (dats m 0 c).after 12 t (ix2 r l) = branch m c (row t r) l := by
  have e := (stored c (grid0.coords t) (bufs t) (ins m c t) (held m c t.val (Nat.le_of_lt t.isLt)).1 (held m c t.val (Nat.le_of_lt t.isLt)).2 (kind t) (kind_at t)).1
  have h := (covered c (grid0.coords t) (bufs t) (ins m c t) (held m c t.val (Nat.le_of_lt t.isLt)).1 (held m c t.val (Nat.le_of_lt t.isLt)).2 (kind t) (kind_at t)).1 (ix2 r l)
  rw [e] at h
  have q : (dats m 0 c).after 12 t = (Memref.whole cc0_stg12_0 : Memref sig .tc .vmem S256x512 .bf16).view.read (Elt Ideal) ((Memref.whole cc0_stg12_0 : Memref sig .tc .vmem S256x512 .bf16).view.writes (Elt Ideal) (Memref.whole cc0_stg12_0 : Memref sig .tc .vmem S256x512 .bf16).view.junk (stepAt m c t).1) := rfl
  rw [q, e]
  refine (read_of_family _ _ (fun q : Fin 256 × Fin 512 => ix2 q.1 q.2) _ _ (fun p hp y q h' => stored12 (bufs t) (ins m c t) p hp y q.1 q.2 h') (r, l) h).trans ?_
  dsimp only
  unfold branch
  have hd : (row t r : ℕ) / 128 * 128 = t.val * 256 + (r : ℕ) / 128 * 128 := by unfold row; dsimp only; omega
  have hm : (row t r : ℕ) % 128 = (r : ℕ) % 128 := by unfold row; dsimp only; omega
  refine gating_congr (funext fun s => funext fun p => ?_) (funext fun p => funext fun k => ?_) (funext fun k => ?_) (funext fun k => ?_) (funext fun s => ?_) ?_ ?_
  · refine ((block0 m c t _ p).trans (congrFun (entry_arguments m c main_arg0 (by simp [arguments])) _)).trans ?_
    exact congrArg (fun r => m ((c : Thread nD τ).loc main_arg0) (ix2 r p)) (Fin.ext (Eq.trans (by unfold row; dsimp only; omega) (congrArg (fun n : ℕ => n + s) hd.symm)))
  · exact (block1 m c t p k).trans (entry_v43 m c p k)
  · exact (block8 m c t 0 k).trans (entry_v56 m c k)
  · exact (block9 m c t 0 k).trans (entry_v57 m c k)
  · refine ((block10 m c t _ _ s).trans (entry_v58 m c _ _ s)).trans ?_
    simp only [hm]
  · refine ((block11 m c t _ _).trans (entry_v59 m c _ _)).trans ?_
    simp only [hm]
  · exact Fin.ext hm.symm

/-- A row of the first input's block is a row of the first argument. -/
theorem x0_apply (r : Fin 256) (p : Fin 1024) : iblk m c 0 t (ix2 r p) = m ((c : Thread nD τ).loc main_arg0) (ix2 (row t r) p) :=
  (block0 m c t r p).trans (congrFun (entry_arguments m c main_arg0 (by simp [arguments])) _)

/-- The state space model's element. -/
theorem after13 (h : Fin 2) (j : Fin 512) (s : Fin 128) : (dats m 0 c).after 13 t (ix3 h j s) = proj m c (row t ⟨128 * (h : ℕ) + s, by omega⟩) ⟨1024 + j, by omega⟩ := by
  have e := (stored c (grid0.coords t) (bufs t) (ins m c t) (held m c t.val (Nat.le_of_lt t.isLt)).1 (held m c t.val (Nat.le_of_lt t.isLt)).2 (kind t) (kind_at t)).2.1
  have hc := (covered c (grid0.coords t) (bufs t) (ins m c t) (held m c t.val (Nat.le_of_lt t.isLt)).1 (held m c t.val (Nat.le_of_lt t.isLt)).2 (kind t) (kind_at t)).2.1 (ix3 h j s)
  rw [e] at hc
  have q : (dats m 0 c).after 13 t = (Memref.whole cc0_stg13_0 : Memref sig .tc .vmem S2x512x128 .f32).view.read (Elt Ideal) ((Memref.whole cc0_stg13_0 : Memref sig .tc .vmem S2x512x128 .f32).view.writes (Elt Ideal) (Memref.whole cc0_stg13_0 : Memref sig .tc .vmem S2x512x128 .f32).view.junk (stepAt m c t).2.1) := rfl
  rw [q, e]
  refine (read_of_family _ _ (fun q : Fin 2 × Fin 512 × Fin 128 => ix3 q.1 q.2.1 q.2.2) _ _ (fun p hp y q h' => stored13 (bufs t) (ins m c t) p hp y q.1 q.2.1 q.2.2 h') (h, j, s) hc).trans ?_
  dsimp only
  refine Finset.sum_congr rfl fun p _ => ?_
  refine (mul_comm _ _).trans (congrArg₂ (fun a b : EReal => a * b) (x0_apply m c t _ p) ((block2 m c t j p).trans (entry_v46 m c j p)))

/-- The queries' element, on a head's own lanes. -/
theorem after14 (h : Fin 8) (r : Fin 256) (l : Fin 64) : (dats m 0 c).after 14 t (ix4 0 h r ⟨l, by omega⟩) = proj m c (row t r) ⟨1536 + (64 * (h : ℕ) + l), by omega⟩ * eighth := by
  have e := (stored c (grid0.coords t) (bufs t) (ins m c t) (held m c t.val (Nat.le_of_lt t.isLt)).1 (held m c t.val (Nat.le_of_lt t.isLt)).2 (kind t) (kind_at t)).2.2.1
  have hc := (covered c (grid0.coords t) (bufs t) (ins m c t) (held m c t.val (Nat.le_of_lt t.isLt)).1 (held m c t.val (Nat.le_of_lt t.isLt)).2 (kind t) (kind_at t)).2.2.1 (ix4 0 h r ⟨l, by omega⟩)
  rw [e] at hc
  have q : (dats m 0 c).after 14 t = (Memref.whole cc0_stg14_0 : Memref sig .tc .vmem S1x8x256x128 .f32).view.read (Elt Ideal) ((Memref.whole cc0_stg14_0 : Memref sig .tc .vmem S1x8x256x128 .f32).view.writes (Elt Ideal) (Memref.whole cc0_stg14_0 : Memref sig .tc .vmem S1x8x256x128 .f32).view.junk (stepAt m c t).2.2.1) := rfl
  rw [q, e]
  refine (read_of_family _ _ (fun q : Fin 8 × Fin 256 × Fin 64 => ix4 0 q.1 q.2.1 ⟨q.2.2, by omega⟩) _ _ (fun p hp y q h' => stored14 (grid0.coords t) (bufs t) (ins m c t) p hp y q.1 q.2.1 q.2.2 h') (h, r, l) hc).trans ?_
  dsimp only
  refine (Finset.sum_congr rfl fun p _ => ?_).trans (sum_scaled _ _)
  exact congrArg₂ (fun a b : EReal => a * b) (x0_apply m c t r p) ((block3 m c t p _).trans (entry_v50 m c p _))

/-- The keys' element, on a head's own lanes. -/
theorem after15 (r : Fin 256) (h : Fin 8) (l : Fin 64) : (dats m 0 c).after 15 t (ix2 r ⟨128 * (h : ℕ) + l, by omega⟩) = proj m c (row t r) ⟨2048 + (64 * (h : ℕ) + l), by omega⟩ := by
  have e := (stored c (grid0.coords t) (bufs t) (ins m c t) (held m c t.val (Nat.le_of_lt t.isLt)).1 (held m c t.val (Nat.le_of_lt t.isLt)).2 (kind t) (kind_at t)).2.2.2.1
  have hc := (covered c (grid0.coords t) (bufs t) (ins m c t) (held m c t.val (Nat.le_of_lt t.isLt)).1 (held m c t.val (Nat.le_of_lt t.isLt)).2 (kind t) (kind_at t)).2.2.2.1 (ix2 r ⟨128 * (h : ℕ) + l, by omega⟩)
  rw [e] at hc
  have q : (dats m 0 c).after 15 t = (Memref.whole cc0_stg15_0 : Memref sig .tc .vmem S256x1024 .bf16).view.read (Elt Ideal) ((Memref.whole cc0_stg15_0 : Memref sig .tc .vmem S256x1024 .bf16).view.writes (Elt Ideal) (Memref.whole cc0_stg15_0 : Memref sig .tc .vmem S256x1024 .bf16).view.junk (stepAt m c t).2.2.2.1) := rfl
  rw [q, e]
  refine (read_of_family _ _ (fun q : Fin 256 × Fin 8 × Fin 64 => ix2 q.1 ⟨128 * (q.2.1 : ℕ) + q.2.2, by omega⟩) _ _ (fun p hp y q h' => stored15 (bufs t) (ins m c t) p hp y q.1 q.2.1 q.2.2 h') (r, h, l) hc).trans ?_
  dsimp only
  refine Finset.sum_congr rfl fun p _ => ?_
  exact congrArg₂ (fun a b : EReal => a * b) (x0_apply m c t r p) ((block4 m c t p _).trans (entry_v52 m c p _))

/-- The values' element. -/
theorem after16 (j : Fin 512) (s : Fin 256) : (dats m 0 c).after 16 t (ix3 0 j s) = proj m c (row t s) ⟨2560 + j, by omega⟩ := by
  have e := (stored c (grid0.coords t) (bufs t) (ins m c t) (held m c t.val (Nat.le_of_lt t.isLt)).1 (held m c t.val (Nat.le_of_lt t.isLt)).2 (kind t) (kind_at t)).2.2.2.2
  have hc := (covered c (grid0.coords t) (bufs t) (ins m c t) (held m c t.val (Nat.le_of_lt t.isLt)).1 (held m c t.val (Nat.le_of_lt t.isLt)).2 (kind t) (kind_at t)).2.2.2.2.1 (ix3 0 j s)
  rw [e] at hc
  have q : (dats m 0 c).after 16 t = (Memref.whole cc0_stg16_0 : Memref sig .tc .vmem S1x512x256 .bf16).view.read (Elt Ideal) ((Memref.whole cc0_stg16_0 : Memref sig .tc .vmem S1x512x256 .bf16).view.writes (Elt Ideal) (Memref.whole cc0_stg16_0 : Memref sig .tc .vmem S1x512x256 .bf16).view.junk (stepAt m c t).2.2.2.2.1) := rfl
  rw [q, e]
  refine (read_of_family _ _ (fun q : Fin 512 × Fin 256 => ix3 0 q.1 q.2) _ _ (fun p hp y q h' => stored16 (bufs t) (ins m c t) p hp y q.1 q.2 h') (j, s) hc).trans ?_
  dsimp only
  refine Finset.sum_congr rfl fun p _ => ?_
  exact (mul_comm _ _).trans (congrArg₂ (fun a b : EReal => a * b) (x0_apply m c t s p) ((block5 m c t j p).trans (entry_v55 m c j p)))

/-! ## Where a block's elements lie in its array -/

/-- Of the gating branch. -/
theorem place12 (r : Fin 256) (l : Fin 512) : (win0_12.blk t).view.emb (ix2 r l) = ix2 (row t r) l := by
  have e := (index_out t).1
  unfold row
  funext d
  fin_cases d <;> refine Fin.ext ?_ <;> blk_simp [e] <;> rfl
/-- Of the state space model's input: two chunks of 128 rows. -/
theorem place13 (h : Fin 2) (j : Fin 512) (s : Fin 128) : (win0_13.blk t).view.emb (ix3 h j s)
    = ix3 ⟨t.val * 2 + h, by have := lt_of_lt_of_eq t.isLt N_0; omega⟩ j s := by
  have e := (index_out t).2.1
  funext d
  fin_cases d <;> refine Fin.ext ?_ <;> blk_simp [e] <;> rfl
/-- Of the queries. -/
theorem place14 (h : Fin 8) (r : Fin 256) (l : Fin 128) : (win0_14.blk t).view.emb (ix4 0 h r l) = ix4 0 h (row t r) l := by
  have e := (index_out t).2.2.1
  unfold row
  funext d
  fin_cases d <;> refine Fin.ext ?_ <;> blk_simp [e] <;> rfl
/-- Of the keys. -/
theorem place15 (r : Fin 256) (l : Fin 1024) : (win0_15.blk t).view.emb (ix2 r l) = ix2 (row t r) l := by
  have e := (index_out t).2.2.2.1
  unfold row
  funext d
  fin_cases d <;> refine Fin.ext ?_ <;> blk_simp [e] <;> rfl
/-- Of the values. -/
theorem place16 (j : Fin 512) (r : Fin 256) : (win0_16.blk t).view.emb (ix3 0 j r) = ix3 0 j (row t r) := by
  have e := (index_out t).2.2.2.2
  unfold row
  funext d
  fin_cases d <;> refine Fin.ext ?_ <;> blk_simp [e] <;> rfl

end Blocks

/-! ## The arrays after the call -/

/-- The gating branch. -/
theorem final12 (r : Fin 16384) (l : Fin 512) : (dats m 0 c).arrAt 12 cfg0.N (ix2 r l) = branch m c r l := by
  refine (dats m 0 c).arrAt_forall_of_covers 12 (fun i v => ∀ (r : Fin 16384) (l : Fin 512), i = ix2 r l → v = branch m c r l) (by decide +kernel) (fun t hf y r l h => ?_) (ix2 r l) (Memref.isWhole_whole _) r l rfl
  obtain ⟨r', l', rfl⟩ : ∃ (r : Fin 256) (l : Fin 512), y = ix2 r l := ⟨y 0, y 1, by funext a; fin_cases a <;> rfl⟩
  have h' := (place12 t r' l').symm.trans h
  obtain rfl : row t r' = r := congrFun h' (0 : Fin 2)
  obtain rfl : l' = l := congrFun h' (1 : Fin 2)
  exact after12 m c t r' l'

/-- The state space model's input, chunk by chunk. -/
theorem final13 (h : Fin 128) (j : Fin 512) (s : Fin 128) : (dats m 0 c).arrAt 13 cfg0.N (ix3 h j s) = proj m c ⟨128 * (h : ℕ) + s, by omega⟩ ⟨1024 + j, by omega⟩ := by
  refine (dats m 0 c).arrAt_forall_of_covers 13 (fun i v => ∀ (h : Fin 128) (j : Fin 512) (s : Fin 128), i = ix3 h j s → v = proj m c ⟨128 * (h : ℕ) + s, by omega⟩ ⟨1024 + j, by omega⟩)
    (by decide +kernel) (fun t hf y h j s e => ?_) (ix3 h j s) (Memref.isWhole_whole _) h j s rfl
  obtain ⟨h', j', s', rfl⟩ : ∃ (h : Fin 2) (j : Fin 512) (s : Fin 128), y = ix3 h j s := ⟨y 0, y 1, y 2, by funext a; fin_cases a <;> rfl⟩
  have e' := (place13 t h' j' s').symm.trans e
  obtain rfl : (⟨t.val * 2 + h', by have := lt_of_lt_of_eq t.isLt N_0; omega⟩ : Fin 128) = h := congrFun e' (0 : Fin 3)
  obtain rfl : j' = j := congrFun e' (1 : Fin 3)
  obtain rfl : s' = s := congrFun e' (2 : Fin 3)
  refine (after13 m c t h' j' s').trans (congrArg (fun r => proj m c r _) (Fin.ext ?_))
  unfold row
  dsimp only
  omega

/-- The queries, on a head's own lanes. -/
theorem final14 (h : Fin 8) (r : Fin 16384) (l : Fin 64) : (dats m 0 c).arrAt 14 cfg0.N (ix4 0 h r ⟨l, by omega⟩) = proj m c r ⟨1536 + (64 * (h : ℕ) + l), by omega⟩ * eighth := by
  refine (dats m 0 c).arrAt_forall_of_covers 14 (fun i v => ∀ (h : Fin 8) (r : Fin 16384) (l : Fin 64), i = ix4 0 h r ⟨l, by omega⟩ → v = proj m c r ⟨1536 + (64 * (h : ℕ) + l), by omega⟩ * eighth)
    (by decide +kernel) (fun t hf y h r l e => ?_) (ix4 0 h r ⟨l, by omega⟩) (Memref.isWhole_whole _) h r l rfl
  obtain ⟨u, h', r', l', rfl⟩ : ∃ (u : Fin 1) (h : Fin 8) (r : Fin 256) (l : Fin 128), y = ix4 u h r l := ⟨y 0, y 1, y 2, y 3, by funext a; fin_cases a <;> rfl⟩
  obtain rfl : u = 0 := Subsingleton.elim _ _
  have e' := (place14 t h' r' l').symm.trans e
  obtain rfl : h' = h := congrFun e' (1 : Fin 4)
  obtain rfl : row t r' = r := congrFun e' (2 : Fin 4)
  obtain rfl : l' = ⟨l, by omega⟩ := congrFun e' (3 : Fin 4)
  exact after14 m c t h' r' l

/-- The keys, on a head's own lanes. -/
theorem final15 (r : Fin 16384) (h : Fin 8) (l : Fin 64) : (dats m 0 c).arrAt 15 cfg0.N (ix2 r ⟨128 * (h : ℕ) + l, by omega⟩) = proj m c r ⟨2048 + (64 * (h : ℕ) + l), by omega⟩ := by
  refine (dats m 0 c).arrAt_forall_of_covers 15 (fun i v => ∀ (r : Fin 16384) (h : Fin 8) (l : Fin 64), i = ix2 r ⟨128 * (h : ℕ) + l, by omega⟩ → v = proj m c r ⟨2048 + (64 * (h : ℕ) + l), by omega⟩)
    (by decide +kernel) (fun t hf y r h l e => ?_) (ix2 r ⟨128 * (h : ℕ) + l, by omega⟩) (Memref.isWhole_whole _) r h l rfl
  obtain ⟨r', l', rfl⟩ : ∃ (r : Fin 256) (l : Fin 1024), y = ix2 r l := ⟨y 0, y 1, by funext a; fin_cases a <;> rfl⟩
  have e' := (place15 t r' l').symm.trans e
  obtain rfl : row t r' = r := congrFun e' (0 : Fin 2)
  obtain rfl : l' = ⟨128 * (h : ℕ) + l, by omega⟩ := congrFun e' (1 : Fin 2)
  exact after15 m c t r' h l

/-- The values, transposed. -/
theorem final16 (j : Fin 512) (r : Fin 16384) : (dats m 0 c).arrAt 16 cfg0.N (ix3 0 j r) = proj m c r ⟨2560 + j, by omega⟩ := by
  refine (dats m 0 c).arrAt_forall_of_covers 16 (fun i v => ∀ (j : Fin 512) (r : Fin 16384), i = ix3 0 j r → v = proj m c r ⟨2560 + j, by omega⟩)
    (by decide +kernel) (fun t hf y j r e => ?_) (ix3 0 j r) (Memref.isWhole_whole _) j r rfl
  obtain ⟨u, j', r', rfl⟩ : ∃ (u : Fin 1) (j : Fin 512) (r : Fin 256), y = ix3 u j r := ⟨y 0, y 1, y 2, by funext a; fin_cases a <;> rfl⟩
  obtain rfl : u = 0 := Subsingleton.elim _ _
  have e' := (place16 t j' r').symm.trans e
  obtain rfl : j' = j := congrFun e' (1 : Fin 3)
  obtain rfl : row t r' = r := congrFun e' (2 : Fin 3)
  exact after16 m c t j' r'

end Cert.Inproj

end
-- ==== Proof.InprojResults.lean ====
/-
  What the results of the in-projection call hold once the reshapes that follow it are done.
-/
module

public import proofs.«01_k».proof.Proof.InprojArray

@[expose] public section

set_option maxRecDepth 16384

noncomputable section

namespace Cert.Inproj

open Idealize.ShloMosaic Idealize.ShloMosaic.TcCoe
open Cert.Kernel4Ideal Cert.Kernel4Ideal.Gen

variable (m : (ℓ : Loc nD τ sig) → Buf (Elt Ideal) ℓ) (c : Dev nD)

/-! ## What the call's results hold, after the reshapes that follow it -/

/-- An array a window stages, where the operations after the region begin. -/
theorem at_exit (w : Fin cfg0.W) : Pipeline.withArrays spec0 c (V0 m c) (fun w => (dats m 0 c).arrAt w cfg0.N) (Proc.devRef .tc (Pipeline.arrRef spec0 w)) = (dats m 0 c).arrAt w cfg0.N :=
  Pipeline.withArrays_arr spec0 launch0.win.arr_inj c _ _ w

set_option maxHeartbeats 1600000 in
/-- The gating branch. -/
theorem result_gating (r : Fin 16384) (l : Fin 512) : Pipeline.afterTail₀ cfgs (dats m) 0 (V0 m) [hostOps1] c main_v61 (ix2 r l) = branch m c r l := by
  unfold Pipeline.afterTail₀
  simp only [List.flatten_cons, List.flatten_nil, List.append_nil]
  after_results
  have e := at_exit m c 12
  pointwise
  exact (congrFun e (ix2 r l)).trans (final12 m c r l)

set_option maxHeartbeats 1600000 in
/-- The state space model's input. -/
theorem result_z (r : Fin 16384) (k : Fin 512) : Pipeline.afterTail₀ cfgs (dats m) 0 (V0 m) [hostOps1] c main_v63 (ix2 r k) = proj m c r ⟨1024 + k, by omega⟩ := by
  unfold Pipeline.afterTail₀
  simp only [List.flatten_cons, List.flatten_nil, List.append_nil]
  after_results
  have e := at_exit m c 13
  pointwise
  exact (congrFun e (ix3 ⟨(r : ℕ) / 128, by omega⟩ k ⟨(r : ℕ) % 128, by omega⟩)).trans
    ((final13 m c ⟨(r : ℕ) / 128, by omega⟩ k ⟨(r : ℕ) % 128, by omega⟩).trans (congrArg (fun r => proj m c r ⟨1024 + k, by omega⟩) (Fin.ext (Nat.div_add_mod (r : ℕ) 128))))

set_option maxHeartbeats 1600000 in
/-- The queries. -/
theorem result_q (r : Fin 16384) (k : Fin 512) : Pipeline.afterTail₀ cfgs (dats m) 0 (V0 m) [hostOps1] c main_v67 (ix2 r k) = proj m c r ⟨1536 + k, by omega⟩ * eighth := by
  unfold Pipeline.afterTail₀
  simp only [List.flatten_cons, List.flatten_nil, List.append_nil]
  after_results
  have e := at_exit m c 14
  pointwise
  exact (congrFun e (ix4 0 ⟨(k : ℕ) / 64, by omega⟩ r ⟨(k : ℕ) % 64, by omega⟩)).trans
    ((final14 m c ⟨(k : ℕ) / 64, by omega⟩ r ⟨(k : ℕ) % 64, by omega⟩).trans
      (congrArg (fun k => proj m c r k * eighth) (Fin.ext (congrArg (1536 + ·) (Nat.div_add_mod (k : ℕ) 64)))))

set_option maxHeartbeats 1600000 in
/-- The keys. -/
theorem result_k (r : Fin 16384) (k : Fin 512) : Pipeline.afterTail₀ cfgs (dats m) 0 (V0 m) [hostOps1] c main_v71 (ix2 r k) = proj m c r ⟨2048 + k, by omega⟩ := by
  unfold Pipeline.afterTail₀
  simp only [List.flatten_cons, List.flatten_nil, List.append_nil]
  after_results
  have e := at_exit m c 15
  pointwise
  have i : (⟨(k : ℕ) / 64 * 128 + (k : ℕ) % 64, by omega⟩ : Fin 1024) = ⟨128 * ((k : ℕ) / 64) + (k : ℕ) % 64, by omega⟩ := Fin.ext (by dsimp only; omega)
  exact ((congrFun e (ix2 r ⟨(k : ℕ) / 64 * 128 + (k : ℕ) % 64, by omega⟩)).trans (congrArg (fun i => (dats m 0 c).arrAt 15 cfg0.N (ix2 r i)) i)).trans
    ((final15 m c r ⟨(k : ℕ) / 64, by omega⟩ ⟨(k : ℕ) % 64, by omega⟩).trans
      (congrArg (proj m c r) (Fin.ext (congrArg (2048 + ·) (Nat.div_add_mod (k : ℕ) 64)))))

set_option maxHeartbeats 1600000 in
/-- The values. -/
theorem result_v (r : Fin 16384) (k : Fin 512) : Pipeline.afterTail₀ cfgs (dats m) 0 (V0 m) [hostOps1] c main_v74 (ix2 r k) = proj m c r ⟨2560 + k, by omega⟩ := by
  unfold Pipeline.afterTail₀
  simp only [List.flatten_cons, List.flatten_nil, List.append_nil]
  after_results
  have e := at_exit m c 16
  pointwise
  exact (congrFun e (ix3 0 k r)).trans (final16 m c k r)

end Cert.Inproj

end
-- ==== Proof.InprojValue.lean ====
/-
  The in-projection call's run, with its results.
-/
module

public import proofs.«01_k».proof.Proof.InprojRun
public import proofs.«01_k».proof.Proof.InprojResults

@[expose] public section

set_option maxRecDepth 16384

noncomputable section

namespace Cert.Inproj

open Idealize.ShloMosaic Idealize.ShloMosaic.TcCoe Idealize.SL.Sem
open Cert.Kernel4Ideal Cert.Kernel4Ideal.Gen

variable (m : (ℓ : Loc nD τ sig) → Buf (Elt Ideal) ℓ) (ρ : Dev nD → PrngReg)

/-- What a buffer holds once the call and the operations after it are done. -/
abbrev final (c : Dev nD) (b : Ref sig .tc) : Buf (Elt Ideal) ((c : Thread nD τ).loc b) := Pipeline.afterTail₀ cfgs (dats m) 0 (V0 m) [hostOps1] c b

/-- The run's results, and the arguments unchanged. -/
theorem results : θ_run defs (onTc (τ := τ) (main (F := Ideal))) ⟨m, fun _ => 0, ρ⟩ (fun r => ∀ c : Dev nD,
      r.2.mem ((c.tc : Thread nD τ).loc main_v61) = final m c main_v61
      ∧ r.2.mem ((c.tc : Thread nD τ).loc main_v63) = final m c main_v63
      ∧ r.2.mem ((c.tc : Thread nD τ).loc main_v67) = final m c main_v67
      ∧ r.2.mem ((c.tc : Thread nD τ).loc main_v71) = final m c main_v71
      ∧ r.2.mem ((c.tc : Thread nD τ).loc main_v74) = final m c main_v74
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    have e := frame_of m (dats m) (A_eq m) r h.1 c
    have f := (h.1 c).2
    exact ⟨f main_v61 (Pipeline.mem_restRefs_of _ (by decide) (by decide)), f main_v63 (Pipeline.mem_restRefs_of _ (by decide) (by decide)),
      f main_v67 (Pipeline.mem_restRefs_of _ (by decide) (by decide)), f main_v71 (Pipeline.mem_restRefs_of _ (by decide) (by decide)),
      f main_v74 (Pipeline.mem_restRefs_of _ (by decide) (by decide)),
      e _ (by simp [arguments]), e _ (by simp [arguments]), e _ (by simp [arguments]), e _ (by simp [arguments]), e _ (by simp [arguments]), e _ (by simp [arguments])⟩) (run m ρ)

end Cert.Inproj

end
-- ==== Proof.InprojReference.lean ====
/-
  The reference's results in terms of its arguments, against the call's.
-/
module

public import proofs.«01_k».proof.Proof.InprojResults
public import proofs.«01_k».proof.Proof.InprojAlgebra

@[expose] public section

set_option maxRecDepth 16384

noncomputable section

namespace Cert.Inproj

open Idealize.ShloMosaic Idealize.ShloMosaic.TcCoe

/-- The reference's projection. -/
def refProj (m : (ℓ : Loc Cert.Reference4Ideal.nD Cert.Reference4Ideal.τ Cert.Reference4Ideal.sig) → Buf (Elt Ideal) ℓ) (c : Dev Cert.Reference4Ideal.nD) : Vec Ideal Cert.Reference4Ideal.S16384x3072 .f32 :=
  extractStridedSlice (s := Cert.Reference4Ideal.S16384x6144) Cert.Reference4Ideal.S16384x3072 ![0, 0] (Host.dotGeneral (F := Ideal) (φ₁ := .f32) (φ₂ := .f32) Cert.Reference4Ideal.dot_S16384x1024_S1024x6144_S16384x6144_1_0_0_1_n_n none
    (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)))
    Cert.Reference4Ideal.Gen.slices_S16384x6144_S16384x3072_0_0

/-- One element of it. -/
theorem refProj_apply (m : (ℓ : Loc Cert.Reference4Ideal.nD Cert.Reference4Ideal.τ Cert.Reference4Ideal.sig) → Buf (Elt Ideal) ℓ) (c : Dev Cert.Reference4Ideal.nD) (r : Fin 16384) (k : Fin 3072) :
    refProj m c (ix2 r k) = ∑ p : Fin 1024, HMul.hMul (α := EReal) (β := EReal)
      (m ((c.tc : Thread Cert.Reference4Ideal.nD Cert.Reference4Ideal.τ).loc Cert.Reference4Ideal.main_arg0) (ix2 r p))
      (m ((c.tc : Thread Cert.Reference4Ideal.nD Cert.Reference4Ideal.τ).loc Cert.Reference4Ideal.main_arg1) (ix2 p ⟨k, by omega⟩)) := by
  unfold refProj
  pointwise

/-- It is the call's, where the two take the same arguments. -/
theorem refProj_eq (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (r : Fin 16384) (k : Fin 3072) : refProj m' c (ix2 r k) = proj m c r ⟨k, by omega⟩ := by
  refine (refProj_apply m' c r k).trans ?_
  erw [h0, h1]
  rfl

/-- A column band of the projection. -/
theorem band (x : Vec Ideal Cert.Reference4Ideal.S16384x3072 .f32) (o : ℕ) (hs : Cert.Reference4Ideal.S16384x3072.Slices ![0, o] Cert.Reference4Ideal.S16384x512) (ho : o + 512 ≤ 3072)
    (r : Fin 16384) (k : Fin 512) :
    extractStridedSlice Cert.Reference4Ideal.S16384x512 ![0, o] x hs (ix2 r k) = x (ix2 r ⟨o + k, by omega⟩) := by
  pointwise

/-- The scaled queries. -/
theorem scaled (x : Vec Ideal Cert.Reference4Ideal.S16384x512 .f32) (i : Cert.Reference4Ideal.S16384x512.Idx) :
    mulf (F := Ideal) x (broadcastInDim Cert.Reference4Ideal.S16384x512 ![] Cert.Reference4Ideal.Gen.bcast_S_S16384x512 (constant (F := Ideal) Cert.Reference4Ideal.S_ .f32 0x3E000000#32)) i = HMul.hMul (α := EReal) (β := EReal) (x i) eighth := by
  pointwise

end Cert.Inproj

end
-- ==== Proof.lean ====
/-
  The claims. The row gather: each program's frame, and that the kernel and the reference give the same rows, word for
  word at the float words and element for element at the extended reals. The feed-forward calls, the
  merge call and the in-projection call: each program's frame, and that kernel and reference agree at the extended
  reals.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.Reference
public import proofs.«01_k».proof.Proof.Gen.ReferenceIdeal
public import proofs.«01_k».proof.Proof.Gen.ReferenceIdeal.Run
public import proofs.«01_k».proof.Proof.Gen.Pre_dst_in_rows
public import proofs.«01_k».proof.Proof.Value
public import proofs.«01_k».proof.Proof.Gen.Kernel2
public import proofs.«01_k».proof.Proof.FfnRun
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Frame
public import proofs.«01_k».proof.Proof.Gen.Kernel3Ideal.Value
public import proofs.«01_k».proof.Proof.MergeArray
public import proofs.«01_k».proof.Proof.Gen.Reference3Ideal
public import proofs.«01_k».proof.Proof.Gen.Reference3Ideal.Run
public import proofs.«01_k».proof.Proof.Gen.Kernel4
public import proofs.«01_k».proof.Proof.InprojValue
public import proofs.«01_k».proof.Proof.InprojReference
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Reference4Ideal
public import proofs.«01_k».proof.Proof.Gen.Reference4Ideal.Run
public import Idealize.ShloMosaic.Lib.Quiescent
public import Idealize.ShloMosaic.Adequacy
public import Idealize.ShloMosaic.Init

@[expose] public section

noncomputable section

namespace Cert.Proof

open Idealize.ShloMosaic Idealize.SL.Sem RowGather

/-- The idealized kernel's frame. -/
theorem frame_kernelIdeal : Cert.quiescent_KernelIdeal := fun m g h =>
  (θ_run Cert.KernelIdeal.defs _ _).mono (fun _ hq => ⟨fun c => (hq.1 c).2, hq.2⟩) (run_main (F := Ideal) m g (preOK_of_pre m h))
/-- The kernel's frame: its program is the idealized one's text read at the float words. -/
theorem frame_kernel : Cert.quiescent_Kernel := fun m g h =>
  (θ_run Cert.KernelIdeal.defs _ _).mono (fun _ hq => ⟨fun c => (hq.1 c).2, hq.2⟩) (run_main (F := Bits) m g (preOK_of_pre m h))

/-- The reference's run ends with the arguments unchanged and, the program having no semaphore, every counter at zero. -/
theorem frame_referenceIdeal : Cert.quiescent_ReferenceIdeal := fun m g _ =>
  (θ_run Cert.ReferenceIdeal.defs _ _).mono (fun r hq => ⟨fun c => (hq c).2, sem_eq_zero_of_no_sems (by decide) r.2⟩)
    (Cert.ReferenceIdeal.Value.run (F := Ideal) m g)
theorem frame_reference : Cert.quiescent_Reference := fun m g _ =>
  (θ_run Cert.ReferenceIdeal.defs _ _).mono (fun r hq => ⟨fun c => (hq c).2, sem_eq_zero_of_no_sems (by decide) r.2⟩)
    (Cert.ReferenceIdeal.Value.run (F := Bits) m g)

/-- The same words at the float words. -/
theorem bitexact : Cert.bitexact_Kernel_Reference := by
  intro m g m' g' h ha
  have hp := preOK_of_pre (F := Bits) m h
  refine ⟨fun c => gathered (F := Bits) m c, (θ_run Cert.KernelIdeal.defs _ _).mono (fun _ hq => hq.1) (run_main (F := Bits) m g hp),
    (θ_run Cert.ReferenceIdeal.defs _ _).mono (fun r hq c => ⟨(hq c).1.trans ?_, (hq c).2⟩) (Cert.ReferenceIdeal.Value.run (F := Bits) m' g')⟩
  erw [(ha c).1, (ha c).2]
  exact gather_eq (F := Bits) m hp c

/-- The same elements at the extended reals. -/
theorem algebraic : Cert.algebraic_KernelIdeal_ReferenceIdeal := by
  intro m g m' g' h ha
  have hp := preOK_of_pre (F := Ideal) m h
  refine ⟨fun c => gathered (F := Ideal) m c, (θ_run Cert.KernelIdeal.defs _ _).mono (fun _ hq => hq.1) (run_main (F := Ideal) m g hp),
    (θ_run Cert.ReferenceIdeal.defs _ _).mono (fun r hq c => ⟨(hq c).1.trans ?_, (hq c).2⟩) (Cert.ReferenceIdeal.Value.run (F := Ideal) m' g')⟩
  erw [(ha c).1, (ha c).2]
  exact gather_eq (F := Ideal) m hp c

/-! ## The feed-forward calls -/

/-- The frame of the two feed-forward calls at the extended reals. -/
theorem frame_kernel2Ideal : Cert.quiescent_Kernel2Ideal := fun m g _ => Cert.Kernel2Ideal.Gen.frame (F := Ideal) m g

/-- The two texts give each call the same tile function. -/
theorem tiles_same : Cert.Kernel2.defs₀ (F := Bits) = Cert.Kernel2Ideal.defs₀ (F := Bits) := by
  unfold Cert.Kernel2.defs₀ Cert.Kernel2Ideal.defs₀
  refine congrArg _ (funext fun l => funext fun a => ?_)
  match l, a with
  | 0, (t, s) => rfl
  | 1, (t, s) => rfl

/-- The frame at the float words: the same run, the text being the same. -/
theorem frame_kernel2 : Cert.quiescent_Kernel2 := fun m g _ => by
  have h := Cert.Kernel2Ideal.Gen.frame (F := Bits) m g
  unfold Cert.Kernel2Ideal.defs at h
  rw [← tiles_same] at h
  exact h

/-- The reference's run ends with the arguments unchanged and every counter at zero. -/
theorem frame_reference2Ideal : Cert.quiescent_Reference2Ideal := fun m g _ =>
  (θ_run Cert.Reference2Ideal.defs _ _).mono (fun r hq => ⟨fun c => (hq c).2, sem_eq_zero_of_no_sems (by decide) r.2⟩)
    (Cert.Reference2Ideal.Value.run (F := Ideal) m g)

/-- Both sides are the same function of a row, read at each row and column. -/
theorem algebraic2 : Cert.algebraic_Kernel2Ideal_Reference2Ideal := by
  intro m g m' g' _ ha
  refine ⟨fun c => Cert.Kernel2Ideal.Gen.W4 m g c (Proc.devRef .tc Cert.Kernel2Ideal.main_v6), Cert.Ffn.run m g,
    (θ_run Cert.Reference2Ideal.defs _ _).mono (fun r hq c => ⟨(hq c).1.trans ?_, (hq c).2⟩) (Cert.Reference2Ideal.Value.run (F := Ideal) m' g')⟩
  refine funext fun i => ?_
  obtain ⟨a, l, rfl⟩ : ∃ (a : Fin 32768) (l : Fin 1024), i = ix2 a l := ⟨i 0, i 1, by funext x; fin_cases x <;> rfl⟩
  refine (Cert.Ffn.ref_apply m' c a l).trans ((Cert.Ffn.result_apply m g c a l).trans ?_).symm
  obtain ⟨h0, h1, h2, h3, h4, h5, h6⟩ := ha c
  erw [h0, h1, h2, h3, h4, h5, h6]
  rfl

/-! ## The merge call -/

/-- The frame of the merge call at the extended reals. -/
theorem frame_kernel3Ideal : Cert.quiescent_Kernel3Ideal := fun m g _ => Cert.Kernel3Ideal.Gen.frame (F := Ideal) m g

/-- The two texts give the call the same tile function. -/
theorem merge_tile_same : Cert.Kernel3.defs₀ (F := Bits) = Cert.Kernel3Ideal.defs₀ (F := Bits) := by
  unfold Cert.Kernel3.defs₀ Cert.Kernel3Ideal.defs₀
  refine congrArg _ (funext fun l => funext fun a => ?_)
  match l, a with
  | 0, (t, s) => rfl

/-- The frame at the float words: the same run, the text being the same. -/
theorem frame_kernel3 : Cert.quiescent_Kernel3 := fun m g _ => by
  have h := Cert.Kernel3Ideal.Gen.frame (F := Bits) m g
  unfold Cert.Kernel3Ideal.defs at h
  rw [← merge_tile_same] at h
  exact h

/-- The reference's run ends with the arguments unchanged and every counter at zero. -/
theorem frame_reference3Ideal : Cert.quiescent_Reference3Ideal := fun m g _ =>
  (θ_run Cert.Reference3Ideal.defs _ _).mono (fun r hq => ⟨fun c => (hq c).2, sem_eq_zero_of_no_sems (by decide) r.2⟩)
    (Cert.Reference3Ideal.Value.run (F := Ideal) m g)

/-- Both sides are the same function of a row, read at each row and column. -/
theorem algebraic3 : Cert.algebraic_Kernel3Ideal_Reference3Ideal := by
  intro m g m' g' _ ha
  refine ⟨fun c => (Cert.Kernel3Ideal.Gen.dats m 0 c).arrAt 13 Cert.Kernel3Ideal.cfg0.N, Cert.Kernel3Ideal.Value.run_blocks (F := Ideal) m g,
    (θ_run Cert.Reference3Ideal.defs _ _).mono (fun r hq c => ⟨(hq c).1.trans ?_, (hq c).2⟩) (Cert.Reference3Ideal.Value.run (F := Ideal) m' g')⟩
  refine funext fun i => ?_
  obtain ⟨a, l, rfl⟩ : ∃ (a : Fin 16384) (l : Fin 1024), i = ix2 a l := ⟨i 0, i 1, by funext x; fin_cases x <;> rfl⟩
  refine (Cert.Merge.ref_apply m' c a l).trans ((Cert.Merge.result_apply m c a l).trans ?_).symm
  obtain ⟨h0, h1, h2, h3, h4, h5, h6, h7, h8, h9, h10, h11, h12⟩ := ha c
  erw [h0, h1, h2, h3, h4, h5, h6, h7, h8, h9, h10, h11, h12]

/-! ## The in-projection call -/

/-- The frame of the in-projection call at the extended reals. -/
theorem frame_kernel4Ideal : Cert.quiescent_Kernel4Ideal := fun m g _ => Cert.Inproj.frame (F := Ideal) m g

open Idealize.ShloMosaic.Tactic in
/-- The two texts give the call the same tile function. -/
theorem inproj_tile_same : Cert.Kernel4.defs₀ (F := Bits) = Cert.Kernel4Ideal.defs₀ (F := Bits) := by
  sl_kernel_rfl

open Idealize.ShloMosaic.Tactic in
/-- The two texts are the same host code. -/
theorem inproj_main_same : Cert.Kernel4.main (F := Bits) = Cert.Kernel4Ideal.main (F := Bits) := by
  sl_kernel_rfl

set_option maxHeartbeats 8000000 in
/-- The frame at the float words: the same run, the text being the same. -/
theorem frame_kernel4 : Cert.quiescent_Kernel4 := fun m g _ => by
  have h := Cert.Inproj.frame (F := Bits) m g
  unfold Cert.Kernel4Ideal.defs at h
  rw [← inproj_tile_same, ← inproj_main_same] at h
  unfold Cert.Kernel4.defs
  exact h

/-- The reference's run ends with the arguments unchanged and every counter at zero. -/
theorem frame_reference4Ideal : Cert.quiescent_Reference4Ideal := fun m g _ =>
  (θ_run Cert.Reference4Ideal.defs _ _).mono (fun r hq => ⟨fun c => (hq c).2.2.2.2.2, sem_eq_zero_of_no_sems (by decide) r.2⟩)
    (Cert.Reference4Ideal.Value.run (F := Ideal) m g)

/-- A row and a column of a result. -/
theorem row_column (i : Cert.Kernel4Ideal.S16384x512.Idx) : ∃ (r : Fin 16384) (k : Fin 512), i = ix2 r k := ⟨i 0, i 1, by funext x; fin_cases x <;> rfl⟩

/-- Both sides are the same functions of the arguments, read at each row and column. -/
theorem algebraic4 : Cert.algebraic_Kernel4Ideal_Reference4Ideal := by
  intro m g m' g' _ ha
  refine ⟨fun c => Cert.Inproj.final m c _, fun c => Cert.Inproj.final m c _, fun c => Cert.Inproj.final m c _, fun c => Cert.Inproj.final m c _, fun c => Cert.Inproj.final m c _,
    Cert.Inproj.results m g,
    (θ_run Cert.Reference4Ideal.defs _ _).mono (fun r hq c => ⟨(hq c).1.trans ?_, (hq c).2.1.trans ?_, (hq c).2.2.1.trans ?_, (hq c).2.2.2.1.trans ?_, (hq c).2.2.2.2.1.trans ?_, (hq c).2.2.2.2.2⟩)
      (Cert.Reference4Ideal.Value.run (F := Ideal) m' g')⟩
  all_goals
    obtain ⟨h0, h1, h2, h3, h4, h5⟩ := ha c
    refine funext fun i => ?_
    obtain ⟨r, k, rfl⟩ := row_column i
  · refine (Cert.Inproj.ref_gating m' c r k).trans ((Cert.Inproj.result_gating m c r k).trans ?_).symm
    unfold Cert.Inproj.branch
    erw [h0, h1, h2, h3, h4, h5]
  · exact (Cert.Inproj.band _ 1024 _ (by omega) r k).trans ((Cert.Inproj.refProj_eq m m' c h0 h1 r _).trans (Cert.Inproj.result_z m c r k).symm)
  · exact ((Cert.Inproj.scaled _ _).trans (congrArg (fun x => HMul.hMul (α := EReal) (β := EReal) x Cert.Inproj.eighth)
      ((Cert.Inproj.band _ 1536 _ (by omega) r k).trans (Cert.Inproj.refProj_eq m m' c h0 h1 r _)))).trans (Cert.Inproj.result_q m c r k).symm
  · exact (Cert.Inproj.band _ 2048 _ (by omega) r k).trans ((Cert.Inproj.refProj_eq m m' c h0 h1 r _).trans (Cert.Inproj.result_k m c r k).symm)
  · exact (Cert.Inproj.band _ 2560 _ (by omega) r k).trans ((Cert.Inproj.refProj_eq m m' c h0 h1 r _).trans (Cert.Inproj.result_v m c r k).symm)

theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_dst_in_rows.Gen.facts,
    frame_kernel, frame_kernelIdeal, frame_referenceIdeal, fun m g _ => frame_referenceIdeal m g trivial, frame_reference,
    frame_kernel2, frame_kernel2Ideal, frame_reference2Ideal, frame_kernel3, frame_kernel3Ideal, frame_reference3Ideal,
    frame_kernel4, frame_kernel4Ideal, frame_reference4Ideal,
    trivial, bitexact, algebraic, trivial, algebraic2, trivial, algebraic3, trivial, algebraic4⟩

end Cert.Proof

end
